-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x128x48000 : Shape := ⟨3, ![8, 128, 48000]⟩
abbrev S49152000 : Shape := ⟨1, ![49152000]⟩
abbrev S16384000 : Shape := ⟨1, ![16384000]⟩
abbrev S48000 : Shape := ⟨1, ![48000]⟩
abbrev S16000 : Shape := ⟨1, ![16000]⟩
abbrev S2 : Shape := ⟨1, ![2]⟩
abbrev S1 : Shape := ⟨1, ![1]⟩
abbrev S_ : Shape := ⟨0, ![]⟩
abbrev S16 : Shape := ⟨1, ![16]⟩
abbrev S8x128x16000 : Shape := ⟨3, ![8, 128, 16000]⟩

abbrev nBuf : Table → Nat
  | .hbm => 4
  | .local .scVector .vmem => 4
  | _ => 0

abbrev bufTy : (tb : Table) → Fin (nBuf tb) → BufTy
  | .hbm, ⟨0, _⟩ => ⟨S8x128x48000, .f32⟩
  | .hbm, ⟨1, _⟩ => ⟨S49152000, .f32⟩
  | .hbm, ⟨2, _⟩ => ⟨S16384000, .f32⟩
  | .hbm, ⟨3, _⟩ => ⟨S8x128x16000, .f32⟩
  | .local .scVector .vmem, ⟨0, _⟩ => ⟨S48000, .f32⟩
  | .local .scVector .vmem, ⟨1, _⟩ => ⟨S48000, .f32⟩
  | .local .scVector .vmem, ⟨2, _⟩ => ⟨S16000, .f32⟩
  | .local .scVector .vmem, ⟨3, _⟩ => ⟨S16000, .f32⟩
  | _, _ => ⟨S8x128x48000, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v0_scv : Ref sig .scVector := ⟨.hbm, 1, rfl⟩
abbrev main_v1_scv : Ref sig .scVector := ⟨.hbm, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1536000_i32 : BitVec 32 := 1536000#32
  let v2 : BitVec 32 := Scalar.muli v1 c1536000_i32
  let v4 : BitVec 32 := Scalar.addi v2 c0_i32
  ![v4.toNat]
@[reducible] def k0_t1_loop : Scf.Loop 32 :=
  let c0_i32_2 : BitVec 32 := 0#32
  let c125_i32 : BitVec 32 := 125#32
  let v21 : BitVec 32 := Scalar.addi c0_i32_2 c125_i32
  let c1_i32_3 : BitVec 32 := 1#32
  ⟨c0_i32_2, v21, c1_i32_3⟩

def k0_chk1 (v742 : IVec S16 32) : Prop :=
  (∀ a x, ((![v742] : Fin 1 → IVec S16 32) a x).toNat < S48000.size a)
theorem k0_idx1_inb : ∀ (v742 : IVec S16 32) (k0_hw1 : k0_chk1 v742), ∀ a x, ((![v742] : Fin 1 → IVec S16 32) a x).toNat < S48000.size a := fun v742 k0_hw1 => k0_hw1
def k0_off2 (k0_t1 : Fin k0_t1_loop.trips) : Fin 1 → Nat :=
  let c0_i32_2 : BitVec 32 := 0#32
  let c1_i32_3 : BitVec 32 := 1#32
  let arg10 : BitVec 32 := Scf.iv c0_i32_2 c1_i32_3 k0_t1
  let c128_i32 : BitVec 32 := 128#32
  let v740 : BitVec 32 := Scalar.muli arg10 c128_i32
  let c0_i32_297 : BitVec 32 := 0#32
  let v744 : BitVec 32 := Scalar.addi v740 c0_i32_297
  let v745 : Index := Scalar.indexCast v744
  ![v745.toNat]

def k0_chk2 (v748 : IVec S16 32) : Prop :=
  (∀ a x, ((![v748] : Fin 1 → IVec S16 32) a x).toNat < S48000.size a)
theorem k0_idx2_inb : ∀ (v748 : IVec S16 32) (k0_hw2 : k0_chk2 v748), ∀ a x, ((![v748] : Fin 1 → IVec S16 32) a x).toNat < S48000.size a := fun v748 k0_hw2 => k0_hw2
def k0_off3 (k0_t1 : Fin k0_t1_loop.trips) : Fin 1 → Nat :=
  let c0_i32_2 : BitVec 32 := 0#32
  let c1_i32_3 : BitVec 32 := 1#32
  let arg10 : BitVec 32 := Scf.iv c0_i32_2 c1_i32_3 k0_t1
  let c128_i32 : BitVec 32 := 128#32
  let v740 : BitVec 32 := Scalar.muli arg10 c128_i32
  let c16_i32 : BitVec 32 := 16#32
  let v750 : BitVec 32 := Scalar.addi v740 c16_i32
  let v751 : Index := Scalar.indexCast v750
  ![v751.toNat]

def k0_chk3 (v754 : IVec S16 32) : Prop :=
  (∀ a x, ((![v754] : Fin 1 → IVec S16 32) a x).toNat < S48000.size a)
theorem k0_idx3_inb : ∀ (v754 : IVec S16 32) (k0_hw3 : k0_chk3 v754), ∀ a x, ((![v754] : Fin 1 → IVec S16 32) a x).toNat < S48000.size a := fun v754 k0_hw3 => k0_hw3
def k0_off4 (k0_t1 : Fin k0_t1_loop.trips) : Fin 1 → Nat :=
  let c0_i32_2 : BitVec 32 := 0#32
  let c1_i32_3 : BitVec 32 := 1#32
  let arg10 : BitVec 32 := Scf.iv c0_i32_2 c1_i32_3 k0_t1
  let c128_i32 : BitVec 32 := 128#32
  let v740 : BitVec 32 := Scalar.muli arg10 c128_i32
  let c32_i32 : BitVec 32 := 32#32
  let v756 : BitVec 32 := Scalar.addi v740 c32_i32
  let v757 : Index := Scalar.indexCast v756
  ![v757.toNat]

def k0_chk4 (v760 : IVec S16 32) : Prop :=
  (∀ a x, ((![v760] : Fin 1 → IVec S16 32) a x).toNat < S48000.size a)
theorem k0_idx4_inb : ∀ (v760 : IVec S16 32) (k0_hw4 : k0_chk4 v760), ∀ a x, ((![v760] : Fin 1 → IVec S16 32) a x).toNat < S48000.size a := fun v760 k0_hw4 => k0_hw4
def k0_off5 (k0_t1 : Fin k0_t1_loop.trips) : Fin 1 → Nat :=
  let c0_i32_2 : BitVec 32 := 0#32
  let c1_i32_3 : BitVec 32 := 1#32
  let arg10 : BitVec 32 := Scf.iv c0_i32_2 c1_i32_3 k0_t1
  let c128_i32 : BitVec 32 := 128#32
  let v740 : BitVec 32 := Scalar.muli arg10 c128_i32
  let c48_i32_298 : BitVec 32 := 48#32
  let v762 : BitVec 32 := Scalar.addi v740 c48_i32_298
  let v763 : Index := Scalar.indexCast v762
  ![v763.toNat]

def k0_chk5 (v766 : IVec S16 32) : Prop :=
  (∀ a x, ((![v766] : Fin 1 → IVec S16 32) a x).toNat < S48000.size a)
theorem k0_idx5_inb : ∀ (v766 : IVec S16 32) (k0_hw5 : k0_chk5 v766), ∀ a x, ((![v766] : Fin 1 → IVec S16 32) a x).toNat < S48000.size a := fun v766 k0_hw5 => k0_hw5
def k0_off6 (k0_t1 : Fin k0_t1_loop.trips) : Fin 1 → Nat :=
  let c0_i32_2 : BitVec 32 := 0#32
  let c1_i32_3 : BitVec 32 := 1#32
  let arg10 : BitVec 32 := Scf.iv c0_i32_2 c1_i32_3 k0_t1
  let c128_i32 : BitVec 32 := 128#32
  let v740 : BitVec 32 := Scalar.muli arg10 c128_i32
  let c64_i32 : BitVec 32 := 64#32
  let v768 : BitVec 32 := Scalar.addi v740 c64_i32
  let v769 : Index := Scalar.indexCast v768
  ![v769.toNat]

def k0_chk6 (v772 : IVec S16 32) : Prop :=
  (∀ a x, ((![v772] : Fin 1 → IVec S16 32) a x).toNat < S48000.size a)
theorem k0_idx6_inb : ∀ (v772 : IVec S16 32) (k0_hw6 : k0_chk6 v772), ∀ a x, ((![v772] : Fin 1 → IVec S16 32) a x).toNat < S48000.size a := fun v772 k0_hw6 => k0_hw6
def k0_off7 (k0_t1 : Fin k0_t1_loop.trips) : Fin 1 → Nat :=
  let c0_i32_2 : BitVec 32 := 0#32
  let c1_i32_3 : BitVec 32 := 1#32
  let arg10 : BitVec 32 := Scf.iv c0_i32_2 c1_i32_3 k0_t1
  let c128_i32 : BitVec 32 := 128#32
  let v740 : BitVec 32 := Scalar.muli arg10 c128_i32
  let c80_i32 : BitVec 32 := 80#32
  let v774 : BitVec 32 := Scalar.addi v740 c80_i32
  let v775 : Index := Scalar.indexCast v774
  ![v775.toNat]

def k0_chk7 (v778 : IVec S16 32) : Prop :=
  (∀ a x, ((![v778] : Fin 1 → IVec S16 32) a x).toNat < S48000.size a)
theorem k0_idx7_inb : ∀ (v778 : IVec S16 32) (k0_hw7 : k0_chk7 v778), ∀ a x, ((![v778] : Fin 1 → IVec S16 32) a x).toNat < S48000.size a := fun v778 k0_hw7 => k0_hw7
def k0_off8 (k0_t1 : Fin k0_t1_loop.trips) : Fin 1 → Nat :=
  let c0_i32_2 : BitVec 32 := 0#32
  let c1_i32_3 : BitVec 32 := 1#32
  let arg10 : BitVec 32 := Scf.iv c0_i32_2 c1_i32_3 k0_t1
  let c128_i32 : BitVec 32 := 128#32
  let v740 : BitVec 32 := Scalar.muli arg10 c128_i32
  let c96_i32_299 : BitVec 32 := 96#32
  let v780 : BitVec 32 := Scalar.addi v740 c96_i32_299
  let v781 : Index := Scalar.indexCast v780
  ![v781.toNat]

def k0_chk8 (v784 : IVec S16 32) : Prop :=
  (∀ a x, ((![v784] : Fin 1 → IVec S16 32) a x).toNat < S48000.size a)
theorem k0_idx8_inb : ∀ (v784 : IVec S16 32) (k0_hw8 : k0_chk8 v784), ∀ a x, ((![v784] : Fin 1 → IVec S16 32) a x).toNat < S48000.size a := fun v784 k0_hw8 => k0_hw8
def k0_off9 (k0_t1 : Fin k0_t1_loop.trips) : Fin 1 → Nat :=
  let c0_i32_2 : BitVec 32 := 0#32
  let c1_i32_3 : BitVec 32 := 1#32
  let arg10 : BitVec 32 := Scf.iv c0_i32_2 c1_i32_3 k0_t1
  let c128_i32 : BitVec 32 := 128#32
  let v740 : BitVec 32 := Scalar.muli arg10 c128_i32
  let c112_i32 : BitVec 32 := 112#32
  let v786 : BitVec 32 := Scalar.addi v740 c112_i32
  let v787 : Index := Scalar.indexCast v786
  ![v787.toNat]
def k0_off10 (i : grid0.Coords) (c0_i32_5 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512000_i32 : BitVec 32 := 512000#32
  let v3 : BitVec 32 := Scalar.muli v1 c512000_i32
  let v23 : BitVec 32 := Scalar.addi v3 c0_i32_5
  ![v23.toNat]
@[reducible] def k0_t2_loop : Scf.Loop 32 :=
  let c0_i32_10 : BitVec 32 := 0#32
  let c125_i32_11 : BitVec 32 := 125#32
  let v40 : BitVec 32 := Scalar.addi c0_i32_10 c125_i32_11
  let c1_i32_12 : BitVec 32 := 1#32
  ⟨c0_i32_10, v40, c1_i32_12⟩

def k0_chk9 (v742 : IVec S16 32) : Prop :=
  (∀ a x, ((![v742] : Fin 1 → IVec S16 32) a x).toNat < S48000.size a)
theorem k0_idx9_inb : ∀ (v742 : IVec S16 32) (k0_hw9 : k0_chk9 v742), ∀ a x, ((![v742] : Fin 1 → IVec S16 32) a x).toNat < S48000.size a := fun v742 k0_hw9 => k0_hw9
def k0_off11 (k0_t2 : Fin k0_t2_loop.trips) : Fin 1 → Nat :=
  let c0_i32_10 : BitVec 32 := 0#32
  let c1_i32_12 : BitVec 32 := 1#32
  let arg10 : BitVec 32 := Scf.iv c0_i32_10 c1_i32_12 k0_t2
  let c128_i32 : BitVec 32 := 128#32
  let v740 : BitVec 32 := Scalar.muli arg10 c128_i32
  let c0_i32_297 : BitVec 32 := 0#32
  let v744 : BitVec 32 := Scalar.addi v740 c0_i32_297
  let v745 : Index := Scalar.indexCast v744
  ![v745.toNat]

def k0_chk10 (v748 : IVec S16 32) : Prop :=
  (∀ a x, ((![v748] : Fin 1 → IVec S16 32) a x).toNat < S48000.size a)
theorem k0_idx10_inb : ∀ (v748 : IVec S16 32) (k0_hw10 : k0_chk10 v748), ∀ a x, ((![v748] : Fin 1 → IVec S16 32) a x).toNat < S48000.size a := fun v748 k0_hw10 => k0_hw10
def k0_off12 (k0_t2 : Fin k0_t2_loop.trips) : Fin 1 → Nat :=
  let c0_i32_10 : BitVec 32 := 0#32
  let c1_i32_12 : BitVec 32 := 1#32
  let arg10 : BitVec 32 := Scf.iv c0_i32_10 c1_i32_12 k0_t2
  let c128_i32 : BitVec 32 := 128#32
  let v740 : BitVec 32 := Scalar.muli arg10 c128_i32
  let c16_i32 : BitVec 32 := 16#32
  let v750 : BitVec 32 := Scalar.addi v740 c16_i32
  let v751 : Index := Scalar.indexCast v750
  ![v751.toNat]

def k0_chk11 (v754 : IVec S16 32) : Prop :=
  (∀ a x, ((![v754] : Fin 1 → IVec S16 32) a x).toNat < S48000.size a)
theorem k0_idx11_inb : ∀ (v754 : IVec S16 32) (k0_hw11 : k0_chk11 v754), ∀ a x, ((![v754] : Fin 1 → IVec S16 32) a x).toNat < S48000.size a := fun v754 k0_hw11 => k0_hw11
def k0_off13 (k0_t2 : Fin k0_t2_loop.trips) : Fin 1 → Nat :=
  let c0_i32_10 : BitVec 32 := 0#32
  let c1_i32_12 : BitVec 32 := 1#32
  let arg10 : BitVec 32 := Scf.iv c0_i32_10 c1_i32_12 k0_t2
  let c128_i32 : BitVec 32 := 128#32
  let v740 : BitVec 32 := Scalar.muli arg10 c128_i32
  let c32_i32 : BitVec 32 := 32#32
  let v756 : BitVec 32 := Scalar.addi v740 c32_i32
  let v757 : Index := Scalar.indexCast v756
  ![v757.toNat]

def k0_chk12 (v760 : IVec S16 32) : Prop :=
  (∀ a x, ((![v760] : Fin 1 → IVec S16 32) a x).toNat < S48000.size a)
theorem k0_idx12_inb : ∀ (v760 : IVec S16 32) (k0_hw12 : k0_chk12 v760), ∀ a x, ((![v760] : Fin 1 → IVec S16 32) a x).toNat < S48000.size a := fun v760 k0_hw12 => k0_hw12
def k0_off14 (k0_t2 : Fin k0_t2_loop.trips) : Fin 1 → Nat :=
  let c0_i32_10 : BitVec 32 := 0#32
  let c1_i32_12 : BitVec 32 := 1#32
  let arg10 : BitVec 32 := Scf.iv c0_i32_10 c1_i32_12 k0_t2
  let c128_i32 : BitVec 32 := 128#32
  let v740 : BitVec 32 := Scalar.muli arg10 c128_i32
  let c48_i32_298 : BitVec 32 := 48#32
  let v762 : BitVec 32 := Scalar.addi v740 c48_i32_298
  let v763 : Index := Scalar.indexCast v762
  ![v763.toNat]

def k0_chk13 (v766 : IVec S16 32) : Prop :=
  (∀ a x, ((![v766] : Fin 1 → IVec S16 32) a x).toNat < S48000.size a)
theorem k0_idx13_inb : ∀ (v766 : IVec S16 32) (k0_hw13 : k0_chk13 v766), ∀ a x, ((![v766] : Fin 1 → IVec S16 32) a x).toNat < S48000.size a := fun v766 k0_hw13 => k0_hw13
def k0_off15 (k0_t2 : Fin k0_t2_loop.trips) : Fin 1 → Nat :=
  let c0_i32_10 : BitVec 32 := 0#32
  let c1_i32_12 : BitVec 32 := 1#32
  let arg10 : BitVec 32 := Scf.iv c0_i32_10 c1_i32_12 k0_t2
  let c128_i32 : BitVec 32 := 128#32
  let v740 : BitVec 32 := Scalar.muli arg10 c128_i32
  let c64_i32 : BitVec 32 := 64#32
  let v768 : BitVec 32 := Scalar.addi v740 c64_i32
  let v769 : Index := Scalar.indexCast v768
  ![v769.toNat]

def k0_chk14 (v772 : IVec S16 32) : Prop :=
  (∀ a x, ((![v772] : Fin 1 → IVec S16 32) a x).toNat < S48000.size a)
theorem k0_idx14_inb : ∀ (v772 : IVec S16 32) (k0_hw14 : k0_chk14 v772), ∀ a x, ((![v772] : Fin 1 → IVec S16 32) a x).toNat < S48000.size a := fun v772 k0_hw14 => k0_hw14
def k0_off16 (k0_t2 : Fin k0_t2_loop.trips) : Fin 1 → Nat :=
  let c0_i32_10 : BitVec 32 := 0#32
  let c1_i32_12 : BitVec 32 := 1#32
  let arg10 : BitVec 32 := Scf.iv c0_i32_10 c1_i32_12 k0_t2
  let c128_i32 : BitVec 32 := 128#32
  let v740 : BitVec 32 := Scalar.muli arg10 c128_i32
  let c80_i32 : BitVec 32 := 80#32
  let v774 : BitVec 32 := Scalar.addi v740 c80_i32
  let v775 : Index := Scalar.indexCast v774
  ![v775.toNat]

def k0_chk15 (v778 : IVec S16 32) : Prop :=
  (∀ a x, ((![v778] : Fin 1 → IVec S16 32) a x).toNat < S48000.size a)
theorem k0_idx15_inb : ∀ (v778 : IVec S16 32) (k0_hw15 : k0_chk15 v778), ∀ a x, ((![v778] : Fin 1 → IVec S16 32) a x).toNat < S48000.size a := fun v778 k0_hw15 => k0_hw15
def k0_off17 (k0_t2 : Fin k0_t2_loop.trips) : Fin 1 → Nat :=
  let c0_i32_10 : BitVec 32 := 0#32
  let c1_i32_12 : BitVec 32 := 1#32
  let arg10 : BitVec 32 := Scf.iv c0_i32_10 c1_i32_12 k0_t2
  let c128_i32 : BitVec 32 := 128#32
  let v740 : BitVec 32 := Scalar.muli arg10 c128_i32
  let c96_i32_299 : BitVec 32 := 96#32
  let v780 : BitVec 32 := Scalar.addi v740 c96_i32_299
  let v781 : Index := Scalar.indexCast v780
  ![v781.toNat]

def k0_chk16 (v784 : IVec S16 32) : Prop :=
  (∀ a x, ((![v784] : Fin 1 → IVec S16 32) a x).toNat < S48000.size a)
theorem k0_idx16_inb : ∀ (v784 : IVec S16 32) (k0_hw16 : k0_chk16 v784), ∀ a x, ((![v784] : Fin 1 → IVec S16 32) a x).toNat < S48000.size a := fun v784 k0_hw16 => k0_hw16
def k0_off18 (k0_t2 : Fin k0_t2_loop.trips) : Fin 1 → Nat :=
  let c0_i32_10 : BitVec 32 := 0#32
  let c1_i32_12 : BitVec 32 := 1#32
  let arg10 : BitVec 32 := Scf.iv c0_i32_10 c1_i32_12 k0_t2
  let c128_i32 : BitVec 32 := 128#32
  let v740 : BitVec 32 := Scalar.muli arg10 c128_i32
  let c112_i32 : BitVec 32 := 112#32
  let v786 : BitVec 32 := Scalar.addi v740 c112_i32
  let v787 : Index := Scalar.indexCast v786
  ![v787.toNat]
@[reducible] def k0_t3_loop : Scf.Loop 32 :=
  let c0_i32_19 : BitVec 32 := 0#32
  let c125_i32_20 : BitVec 32 := 125#32
  let v63 : BitVec 32 := Scalar.addi c0_i32_19 c125_i32_20
  let c1_i32_21 : BitVec 32 := 1#32
  ⟨c0_i32_19, v63, c1_i32_21⟩

def k0_chk17 (v742 : IVec S16 32) : Prop :=
  (∀ a x, ((![v742] : Fin 1 → IVec S16 32) a x).toNat < S48000.size a)
theorem k0_idx17_inb : ∀ (v742 : IVec S16 32) (k0_hw17 : k0_chk17 v742), ∀ a x, ((![v742] : Fin 1 → IVec S16 32) a x).toNat < S48000.size a := fun v742 k0_hw17 => k0_hw17
def k0_off19 (k0_t3 : Fin k0_t3_loop.trips) : Fin 1 → Nat :=
  let c0_i32_19 : BitVec 32 := 0#32
  let c1_i32_21 : BitVec 32 := 1#32
  let arg10 : BitVec 32 := Scf.iv c0_i32_19 c1_i32_21 k0_t3
  let c128_i32 : BitVec 32 := 128#32
  let v740 : BitVec 32 := Scalar.muli arg10 c128_i32
  let c0_i32_297 : BitVec 32 := 0#32
  let v744 : BitVec 32 := Scalar.addi v740 c0_i32_297
  let v745 : Index := Scalar.indexCast v744
  ![v745.toNat]

def k0_chk18 (v748 : IVec S16 32) : Prop :=
  (∀ a x, ((![v748] : Fin 1 → IVec S16 32) a x).toNat < S48000.size a)
theorem k0_idx18_inb : ∀ (v748 : IVec S16 32) (k0_hw18 : k0_chk18 v748), ∀ a x, ((![v748] : Fin 1 → IVec S16 32) a x).toNat < S48000.size a := fun v748 k0_hw18 => k0_hw18
def k0_off20 (k0_t3 : Fin k0_t3_loop.trips) : Fin 1 → Nat :=
  let c0_i32_19 : BitVec 32 := 0#32
  let c1_i32_21 : BitVec 32 := 1#32
  let arg10 : BitVec 32 := Scf.iv c0_i32_19 c1_i32_21 k0_t3
  let c128_i32 : BitVec 32 := 128#32
  let v740 : BitVec 32 := Scalar.muli arg10 c128_i32
  let c16_i32 : BitVec 32 := 16#32
  let v750 : BitVec 32 := Scalar.addi v740 c16_i32
  let v751 : Index := Scalar.indexCast v750
  ![v751.toNat]

def k0_chk19 (v754 : IVec S16 32) : Prop :=
  (∀ a x, ((![v754] : Fin 1 → IVec S16 32) a x).toNat < S48000.size a)
theorem k0_idx19_inb : ∀ (v754 : IVec S16 32) (k0_hw19 : k0_chk19 v754), ∀ a x, ((![v754] : Fin 1 → IVec S16 32) a x).toNat < S48000.size a := fun v754 k0_hw19 => k0_hw19
def k0_off21 (k0_t3 : Fin k0_t3_loop.trips) : Fin 1 → Nat :=
  let c0_i32_19 : BitVec 32 := 0#32
  let c1_i32_21 : BitVec 32 := 1#32
  let arg10 : BitVec 32 := Scf.iv c0_i32_19 c1_i32_21 k0_t3
  let c128_i32 : BitVec 32 := 128#32
  let v740 : BitVec 32 := Scalar.muli arg10 c128_i32
  let c32_i32 : BitVec 32 := 32#32
  let v756 : BitVec 32 := Scalar.addi v740 c32_i32
  let v757 : Index := Scalar.indexCast v756
  ![v757.toNat]

def k0_chk20 (v760 : IVec S16 32) : Prop :=
  (∀ a x, ((![v760] : Fin 1 → IVec S16 32) a x).toNat < S48000.size a)
theorem k0_idx20_inb : ∀ (v760 : IVec S16 32) (k0_hw20 : k0_chk20 v760), ∀ a x, ((![v760] : Fin 1 → IVec S16 32) a x).toNat < S48000.size a := fun v760 k0_hw20 => k0_hw20
def k0_off22 (k0_t3 : Fin k0_t3_loop.trips) : Fin 1 → Nat :=
  let c0_i32_19 : BitVec 32 := 0#32
  let c1_i32_21 : BitVec 32 := 1#32
  let arg10 : BitVec 32 := Scf.iv c0_i32_19 c1_i32_21 k0_t3
  let c128_i32 : BitVec 32 := 128#32
  let v740 : BitVec 32 := Scalar.muli arg10 c128_i32
  let c48_i32_298 : BitVec 32 := 48#32
  let v762 : BitVec 32 := Scalar.addi v740 c48_i32_298
  let v763 : Index := Scalar.indexCast v762
  ![v763.toNat]

def k0_chk21 (v766 : IVec S16 32) : Prop :=
  (∀ a x, ((![v766] : Fin 1 → IVec S16 32) a x).toNat < S48000.size a)
theorem k0_idx21_inb : ∀ (v766 : IVec S16 32) (k0_hw21 : k0_chk21 v766), ∀ a x, ((![v766] : Fin 1 → IVec S16 32) a x).toNat < S48000.size a := fun v766 k0_hw21 => k0_hw21
def k0_off23 (k0_t3 : Fin k0_t3_loop.trips) : Fin 1 → Nat :=
  let c0_i32_19 : BitVec 32 := 0#32
  let c1_i32_21 : BitVec 32 := 1#32
  let arg10 : BitVec 32 := Scf.iv c0_i32_19 c1_i32_21 k0_t3
  let c128_i32 : BitVec 32 := 128#32
  let v740 : BitVec 32 := Scalar.muli arg10 c128_i32
  let c64_i32 : BitVec 32 := 64#32
  let v768 : BitVec 32 := Scalar.addi v740 c64_i32
  let v769 : Index := Scalar.indexCast v768
  ![v769.toNat]

def k0_chk22 (v772 : IVec S16 32) : Prop :=
  (∀ a x, ((![v772] : Fin 1 → IVec S16 32) a x).toNat < S48000.size a)
theorem k0_idx22_inb : ∀ (v772 : IVec S16 32) (k0_hw22 : k0_chk22 v772), ∀ a x, ((![v772] : Fin 1 → IVec S16 32) a x).toNat < S48000.size a := fun v772 k0_hw22 => k0_hw22
def k0_off24 (k0_t3 : Fin k0_t3_loop.trips) : Fin 1 → Nat :=
  let c0_i32_19 : BitVec 32 := 0#32
  let c1_i32_21 : BitVec 32 := 1#32
  let arg10 : BitVec 32 := Scf.iv c0_i32_19 c1_i32_21 k0_t3
  let c128_i32 : BitVec 32 := 128#32
  let v740 : BitVec 32 := Scalar.muli arg10 c128_i32
  let c80_i32 : BitVec 32 := 80#32
  let v774 : BitVec 32 := Scalar.addi v740 c80_i32
  let v775 : Index := Scalar.indexCast v774
  ![v775.toNat]

def k0_chk23 (v778 : IVec S16 32) : Prop :=
  (∀ a x, ((![v778] : Fin 1 → IVec S16 32) a x).toNat < S48000.size a)
theorem k0_idx23_inb : ∀ (v778 : IVec S16 32) (k0_hw23 : k0_chk23 v778), ∀ a x, ((![v778] : Fin 1 → IVec S16 32) a x).toNat < S48000.size a := fun v778 k0_hw23 => k0_hw23
def k0_off25 (k0_t3 : Fin k0_t3_loop.trips) : Fin 1 → Nat :=
  let c0_i32_19 : BitVec 32 := 0#32
  let c1_i32_21 : BitVec 32 := 1#32
  let arg10 : BitVec 32 := Scf.iv c0_i32_19 c1_i32_21 k0_t3
  let c128_i32 : BitVec 32 := 128#32
  let v740 : BitVec 32 := Scalar.muli arg10 c128_i32
  let c96_i32_299 : BitVec 32 := 96#32
  let v780 : BitVec 32 := Scalar.addi v740 c96_i32_299
  let v781 : Index := Scalar.indexCast v780
  ![v781.toNat]

def k0_chk24 (v784 : IVec S16 32) : Prop :=
  (∀ a x, ((![v784] : Fin 1 → IVec S16 32) a x).toNat < S48000.size a)
theorem k0_idx24_inb : ∀ (v784 : IVec S16 32) (k0_hw24 : k0_chk24 v784), ∀ a x, ((![v784] : Fin 1 → IVec S16 32) a x).toNat < S48000.size a := fun v784 k0_hw24 => k0_hw24
def k0_off26 (k0_t3 : Fin k0_t3_loop.trips) : Fin 1 → Nat :=
  let c0_i32_19 : BitVec 32 := 0#32
  let c1_i32_21 : BitVec 32 := 1#32
  let arg10 : BitVec 32 := Scf.iv c0_i32_19 c1_i32_21 k0_t3
  let c128_i32 : BitVec 32 := 128#32
  let v740 : BitVec 32 := Scalar.muli arg10 c128_i32
  let c112_i32 : BitVec 32 := 112#32
  let v786 : BitVec 32 := Scalar.addi v740 c112_i32
  let v787 : Index := Scalar.indexCast v786
  ![v787.toNat]
@[reducible] def k0_t4_loop : Scf.Loop 32 :=
  let c0_i32_28 : BitVec 32 := 0#32
  let c125_i32_29 : BitVec 32 := 125#32
  let v86 : BitVec 32 := Scalar.addi c0_i32_28 c125_i32_29
  let c1_i32_30 : BitVec 32 := 1#32
  ⟨c0_i32_28, v86, c1_i32_30⟩

def k0_chk25 (v742 : IVec S16 32) : Prop :=
  (∀ a x, ((![v742] : Fin 1 → IVec S16 32) a x).toNat < S48000.size a)
theorem k0_idx25_inb : ∀ (v742 : IVec S16 32) (k0_hw25 : k0_chk25 v742), ∀ a x, ((![v742] : Fin 1 → IVec S16 32) a x).toNat < S48000.size a := fun v742 k0_hw25 => k0_hw25
def k0_off27 (k0_t4 : Fin k0_t4_loop.trips) : Fin 1 → Nat :=
  let c0_i32_28 : BitVec 32 := 0#32
  let c1_i32_30 : BitVec 32 := 1#32
  let arg10 : BitVec 32 := Scf.iv c0_i32_28 c1_i32_30 k0_t4
  let c128_i32 : BitVec 32 := 128#32
  let v740 : BitVec 32 := Scalar.muli arg10 c128_i32
  let c0_i32_297 : BitVec 32 := 0#32
  let v744 : BitVec 32 := Scalar.addi v740 c0_i32_297
  let v745 : Index := Scalar.indexCast v744
  ![v745.toNat]

def k0_chk26 (v748 : IVec S16 32) : Prop :=
  (∀ a x, ((![v748] : Fin 1 → IVec S16 32) a x).toNat < S48000.size a)
theorem k0_idx26_inb : ∀ (v748 : IVec S16 32) (k0_hw26 : k0_chk26 v748), ∀ a x, ((![v748] : Fin 1 → IVec S16 32) a x).toNat < S48000.size a := fun v748 k0_hw26 => k0_hw26
def k0_off28 (k0_t4 : Fin k0_t4_loop.trips) : Fin 1 → Nat :=
  let c0_i32_28 : BitVec 32 := 0#32
  let c1_i32_30 : BitVec 32 := 1#32
  let arg10 : BitVec 32 := Scf.iv c0_i32_28 c1_i32_30 k0_t4
  let c128_i32 : BitVec 32 := 128#32
  let v740 : BitVec 32 := Scalar.muli arg10 c128_i32
  let c16_i32 : BitVec 32 := 16#32
  let v750 : BitVec 32 := Scalar.addi v740 c16_i32
  let v751 : Index := Scalar.indexCast v750
  ![v751.toNat]

def k0_chk27 (v754 : IVec S16 32) : Prop :=
  (∀ a x, ((![v754] : Fin 1 → IVec S16 32) a x).toNat < S48000.size a)
theorem k0_idx27_inb : ∀ (v754 : IVec S16 32) (k0_hw27 : k0_chk27 v754), ∀ a x, ((![v754] : Fin 1 → IVec S16 32) a x).toNat < S48000.size a := fun v754 k0_hw27 => k0_hw27
def k0_off29 (k0_t4 : Fin k0_t4_loop.trips) : Fin 1 → Nat :=
  let c0_i32_28 : BitVec 32 := 0#32
  let c1_i32_30 : BitVec 32 := 1#32
  let arg10 : BitVec 32 := Scf.iv c0_i32_28 c1_i32_30 k0_t4
  let c128_i32 : BitVec 32 := 128#32
  let v740 : BitVec 32 := Scalar.muli arg10 c128_i32
  let c32_i32 : BitVec 32 := 32#32
  let v756 : BitVec 32 := Scalar.addi v740 c32_i32
  let v757 : Index := Scalar.indexCast v756
  ![v757.toNat]

def k0_chk28 (v760 : IVec S16 32) : Prop :=
  (∀ a x, ((![v760] : Fin 1 → IVec S16 32) a x).toNat < S48000.size a)
theorem k0_idx28_inb : ∀ (v760 : IVec S16 32) (k0_hw28 : k0_chk28 v760), ∀ a x, ((![v760] : Fin 1 → IVec S16 32) a x).toNat < S48000.size a := fun v760 k0_hw28 => k0_hw28
def k0_off30 (k0_t4 : Fin k0_t4_loop.trips) : Fin 1 → Nat :=
  let c0_i32_28 : BitVec 32 := 0#32
  let c1_i32_30 : BitVec 32 := 1#32
  let arg10 : BitVec 32 := Scf.iv c0_i32_28 c1_i32_30 k0_t4
  let c128_i32 : BitVec 32 := 128#32
  let v740 : BitVec 32 := Scalar.muli arg10 c128_i32
  let c48_i32_298 : BitVec 32 := 48#32
  let v762 : BitVec 32 := Scalar.addi v740 c48_i32_298
  let v763 : Index := Scalar.indexCast v762
  ![v763.toNat]

def k0_chk29 (v766 : IVec S16 32) : Prop :=
  (∀ a x, ((![v766] : Fin 1 → IVec S16 32) a x).toNat < S48000.size a)
theorem k0_idx29_inb : ∀ (v766 : IVec S16 32) (k0_hw29 : k0_chk29 v766), ∀ a x, ((![v766] : Fin 1 → IVec S16 32) a x).toNat < S48000.size a := fun v766 k0_hw29 => k0_hw29
def k0_off31 (k0_t4 : Fin k0_t4_loop.trips) : Fin 1 → Nat :=
  let c0_i32_28 : BitVec 32 := 0#32
  let c1_i32_30 : BitVec 32 := 1#32
  let arg10 : BitVec 32 := Scf.iv c0_i32_28 c1_i32_30 k0_t4
  let c128_i32 : BitVec 32 := 128#32
  let v740 : BitVec 32 := Scalar.muli arg10 c128_i32
  let c64_i32 : BitVec 32 := 64#32
  let v768 : BitVec 32 := Scalar.addi v740 c64_i32
  let v769 : Index := Scalar.indexCast v768
  ![v769.toNat]

def k0_chk30 (v772 : IVec S16 32) : Prop :=
  (∀ a x, ((![v772] : Fin 1 → IVec S16 32) a x).toNat < S48000.size a)
theorem k0_idx30_inb : ∀ (v772 : IVec S16 32) (k0_hw30 : k0_chk30 v772), ∀ a x, ((![v772] : Fin 1 → IVec S16 32) a x).toNat < S48000.size a := fun v772 k0_hw30 => k0_hw30
def k0_off32 (k0_t4 : Fin k0_t4_loop.trips) : Fin 1 → Nat :=
  let c0_i32_28 : BitVec 32 := 0#32
  let c1_i32_30 : BitVec 32 := 1#32
  let arg10 : BitVec 32 := Scf.iv c0_i32_28 c1_i32_30 k0_t4
  let c128_i32 : BitVec 32 := 128#32
  let v740 : BitVec 32 := Scalar.muli arg10 c128_i32
  let c80_i32 : BitVec 32 := 80#32
  let v774 : BitVec 32 := Scalar.addi v740 c80_i32
  let v775 : Index := Scalar.indexCast v774
  ![v775.toNat]

def k0_chk31 (v778 : IVec S16 32) : Prop :=
  (∀ a x, ((![v778] : Fin 1 → IVec S16 32) a x).toNat < S48000.size a)
theorem k0_idx31_inb : ∀ (v778 : IVec S16 32) (k0_hw31 : k0_chk31 v778), ∀ a x, ((![v778] : Fin 1 → IVec S16 32) a x).toNat < S48000.size a := fun v778 k0_hw31 => k0_hw31
def k0_off33 (k0_t4 : Fin k0_t4_loop.trips) : Fin 1 → Nat :=
  let c0_i32_28 : BitVec 32 := 0#32
  let c1_i32_30 : BitVec 32 := 1#32
  let arg10 : BitVec 32 := Scf.iv c0_i32_28 c1_i32_30 k0_t4
  let c128_i32 : BitVec 32 := 128#32
  let v740 : BitVec 32 := Scalar.muli arg10 c128_i32
  let c96_i32_299 : BitVec 32 := 96#32
  let v780 : BitVec 32 := Scalar.addi v740 c96_i32_299
  let v781 : Index := Scalar.indexCast v780
  ![v781.toNat]

def k0_chk32 (v784 : IVec S16 32) : Prop :=
  (∀ a x, ((![v784] : Fin 1 → IVec S16 32) a x).toNat < S48000.size a)
theorem k0_idx32_inb : ∀ (v784 : IVec S16 32) (k0_hw32 : k0_chk32 v784), ∀ a x, ((![v784] : Fin 1 → IVec S16 32) a x).toNat < S48000.size a := fun v784 k0_hw32 => k0_hw32
def k0_off34 (k0_t4 : Fin k0_t4_loop.trips) : Fin 1 → Nat :=
  let c0_i32_28 : BitVec 32 := 0#32
  let c1_i32_30 : BitVec 32 := 1#32
  let arg10 : BitVec 32 := Scf.iv c0_i32_28 c1_i32_30 k0_t4
  let c128_i32 : BitVec 32 := 128#32
  let v740 : BitVec 32 := Scalar.muli arg10 c128_i32
  let c112_i32 : BitVec 32 := 112#32
  let v786 : BitVec 32 := Scalar.addi v740 c112_i32
  let v787 : Index := Scalar.indexCast v786
  ![v787.toNat]
@[reducible] def k0_t5_loop : Scf.Loop 32 :=
  let c0_i32_38 : BitVec 32 := 0#32
  let c125_i32_39 : BitVec 32 := 125#32
  let v109 : BitVec 32 := Scalar.addi c0_i32_38 c125_i32_39
  let c1_i32_40 : BitVec 32 := 1#32
  ⟨c0_i32_38, v109, c1_i32_40⟩

def k0_chk33 (v742 : IVec S16 32) : Prop :=
  (∀ a x, ((![v742] : Fin 1 → IVec S16 32) a x).toNat < S48000.size a)
theorem k0_idx33_inb : ∀ (v742 : IVec S16 32) (k0_hw33 : k0_chk33 v742), ∀ a x, ((![v742] : Fin 1 → IVec S16 32) a x).toNat < S48000.size a := fun v742 k0_hw33 => k0_hw33
def k0_off35 (k0_t5 : Fin k0_t5_loop.trips) : Fin 1 → Nat :=
  let c0_i32_38 : BitVec 32 := 0#32
  let c1_i32_40 : BitVec 32 := 1#32
  let arg10 : BitVec 32 := Scf.iv c0_i32_38 c1_i32_40 k0_t5
  let c128_i32 : BitVec 32 := 128#32
  let v740 : BitVec 32 := Scalar.muli arg10 c128_i32
  let c0_i32_297 : BitVec 32 := 0#32
  let v744 : BitVec 32 := Scalar.addi v740 c0_i32_297
  let v745 : Index := Scalar.indexCast v744
  ![v745.toNat]

def k0_chk34 (v748 : IVec S16 32) : Prop :=
  (∀ a x, ((![v748] : Fin 1 → IVec S16 32) a x).toNat < S48000.size a)
theorem k0_idx34_inb : ∀ (v748 : IVec S16 32) (k0_hw34 : k0_chk34 v748), ∀ a x, ((![v748] : Fin 1 → IVec S16 32) a x).toNat < S48000.size a := fun v748 k0_hw34 => k0_hw34
def k0_off36 (k0_t5 : Fin k0_t5_loop.trips) : Fin 1 → Nat :=
  let c0_i32_38 : BitVec 32 := 0#32
  let c1_i32_40 : BitVec 32 := 1#32
  let arg10 : BitVec 32 := Scf.iv c0_i32_38 c1_i32_40 k0_t5
  let c128_i32 : BitVec 32 := 128#32
  let v740 : BitVec 32 := Scalar.muli arg10 c128_i32
  let c16_i32 : BitVec 32 := 16#32
  let v750 : BitVec 32 := Scalar.addi v740 c16_i32
  let v751 : Index := Scalar.indexCast v750
  ![v751.toNat]

def k0_chk35 (v754 : IVec S16 32) : Prop :=
  (∀ a x, ((![v754] : Fin 1 → IVec S16 32) a x).toNat < S48000.size a)
theorem k0_idx35_inb : ∀ (v754 : IVec S16 32) (k0_hw35 : k0_chk35 v754), ∀ a x, ((![v754] : Fin 1 → IVec S16 32) a x).toNat < S48000.size a := fun v754 k0_hw35 => k0_hw35
def k0_off37 (k0_t5 : Fin k0_t5_loop.trips) : Fin 1 → Nat :=
  let c0_i32_38 : BitVec 32 := 0#32
  let c1_i32_40 : BitVec 32 := 1#32
  let arg10 : BitVec 32 := Scf.iv c0_i32_38 c1_i32_40 k0_t5
  let c128_i32 : BitVec 32 := 128#32
  let v740 : BitVec 32 := Scalar.muli arg10 c128_i32
  let c32_i32 : BitVec 32 := 32#32
  let v756 : BitVec 32 := Scalar.addi v740 c32_i32
  let v757 : Index := Scalar.indexCast v756
  ![v757.toNat]

def k0_chk36 (v760 : IVec S16 32) : Prop :=
  (∀ a x, ((![v760] : Fin 1 → IVec S16 32) a x).toNat < S48000.size a)
theorem k0_idx36_inb : ∀ (v760 : IVec S16 32) (k0_hw36 : k0_chk36 v760), ∀ a x, ((![v760] : Fin 1 → IVec S16 32) a x).toNat < S48000.size a := fun v760 k0_hw36 => k0_hw36
def k0_off38 (k0_t5 : Fin k0_t5_loop.trips) : Fin 1 → Nat :=
  let c0_i32_38 : BitVec 32 := 0#32
  let c1_i32_40 : BitVec 32 := 1#32
  let arg10 : BitVec 32 := Scf.iv c0_i32_38 c1_i32_40 k0_t5
  let c128_i32 : BitVec 32 := 128#32
  let v740 : BitVec 32 := Scalar.muli arg10 c128_i32
  let c48_i32_298 : BitVec 32 := 48#32
  let v762 : BitVec 32 := Scalar.addi v740 c48_i32_298
  let v763 : Index := Scalar.indexCast v762
  ![v763.toNat]

def k0_chk37 (v766 : IVec S16 32) : Prop :=
  (∀ a x, ((![v766] : Fin 1 → IVec S16 32) a x).toNat < S48000.size a)
theorem k0_idx37_inb : ∀ (v766 : IVec S16 32) (k0_hw37 : k0_chk37 v766), ∀ a x, ((![v766] : Fin 1 → IVec S16 32) a x).toNat < S48000.size a := fun v766 k0_hw37 => k0_hw37
def k0_off39 (k0_t5 : Fin k0_t5_loop.trips) : Fin 1 → Nat :=
  let c0_i32_38 : BitVec 32 := 0#32
  let c1_i32_40 : BitVec 32 := 1#32
  let arg10 : BitVec 32 := Scf.iv c0_i32_38 c1_i32_40 k0_t5
  let c128_i32 : BitVec 32 := 128#32
  let v740 : BitVec 32 := Scalar.muli arg10 c128_i32
  let c64_i32 : BitVec 32 := 64#32
  let v768 : BitVec 32 := Scalar.addi v740 c64_i32
  let v769 : Index := Scalar.indexCast v768
  ![v769.toNat]

def k0_chk38 (v772 : IVec S16 32) : Prop :=
  (∀ a x, ((![v772] : Fin 1 → IVec S16 32) a x).toNat < S48000.size a)
theorem k0_idx38_inb : ∀ (v772 : IVec S16 32) (k0_hw38 : k0_chk38 v772), ∀ a x, ((![v772] : Fin 1 → IVec S16 32) a x).toNat < S48000.size a := fun v772 k0_hw38 => k0_hw38
def k0_off40 (k0_t5 : Fin k0_t5_loop.trips) : Fin 1 → Nat :=
  let c0_i32_38 : BitVec 32 := 0#32
  let c1_i32_40 : BitVec 32 := 1#32
  let arg10 : BitVec 32 := Scf.iv c0_i32_38 c1_i32_40 k0_t5
  let c128_i32 : BitVec 32 := 128#32
  let v740 : BitVec 32 := Scalar.muli arg10 c128_i32
  let c80_i32 : BitVec 32 := 80#32
  let v774 : BitVec 32 := Scalar.addi v740 c80_i32
  let v775 : Index := Scalar.indexCast v774
  ![v775.toNat]

def k0_chk39 (v778 : IVec S16 32) : Prop :=
  (∀ a x, ((![v778] : Fin 1 → IVec S16 32) a x).toNat < S48000.size a)
theorem k0_idx39_inb : ∀ (v778 : IVec S16 32) (k0_hw39 : k0_chk39 v778), ∀ a x, ((![v778] : Fin 1 → IVec S16 32) a x).toNat < S48000.size a := fun v778 k0_hw39 => k0_hw39
def k0_off41 (k0_t5 : Fin k0_t5_loop.trips) : Fin 1 → Nat :=
  let c0_i32_38 : BitVec 32 := 0#32
  let c1_i32_40 : BitVec 32 := 1#32
  let arg10 : BitVec 32 := Scf.iv c0_i32_38 c1_i32_40 k0_t5
  let c128_i32 : BitVec 32 := 128#32
  let v740 : BitVec 32 := Scalar.muli arg10 c128_i32
  let c96_i32_299 : BitVec 32 := 96#32
  let v780 : BitVec 32 := Scalar.addi v740 c96_i32_299
  let v781 : Index := Scalar.indexCast v780
  ![v781.toNat]

def k0_chk40 (v784 : IVec S16 32) : Prop :=
  (∀ a x, ((![v784] : Fin 1 → IVec S16 32) a x).toNat < S48000.size a)
theorem k0_idx40_inb : ∀ (v784 : IVec S16 32) (k0_hw40 : k0_chk40 v784), ∀ a x, ((![v784] : Fin 1 → IVec S16 32) a x).toNat < S48000.size a := fun v784 k0_hw40 => k0_hw40
def k0_off42 (k0_t5 : Fin k0_t5_loop.trips) : Fin 1 → Nat :=
  let c0_i32_38 : BitVec 32 := 0#32
  let c1_i32_40 : BitVec 32 := 1#32
  let arg10 : BitVec 32 := Scf.iv c0_i32_38 c1_i32_40 k0_t5
  let c128_i32 : BitVec 32 := 128#32
  let v740 : BitVec 32 := Scalar.muli arg10 c128_i32
  let c112_i32 : BitVec 32 := 112#32
  let v786 : BitVec 32 := Scalar.addi v740 c112_i32
  let v787 : Index := Scalar.indexCast v786
  ![v787.toNat]
@[reducible] def k0_t6_loop : Scf.Loop 32 :=
  let c0_i32_47 : BitVec 32 := 0#32
  let c125_i32_48 : BitVec 32 := 125#32
  let v132 : BitVec 32 := Scalar.addi c0_i32_47 c125_i32_48
  let c1_i32_49 : BitVec 32 := 1#32
  ⟨c0_i32_47, v132, c1_i32_49⟩

def k0_chk41 (v742 : IVec S16 32) : Prop :=
  (∀ a x, ((![v742] : Fin 1 → IVec S16 32) a x).toNat < S48000.size a)
theorem k0_idx41_inb : ∀ (v742 : IVec S16 32) (k0_hw41 : k0_chk41 v742), ∀ a x, ((![v742] : Fin 1 → IVec S16 32) a x).toNat < S48000.size a := fun v742 k0_hw41 => k0_hw41
def k0_off43 (k0_t6 : Fin k0_t6_loop.trips) : Fin 1 → Nat :=
  let c0_i32_47 : BitVec 32 := 0#32
  let c1_i32_49 : BitVec 32 := 1#32
  let arg10 : BitVec 32 := Scf.iv c0_i32_47 c1_i32_49 k0_t6
  let c128_i32 : BitVec 32 := 128#32
  let v740 : BitVec 32 := Scalar.muli arg10 c128_i32
  let c0_i32_297 : BitVec 32 := 0#32
  let v744 : BitVec 32 := Scalar.addi v740 c0_i32_297
  let v745 : Index := Scalar.indexCast v744
  ![v745.toNat]

def k0_chk42 (v748 : IVec S16 32) : Prop :=
  (∀ a x, ((![v748] : Fin 1 → IVec S16 32) a x).toNat < S48000.size a)
theorem k0_idx42_inb : ∀ (v748 : IVec S16 32) (k0_hw42 : k0_chk42 v748), ∀ a x, ((![v748] : Fin 1 → IVec S16 32) a x).toNat < S48000.size a := fun v748 k0_hw42 => k0_hw42
def k0_off44 (k0_t6 : Fin k0_t6_loop.trips) : Fin 1 → Nat :=
  let c0_i32_47 : BitVec 32 := 0#32
  let c1_i32_49 : BitVec 32 := 1#32
  let arg10 : BitVec 32 := Scf.iv c0_i32_47 c1_i32_49 k0_t6
  let c128_i32 : BitVec 32 := 128#32
  let v740 : BitVec 32 := Scalar.muli arg10 c128_i32
  let c16_i32 : BitVec 32 := 16#32
  let v750 : BitVec 32 := Scalar.addi v740 c16_i32
  let v751 : Index := Scalar.indexCast v750
  ![v751.toNat]

def k0_chk43 (v754 : IVec S16 32) : Prop :=
  (∀ a x, ((![v754] : Fin 1 → IVec S16 32) a x).toNat < S48000.size a)
theorem k0_idx43_inb : ∀ (v754 : IVec S16 32) (k0_hw43 : k0_chk43 v754), ∀ a x, ((![v754] : Fin 1 → IVec S16 32) a x).toNat < S48000.size a := fun v754 k0_hw43 => k0_hw43
def k0_off45 (k0_t6 : Fin k0_t6_loop.trips) : Fin 1 → Nat :=
  let c0_i32_47 : BitVec 32 := 0#32
  let c1_i32_49 : BitVec 32 := 1#32
  let arg10 : BitVec 32 := Scf.iv c0_i32_47 c1_i32_49 k0_t6
  let c128_i32 : BitVec 32 := 128#32
  let v740 : BitVec 32 := Scalar.muli arg10 c128_i32
  let c32_i32 : BitVec 32 := 32#32
  let v756 : BitVec 32 := Scalar.addi v740 c32_i32
  let v757 : Index := Scalar.indexCast v756
  ![v757.toNat]

def k0_chk44 (v760 : IVec S16 32) : Prop :=
  (∀ a x, ((![v760] : Fin 1 → IVec S16 32) a x).toNat < S48000.size a)
theorem k0_idx44_inb : ∀ (v760 : IVec S16 32) (k0_hw44 : k0_chk44 v760), ∀ a x, ((![v760] : Fin 1 → IVec S16 32) a x).toNat < S48000.size a := fun v760 k0_hw44 => k0_hw44
def k0_off46 (k0_t6 : Fin k0_t6_loop.trips) : Fin 1 → Nat :=
  let c0_i32_47 : BitVec 32 := 0#32
  let c1_i32_49 : BitVec 32 := 1#32
  let arg10 : BitVec 32 := Scf.iv c0_i32_47 c1_i32_49 k0_t6
  let c128_i32 : BitVec 32 := 128#32
  let v740 : BitVec 32 := Scalar.muli arg10 c128_i32
  let c48_i32_298 : BitVec 32 := 48#32
  let v762 : BitVec 32 := Scalar.addi v740 c48_i32_298
  let v763 : Index := Scalar.indexCast v762
  ![v763.toNat]

def k0_chk45 (v766 : IVec S16 32) : Prop :=
  (∀ a x, ((![v766] : Fin 1 → IVec S16 32) a x).toNat < S48000.size a)
theorem k0_idx45_inb : ∀ (v766 : IVec S16 32) (k0_hw45 : k0_chk45 v766), ∀ a x, ((![v766] : Fin 1 → IVec S16 32) a x).toNat < S48000.size a := fun v766 k0_hw45 => k0_hw45
def k0_off47 (k0_t6 : Fin k0_t6_loop.trips) : Fin 1 → Nat :=
  let c0_i32_47 : BitVec 32 := 0#32
  let c1_i32_49 : BitVec 32 := 1#32
  let arg10 : BitVec 32 := Scf.iv c0_i32_47 c1_i32_49 k0_t6
  let c128_i32 : BitVec 32 := 128#32
  let v740 : BitVec 32 := Scalar.muli arg10 c128_i32
  let c64_i32 : BitVec 32 := 64#32
  let v768 : BitVec 32 := Scalar.addi v740 c64_i32
  let v769 : Index := Scalar.indexCast v768
  ![v769.toNat]

def k0_chk46 (v772 : IVec S16 32) : Prop :=
  (∀ a x, ((![v772] : Fin 1 → IVec S16 32) a x).toNat < S48000.size a)
theorem k0_idx46_inb : ∀ (v772 : IVec S16 32) (k0_hw46 : k0_chk46 v772), ∀ a x, ((![v772] : Fin 1 → IVec S16 32) a x).toNat < S48000.size a := fun v772 k0_hw46 => k0_hw46
def k0_off48 (k0_t6 : Fin k0_t6_loop.trips) : Fin 1 → Nat :=
  let c0_i32_47 : BitVec 32 := 0#32
  let c1_i32_49 : BitVec 32 := 1#32
  let arg10 : BitVec 32 := Scf.iv c0_i32_47 c1_i32_49 k0_t6
  let c128_i32 : BitVec 32 := 128#32
  let v740 : BitVec 32 := Scalar.muli arg10 c128_i32
  let c80_i32 : BitVec 32 := 80#32
  let v774 : BitVec 32 := Scalar.addi v740 c80_i32
  let v775 : Index := Scalar.indexCast v774
  ![v775.toNat]

def k0_chk47 (v778 : IVec S16 32) : Prop :=
  (∀ a x, ((![v778] : Fin 1 → IVec S16 32) a x).toNat < S48000.size a)
theorem k0_idx47_inb : ∀ (v778 : IVec S16 32) (k0_hw47 : k0_chk47 v778), ∀ a x, ((![v778] : Fin 1 → IVec S16 32) a x).toNat < S48000.size a := fun v778 k0_hw47 => k0_hw47
def k0_off49 (k0_t6 : Fin k0_t6_loop.trips) : Fin 1 → Nat :=
  let c0_i32_47 : BitVec 32 := 0#32
  let c1_i32_49 : BitVec 32 := 1#32
  let arg10 : BitVec 32 := Scf.iv c0_i32_47 c1_i32_49 k0_t6
  let c128_i32 : BitVec 32 := 128#32
  let v740 : BitVec 32 := Scalar.muli arg10 c128_i32
  let c96_i32_299 : BitVec 32 := 96#32
  let v780 : BitVec 32 := Scalar.addi v740 c96_i32_299
  let v781 : Index := Scalar.indexCast v780
  ![v781.toNat]

def k0_chk48 (v784 : IVec S16 32) : Prop :=
  (∀ a x, ((![v784] : Fin 1 → IVec S16 32) a x).toNat < S48000.size a)
theorem k0_idx48_inb : ∀ (v784 : IVec S16 32) (k0_hw48 : k0_chk48 v784), ∀ a x, ((![v784] : Fin 1 → IVec S16 32) a x).toNat < S48000.size a := fun v784 k0_hw48 => k0_hw48
def k0_off50 (k0_t6 : Fin k0_t6_loop.trips) : Fin 1 → Nat :=
  let c0_i32_47 : BitVec 32 := 0#32
  let c1_i32_49 : BitVec 32 := 1#32
  let arg10 : BitVec 32 := Scf.iv c0_i32_47 c1_i32_49 k0_t6
  let c128_i32 : BitVec 32 := 128#32
  let v740 : BitVec 32 := Scalar.muli arg10 c128_i32
  let c112_i32 : BitVec 32 := 112#32
  let v786 : BitVec 32 := Scalar.addi v740 c112_i32
  let v787 : Index := Scalar.indexCast v786
  ![v787.toNat]
@[reducible] def k0_t7_loop : Scf.Loop 32 :=
  let c0_i32_56 : BitVec 32 := 0#32
  let c125_i32_57 : BitVec 32 := 125#32
  let v155 : BitVec 32 := Scalar.addi c0_i32_56 c125_i32_57
  let c1_i32_58 : BitVec 32 := 1#32
  ⟨c0_i32_56, v155, c1_i32_58⟩

def k0_chk49 (v742 : IVec S16 32) : Prop :=
  (∀ a x, ((![v742] : Fin 1 → IVec S16 32) a x).toNat < S48000.size a)
theorem k0_idx49_inb : ∀ (v742 : IVec S16 32) (k0_hw49 : k0_chk49 v742), ∀ a x, ((![v742] : Fin 1 → IVec S16 32) a x).toNat < S48000.size a := fun v742 k0_hw49 => k0_hw49
def k0_off51 (k0_t7 : Fin k0_t7_loop.trips) : Fin 1 → Nat :=
  let c0_i32_56 : BitVec 32 := 0#32
  let c1_i32_58 : BitVec 32 := 1#32
  let arg10 : BitVec 32 := Scf.iv c0_i32_56 c1_i32_58 k0_t7
  let c128_i32 : BitVec 32 := 128#32
  let v740 : BitVec 32 := Scalar.muli arg10 c128_i32
  let c0_i32_297 : BitVec 32 := 0#32
  let v744 : BitVec 32 := Scalar.addi v740 c0_i32_297
  let v745 : Index := Scalar.indexCast v744
  ![v745.toNat]

def k0_chk50 (v748 : IVec S16 32) : Prop :=
  (∀ a x, ((![v748] : Fin 1 → IVec S16 32) a x).toNat < S48000.size a)
theorem k0_idx50_inb : ∀ (v748 : IVec S16 32) (k0_hw50 : k0_chk50 v748), ∀ a x, ((![v748] : Fin 1 → IVec S16 32) a x).toNat < S48000.size a := fun v748 k0_hw50 => k0_hw50
def k0_off52 (k0_t7 : Fin k0_t7_loop.trips) : Fin 1 → Nat :=
  let c0_i32_56 : BitVec 32 := 0#32
  let c1_i32_58 : BitVec 32 := 1#32
  let arg10 : BitVec 32 := Scf.iv c0_i32_56 c1_i32_58 k0_t7
  let c128_i32 : BitVec 32 := 128#32
  let v740 : BitVec 32 := Scalar.muli arg10 c128_i32
  let c16_i32 : BitVec 32 := 16#32
  let v750 : BitVec 32 := Scalar.addi v740 c16_i32
  let v751 : Index := Scalar.indexCast v750
  ![v751.toNat]

def k0_chk51 (v754 : IVec S16 32) : Prop :=
  (∀ a x, ((![v754] : Fin 1 → IVec S16 32) a x).toNat < S48000.size a)
theorem k0_idx51_inb : ∀ (v754 : IVec S16 32) (k0_hw51 : k0_chk51 v754), ∀ a x, ((![v754] : Fin 1 → IVec S16 32) a x).toNat < S48000.size a := fun v754 k0_hw51 => k0_hw51
def k0_off53 (k0_t7 : Fin k0_t7_loop.trips) : Fin 1 → Nat :=
  let c0_i32_56 : BitVec 32 := 0#32
  let c1_i32_58 : BitVec 32 := 1#32
  let arg10 : BitVec 32 := Scf.iv c0_i32_56 c1_i32_58 k0_t7
  let c128_i32 : BitVec 32 := 128#32
  let v740 : BitVec 32 := Scalar.muli arg10 c128_i32
  let c32_i32 : BitVec 32 := 32#32
  let v756 : BitVec 32 := Scalar.addi v740 c32_i32
  let v757 : Index := Scalar.indexCast v756
  ![v757.toNat]

def k0_chk52 (v760 : IVec S16 32) : Prop :=
  (∀ a x, ((![v760] : Fin 1 → IVec S16 32) a x).toNat < S48000.size a)
theorem k0_idx52_inb : ∀ (v760 : IVec S16 32) (k0_hw52 : k0_chk52 v760), ∀ a x, ((![v760] : Fin 1 → IVec S16 32) a x).toNat < S48000.size a := fun v760 k0_hw52 => k0_hw52
def k0_off54 (k0_t7 : Fin k0_t7_loop.trips) : Fin 1 → Nat :=
  let c0_i32_56 : BitVec 32 := 0#32
  let c1_i32_58 : BitVec 32 := 1#32
  let arg10 : BitVec 32 := Scf.iv c0_i32_56 c1_i32_58 k0_t7
  let c128_i32 : BitVec 32 := 128#32
  let v740 : BitVec 32 := Scalar.muli arg10 c128_i32
  let c48_i32_298 : BitVec 32 := 48#32
  let v762 : BitVec 32 := Scalar.addi v740 c48_i32_298
  let v763 : Index := Scalar.indexCast v762
  ![v763.toNat]

def k0_chk53 (v766 : IVec S16 32) : Prop :=
  (∀ a x, ((![v766] : Fin 1 → IVec S16 32) a x).toNat < S48000.size a)
theorem k0_idx53_inb : ∀ (v766 : IVec S16 32) (k0_hw53 : k0_chk53 v766), ∀ a x, ((![v766] : Fin 1 → IVec S16 32) a x).toNat < S48000.size a := fun v766 k0_hw53 => k0_hw53
def k0_off55 (k0_t7 : Fin k0_t7_loop.trips) : Fin 1 → Nat :=
  let c0_i32_56 : BitVec 32 := 0#32
  let c1_i32_58 : BitVec 32 := 1#32
  let arg10 : BitVec 32 := Scf.iv c0_i32_56 c1_i32_58 k0_t7
  let c128_i32 : BitVec 32 := 128#32
  let v740 : BitVec 32 := Scalar.muli arg10 c128_i32
  let c64_i32 : BitVec 32 := 64#32
  let v768 : BitVec 32 := Scalar.addi v740 c64_i32
  let v769 : Index := Scalar.indexCast v768
  ![v769.toNat]

def k0_chk54 (v772 : IVec S16 32) : Prop :=
  (∀ a x, ((![v772] : Fin 1 → IVec S16 32) a x).toNat < S48000.size a)
theorem k0_idx54_inb : ∀ (v772 : IVec S16 32) (k0_hw54 : k0_chk54 v772), ∀ a x, ((![v772] : Fin 1 → IVec S16 32) a x).toNat < S48000.size a := fun v772 k0_hw54 => k0_hw54
def k0_off56 (k0_t7 : Fin k0_t7_loop.trips) : Fin 1 → Nat :=
  let c0_i32_56 : BitVec 32 := 0#32
  let c1_i32_58 : BitVec 32 := 1#32
  let arg10 : BitVec 32 := Scf.iv c0_i32_56 c1_i32_58 k0_t7
  let c128_i32 : BitVec 32 := 128#32
  let v740 : BitVec 32 := Scalar.muli arg10 c128_i32
  let c80_i32 : BitVec 32 := 80#32
  let v774 : BitVec 32 := Scalar.addi v740 c80_i32
  let v775 : Index := Scalar.indexCast v774
  ![v775.toNat]

def k0_chk55 (v778 : IVec S16 32) : Prop :=
  (∀ a x, ((![v778] : Fin 1 → IVec S16 32) a x).toNat < S48000.size a)
theorem k0_idx55_inb : ∀ (v778 : IVec S16 32) (k0_hw55 : k0_chk55 v778), ∀ a x, ((![v778] : Fin 1 → IVec S16 32) a x).toNat < S48000.size a := fun v778 k0_hw55 => k0_hw55
def k0_off57 (k0_t7 : Fin k0_t7_loop.trips) : Fin 1 → Nat :=
  let c0_i32_56 : BitVec 32 := 0#32
  let c1_i32_58 : BitVec 32 := 1#32
  let arg10 : BitVec 32 := Scf.iv c0_i32_56 c1_i32_58 k0_t7
  let c128_i32 : BitVec 32 := 128#32
  let v740 : BitVec 32 := Scalar.muli arg10 c128_i32
  let c96_i32_299 : BitVec 32 := 96#32
  let v780 : BitVec 32 := Scalar.addi v740 c96_i32_299
  let v781 : Index := Scalar.indexCast v780
  ![v781.toNat]

def k0_chk56 (v784 : IVec S16 32) : Prop :=
  (∀ a x, ((![v784] : Fin 1 → IVec S16 32) a x).toNat < S48000.size a)
theorem k0_idx56_inb : ∀ (v784 : IVec S16 32) (k0_hw56 : k0_chk56 v784), ∀ a x, ((![v784] : Fin 1 → IVec S16 32) a x).toNat < S48000.size a := fun v784 k0_hw56 => k0_hw56
def k0_off58 (k0_t7 : Fin k0_t7_loop.trips) : Fin 1 → Nat :=
  let c0_i32_56 : BitVec 32 := 0#32
  let c1_i32_58 : BitVec 32 := 1#32
  let arg10 : BitVec 32 := Scf.iv c0_i32_56 c1_i32_58 k0_t7
  let c128_i32 : BitVec 32 := 128#32
  let v740 : BitVec 32 := Scalar.muli arg10 c128_i32
  let c112_i32 : BitVec 32 := 112#32
  let v786 : BitVec 32 := Scalar.addi v740 c112_i32
  let v787 : Index := Scalar.indexCast v786
  ![v787.toNat]
@[reducible] def k0_t8_loop : Scf.Loop 32 :=
  let c0_i32_66 : BitVec 32 := 0#32
  let c125_i32_67 : BitVec 32 := 125#32
  let v178 : BitVec 32 := Scalar.addi c0_i32_66 c125_i32_67
  let c1_i32_68 : BitVec 32 := 1#32
  ⟨c0_i32_66, v178, c1_i32_68⟩

def k0_chk57 (v742 : IVec S16 32) : Prop :=
  (∀ a x, ((![v742] : Fin 1 → IVec S16 32) a x).toNat < S48000.size a)
theorem k0_idx57_inb : ∀ (v742 : IVec S16 32) (k0_hw57 : k0_chk57 v742), ∀ a x, ((![v742] : Fin 1 → IVec S16 32) a x).toNat < S48000.size a := fun v742 k0_hw57 => k0_hw57
def k0_off59 (k0_t8 : Fin k0_t8_loop.trips) : Fin 1 → Nat :=
  let c0_i32_66 : BitVec 32 := 0#32
  let c1_i32_68 : BitVec 32 := 1#32
  let arg10 : BitVec 32 := Scf.iv c0_i32_66 c1_i32_68 k0_t8
  let c128_i32 : BitVec 32 := 128#32
  let v740 : BitVec 32 := Scalar.muli arg10 c128_i32
  let c0_i32_297 : BitVec 32 := 0#32
  let v744 : BitVec 32 := Scalar.addi v740 c0_i32_297
  let v745 : Index := Scalar.indexCast v744
  ![v745.toNat]

def k0_chk58 (v748 : IVec S16 32) : Prop :=
  (∀ a x, ((![v748] : Fin 1 → IVec S16 32) a x).toNat < S48000.size a)
theorem k0_idx58_inb : ∀ (v748 : IVec S16 32) (k0_hw58 : k0_chk58 v748), ∀ a x, ((![v748] : Fin 1 → IVec S16 32) a x).toNat < S48000.size a := fun v748 k0_hw58 => k0_hw58
def k0_off60 (k0_t8 : Fin k0_t8_loop.trips) : Fin 1 → Nat :=
  let c0_i32_66 : BitVec 32 := 0#32
  let c1_i32_68 : BitVec 32 := 1#32
  let arg10 : BitVec 32 := Scf.iv c0_i32_66 c1_i32_68 k0_t8
  let c128_i32 : BitVec 32 := 128#32
  let v740 : BitVec 32 := Scalar.muli arg10 c128_i32
  let c16_i32 : BitVec 32 := 16#32
  let v750 : BitVec 32 := Scalar.addi v740 c16_i32
  let v751 : Index := Scalar.indexCast v750
  ![v751.toNat]

def k0_chk59 (v754 : IVec S16 32) : Prop :=
  (∀ a x, ((![v754] : Fin 1 → IVec S16 32) a x).toNat < S48000.size a)
theorem k0_idx59_inb : ∀ (v754 : IVec S16 32) (k0_hw59 : k0_chk59 v754), ∀ a x, ((![v754] : Fin 1 → IVec S16 32) a x).toNat < S48000.size a := fun v754 k0_hw59 => k0_hw59
def k0_off61 (k0_t8 : Fin k0_t8_loop.trips) : Fin 1 → Nat :=
  let c0_i32_66 : BitVec 32 := 0#32
  let c1_i32_68 : BitVec 32 := 1#32
  let arg10 : BitVec 32 := Scf.iv c0_i32_66 c1_i32_68 k0_t8
  let c128_i32 : BitVec 32 := 128#32
  let v740 : BitVec 32 := Scalar.muli arg10 c128_i32
  let c32_i32 : BitVec 32 := 32#32
  let v756 : BitVec 32 := Scalar.addi v740 c32_i32
  let v757 : Index := Scalar.indexCast v756
  ![v757.toNat]

def k0_chk60 (v760 : IVec S16 32) : Prop :=
  (∀ a x, ((![v760] : Fin 1 → IVec S16 32) a x).toNat < S48000.size a)
theorem k0_idx60_inb : ∀ (v760 : IVec S16 32) (k0_hw60 : k0_chk60 v760), ∀ a x, ((![v760] : Fin 1 → IVec S16 32) a x).toNat < S48000.size a := fun v760 k0_hw60 => k0_hw60
def k0_off62 (k0_t8 : Fin k0_t8_loop.trips) : Fin 1 → Nat :=
  let c0_i32_66 : BitVec 32 := 0#32
  let c1_i32_68 : BitVec 32 := 1#32
  let arg10 : BitVec 32 := Scf.iv c0_i32_66 c1_i32_68 k0_t8
  let c128_i32 : BitVec 32 := 128#32
  let v740 : BitVec 32 := Scalar.muli arg10 c128_i32
  let c48_i32_298 : BitVec 32 := 48#32
  let v762 : BitVec 32 := Scalar.addi v740 c48_i32_298
  let v763 : Index := Scalar.indexCast v762
  ![v763.toNat]

def k0_chk61 (v766 : IVec S16 32) : Prop :=
  (∀ a x, ((![v766] : Fin 1 → IVec S16 32) a x).toNat < S48000.size a)
theorem k0_idx61_inb : ∀ (v766 : IVec S16 32) (k0_hw61 : k0_chk61 v766), ∀ a x, ((![v766] : Fin 1 → IVec S16 32) a x).toNat < S48000.size a := fun v766 k0_hw61 => k0_hw61
def k0_off63 (k0_t8 : Fin k0_t8_loop.trips) : Fin 1 → Nat :=
  let c0_i32_66 : BitVec 32 := 0#32
  let c1_i32_68 : BitVec 32 := 1#32
  let arg10 : BitVec 32 := Scf.iv c0_i32_66 c1_i32_68 k0_t8
  let c128_i32 : BitVec 32 := 128#32
  let v740 : BitVec 32 := Scalar.muli arg10 c128_i32
  let c64_i32 : BitVec 32 := 64#32
  let v768 : BitVec 32 := Scalar.addi v740 c64_i32
  let v769 : Index := Scalar.indexCast v768
  ![v769.toNat]

def k0_chk62 (v772 : IVec S16 32) : Prop :=
  (∀ a x, ((![v772] : Fin 1 → IVec S16 32) a x).toNat < S48000.size a)
theorem k0_idx62_inb : ∀ (v772 : IVec S16 32) (k0_hw62 : k0_chk62 v772), ∀ a x, ((![v772] : Fin 1 → IVec S16 32) a x).toNat < S48000.size a := fun v772 k0_hw62 => k0_hw62
def k0_off64 (k0_t8 : Fin k0_t8_loop.trips) : Fin 1 → Nat :=
  let c0_i32_66 : BitVec 32 := 0#32
  let c1_i32_68 : BitVec 32 := 1#32
  let arg10 : BitVec 32 := Scf.iv c0_i32_66 c1_i32_68 k0_t8
  let c128_i32 : BitVec 32 := 128#32
  let v740 : BitVec 32 := Scalar.muli arg10 c128_i32
  let c80_i32 : BitVec 32 := 80#32
  let v774 : BitVec 32 := Scalar.addi v740 c80_i32
  let v775 : Index := Scalar.indexCast v774
  ![v775.toNat]

def k0_chk63 (v778 : IVec S16 32) : Prop :=
  (∀ a x, ((![v778] : Fin 1 → IVec S16 32) a x).toNat < S48000.size a)
theorem k0_idx63_inb : ∀ (v778 : IVec S16 32) (k0_hw63 : k0_chk63 v778), ∀ a x, ((![v778] : Fin 1 → IVec S16 32) a x).toNat < S48000.size a := fun v778 k0_hw63 => k0_hw63
def k0_off65 (k0_t8 : Fin k0_t8_loop.trips) : Fin 1 → Nat :=
  let c0_i32_66 : BitVec 32 := 0#32
  let c1_i32_68 : BitVec 32 := 1#32
  let arg10 : BitVec 32 := Scf.iv c0_i32_66 c1_i32_68 k0_t8
  let c128_i32 : BitVec 32 := 128#32
  let v740 : BitVec 32 := Scalar.muli arg10 c128_i32
  let c96_i32_299 : BitVec 32 := 96#32
  let v780 : BitVec 32 := Scalar.addi v740 c96_i32_299
  let v781 : Index := Scalar.indexCast v780
  ![v781.toNat]

def k0_chk64 (v784 : IVec S16 32) : Prop :=
  (∀ a x, ((![v784] : Fin 1 → IVec S16 32) a x).toNat < S48000.size a)
theorem k0_idx64_inb : ∀ (v784 : IVec S16 32) (k0_hw64 : k0_chk64 v784), ∀ a x, ((![v784] : Fin 1 → IVec S16 32) a x).toNat < S48000.size a := fun v784 k0_hw64 => k0_hw64
def k0_off66 (k0_t8 : Fin k0_t8_loop.trips) : Fin 1 → Nat :=
  let c0_i32_66 : BitVec 32 := 0#32
  let c1_i32_68 : BitVec 32 := 1#32
  let arg10 : BitVec 32 := Scf.iv c0_i32_66 c1_i32_68 k0_t8
  let c128_i32 : BitVec 32 := 128#32
  let v740 : BitVec 32 := Scalar.muli arg10 c128_i32
  let c112_i32 : BitVec 32 := 112#32
  let v786 : BitVec 32 := Scalar.addi v740 c112_i32
  let v787 : Index := Scalar.indexCast v786
  ![v787.toNat]
@[reducible] def k0_t9_loop : Scf.Loop 32 :=
  let c0_i32_75 : BitVec 32 := 0#32
  let c125_i32_76 : BitVec 32 := 125#32
  let v201 : BitVec 32 := Scalar.addi c0_i32_75 c125_i32_76
  let c1_i32_77 : BitVec 32 := 1#32
  ⟨c0_i32_75, v201, c1_i32_77⟩

def k0_chk65 (v742 : IVec S16 32) : Prop :=
  (∀ a x, ((![v742] : Fin 1 → IVec S16 32) a x).toNat < S48000.size a)
theorem k0_idx65_inb : ∀ (v742 : IVec S16 32) (k0_hw65 : k0_chk65 v742), ∀ a x, ((![v742] : Fin 1 → IVec S16 32) a x).toNat < S48000.size a := fun v742 k0_hw65 => k0_hw65
def k0_off67 (k0_t9 : Fin k0_t9_loop.trips) : Fin 1 → Nat :=
  let c0_i32_75 : BitVec 32 := 0#32
  let c1_i32_77 : BitVec 32 := 1#32
  let arg10 : BitVec 32 := Scf.iv c0_i32_75 c1_i32_77 k0_t9
  let c128_i32 : BitVec 32 := 128#32
  let v740 : BitVec 32 := Scalar.muli arg10 c128_i32
  let c0_i32_297 : BitVec 32 := 0#32
  let v744 : BitVec 32 := Scalar.addi v740 c0_i32_297
  let v745 : Index := Scalar.indexCast v744
  ![v745.toNat]

def k0_chk66 (v748 : IVec S16 32) : Prop :=
  (∀ a x, ((![v748] : Fin 1 → IVec S16 32) a x).toNat < S48000.size a)
theorem k0_idx66_inb : ∀ (v748 : IVec S16 32) (k0_hw66 : k0_chk66 v748), ∀ a x, ((![v748] : Fin 1 → IVec S16 32) a x).toNat < S48000.size a := fun v748 k0_hw66 => k0_hw66
def k0_off68 (k0_t9 : Fin k0_t9_loop.trips) : Fin 1 → Nat :=
  let c0_i32_75 : BitVec 32 := 0#32
  let c1_i32_77 : BitVec 32 := 1#32
  let arg10 : BitVec 32 := Scf.iv c0_i32_75 c1_i32_77 k0_t9
  let c128_i32 : BitVec 32 := 128#32
  let v740 : BitVec 32 := Scalar.muli arg10 c128_i32
  let c16_i32 : BitVec 32 := 16#32
  let v750 : BitVec 32 := Scalar.addi v740 c16_i32
  let v751 : Index := Scalar.indexCast v750
  ![v751.toNat]

def k0_chk67 (v754 : IVec S16 32) : Prop :=
  (∀ a x, ((![v754] : Fin 1 → IVec S16 32) a x).toNat < S48000.size a)
theorem k0_idx67_inb : ∀ (v754 : IVec S16 32) (k0_hw67 : k0_chk67 v754), ∀ a x, ((![v754] : Fin 1 → IVec S16 32) a x).toNat < S48000.size a := fun v754 k0_hw67 => k0_hw67
def k0_off69 (k0_t9 : Fin k0_t9_loop.trips) : Fin 1 → Nat :=
  let c0_i32_75 : BitVec 32 := 0#32
  let c1_i32_77 : BitVec 32 := 1#32
  let arg10 : BitVec 32 := Scf.iv c0_i32_75 c1_i32_77 k0_t9
  let c128_i32 : BitVec 32 := 128#32
  let v740 : BitVec 32 := Scalar.muli arg10 c128_i32
  let c32_i32 : BitVec 32 := 32#32
  let v756 : BitVec 32 := Scalar.addi v740 c32_i32
  let v757 : Index := Scalar.indexCast v756
  ![v757.toNat]

def k0_chk68 (v760 : IVec S16 32) : Prop :=
  (∀ a x, ((![v760] : Fin 1 → IVec S16 32) a x).toNat < S48000.size a)
theorem k0_idx68_inb : ∀ (v760 : IVec S16 32) (k0_hw68 : k0_chk68 v760), ∀ a x, ((![v760] : Fin 1 → IVec S16 32) a x).toNat < S48000.size a := fun v760 k0_hw68 => k0_hw68
def k0_off70 (k0_t9 : Fin k0_t9_loop.trips) : Fin 1 → Nat :=
  let c0_i32_75 : BitVec 32 := 0#32
  let c1_i32_77 : BitVec 32 := 1#32
  let arg10 : BitVec 32 := Scf.iv c0_i32_75 c1_i32_77 k0_t9
  let c128_i32 : BitVec 32 := 128#32
  let v740 : BitVec 32 := Scalar.muli arg10 c128_i32
  let c48_i32_298 : BitVec 32 := 48#32
  let v762 : BitVec 32 := Scalar.addi v740 c48_i32_298
  let v763 : Index := Scalar.indexCast v762
  ![v763.toNat]

def k0_chk69 (v766 : IVec S16 32) : Prop :=
  (∀ a x, ((![v766] : Fin 1 → IVec S16 32) a x).toNat < S48000.size a)
theorem k0_idx69_inb : ∀ (v766 : IVec S16 32) (k0_hw69 : k0_chk69 v766), ∀ a x, ((![v766] : Fin 1 → IVec S16 32) a x).toNat < S48000.size a := fun v766 k0_hw69 => k0_hw69
def k0_off71 (k0_t9 : Fin k0_t9_loop.trips) : Fin 1 → Nat :=
  let c0_i32_75 : BitVec 32 := 0#32
  let c1_i32_77 : BitVec 32 := 1#32
  let arg10 : BitVec 32 := Scf.iv c0_i32_75 c1_i32_77 k0_t9
  let c128_i32 : BitVec 32 := 128#32
  let v740 : BitVec 32 := Scalar.muli arg10 c128_i32
  let c64_i32 : BitVec 32 := 64#32
  let v768 : BitVec 32 := Scalar.addi v740 c64_i32
  let v769 : Index := Scalar.indexCast v768
  ![v769.toNat]

def k0_chk70 (v772 : IVec S16 32) : Prop :=
  (∀ a x, ((![v772] : Fin 1 → IVec S16 32) a x).toNat < S48000.size a)
theorem k0_idx70_inb : ∀ (v772 : IVec S16 32) (k0_hw70 : k0_chk70 v772), ∀ a x, ((![v772] : Fin 1 → IVec S16 32) a x).toNat < S48000.size a := fun v772 k0_hw70 => k0_hw70
def k0_off72 (k0_t9 : Fin k0_t9_loop.trips) : Fin 1 → Nat :=
  let c0_i32_75 : BitVec 32 := 0#32
  let c1_i32_77 : BitVec 32 := 1#32
  let arg10 : BitVec 32 := Scf.iv c0_i32_75 c1_i32_77 k0_t9
  let c128_i32 : BitVec 32 := 128#32
  let v740 : BitVec 32 := Scalar.muli arg10 c128_i32
  let c80_i32 : BitVec 32 := 80#32
  let v774 : BitVec 32 := Scalar.addi v740 c80_i32
  let v775 : Index := Scalar.indexCast v774
  ![v775.toNat]

def k0_chk71 (v778 : IVec S16 32) : Prop :=
  (∀ a x, ((![v778] : Fin 1 → IVec S16 32) a x).toNat < S48000.size a)
theorem k0_idx71_inb : ∀ (v778 : IVec S16 32) (k0_hw71 : k0_chk71 v778), ∀ a x, ((![v778] : Fin 1 → IVec S16 32) a x).toNat < S48000.size a := fun v778 k0_hw71 => k0_hw71
def k0_off73 (k0_t9 : Fin k0_t9_loop.trips) : Fin 1 → Nat :=
  let c0_i32_75 : BitVec 32 := 0#32
  let c1_i32_77 : BitVec 32 := 1#32
  let arg10 : BitVec 32 := Scf.iv c0_i32_75 c1_i32_77 k0_t9
  let c128_i32 : BitVec 32 := 128#32
  let v740 : BitVec 32 := Scalar.muli arg10 c128_i32
  let c96_i32_299 : BitVec 32 := 96#32
  let v780 : BitVec 32 := Scalar.addi v740 c96_i32_299
  let v781 : Index := Scalar.indexCast v780
  ![v781.toNat]

def k0_chk72 (v784 : IVec S16 32) : Prop :=
  (∀ a x, ((![v784] : Fin 1 → IVec S16 32) a x).toNat < S48000.size a)
theorem k0_idx72_inb : ∀ (v784 : IVec S16 32) (k0_hw72 : k0_chk72 v784), ∀ a x, ((![v784] : Fin 1 → IVec S16 32) a x).toNat < S48000.size a := fun v784 k0_hw72 => k0_hw72
def k0_off74 (k0_t9 : Fin k0_t9_loop.trips) : Fin 1 → Nat :=
  let c0_i32_75 : BitVec 32 := 0#32
  let c1_i32_77 : BitVec 32 := 1#32
  let arg10 : BitVec 32 := Scf.iv c0_i32_75 c1_i32_77 k0_t9
  let c128_i32 : BitVec 32 := 128#32
  let v740 : BitVec 32 := Scalar.muli arg10 c128_i32
  let c112_i32 : BitVec 32 := 112#32
  let v786 : BitVec 32 := Scalar.addi v740 c112_i32
  let v787 : Index := Scalar.indexCast v786
  ![v787.toNat]
@[reducible] def k0_t10_loop : Scf.Loop 32 :=
  let c0_i32_84 : BitVec 32 := 0#32
  let c125_i32_85 : BitVec 32 := 125#32
  let v224 : BitVec 32 := Scalar.addi c0_i32_84 c125_i32_85
  let c1_i32_86 : BitVec 32 := 1#32
  ⟨c0_i32_84, v224, c1_i32_86⟩

def k0_chk73 (v742 : IVec S16 32) : Prop :=
  (∀ a x, ((![v742] : Fin 1 → IVec S16 32) a x).toNat < S48000.size a)
theorem k0_idx73_inb : ∀ (v742 : IVec S16 32) (k0_hw73 : k0_chk73 v742), ∀ a x, ((![v742] : Fin 1 → IVec S16 32) a x).toNat < S48000.size a := fun v742 k0_hw73 => k0_hw73
def k0_off75 (k0_t10 : Fin k0_t10_loop.trips) : Fin 1 → Nat :=
  let c0_i32_84 : BitVec 32 := 0#32
  let c1_i32_86 : BitVec 32 := 1#32
  let arg10 : BitVec 32 := Scf.iv c0_i32_84 c1_i32_86 k0_t10
  let c128_i32 : BitVec 32 := 128#32
  let v740 : BitVec 32 := Scalar.muli arg10 c128_i32
  let c0_i32_297 : BitVec 32 := 0#32
  let v744 : BitVec 32 := Scalar.addi v740 c0_i32_297
  let v745 : Index := Scalar.indexCast v744
  ![v745.toNat]

def k0_chk74 (v748 : IVec S16 32) : Prop :=
  (∀ a x, ((![v748] : Fin 1 → IVec S16 32) a x).toNat < S48000.size a)
theorem k0_idx74_inb : ∀ (v748 : IVec S16 32) (k0_hw74 : k0_chk74 v748), ∀ a x, ((![v748] : Fin 1 → IVec S16 32) a x).toNat < S48000.size a := fun v748 k0_hw74 => k0_hw74
def k0_off76 (k0_t10 : Fin k0_t10_loop.trips) : Fin 1 → Nat :=
  let c0_i32_84 : BitVec 32 := 0#32
  let c1_i32_86 : BitVec 32 := 1#32
  let arg10 : BitVec 32 := Scf.iv c0_i32_84 c1_i32_86 k0_t10
  let c128_i32 : BitVec 32 := 128#32
  let v740 : BitVec 32 := Scalar.muli arg10 c128_i32
  let c16_i32 : BitVec 32 := 16#32
  let v750 : BitVec 32 := Scalar.addi v740 c16_i32
  let v751 : Index := Scalar.indexCast v750
  ![v751.toNat]

def k0_chk75 (v754 : IVec S16 32) : Prop :=
  (∀ a x, ((![v754] : Fin 1 → IVec S16 32) a x).toNat < S48000.size a)
theorem k0_idx75_inb : ∀ (v754 : IVec S16 32) (k0_hw75 : k0_chk75 v754), ∀ a x, ((![v754] : Fin 1 → IVec S16 32) a x).toNat < S48000.size a := fun v754 k0_hw75 => k0_hw75
def k0_off77 (k0_t10 : Fin k0_t10_loop.trips) : Fin 1 → Nat :=
  let c0_i32_84 : BitVec 32 := 0#32
  let c1_i32_86 : BitVec 32 := 1#32
  let arg10 : BitVec 32 := Scf.iv c0_i32_84 c1_i32_86 k0_t10
  let c128_i32 : BitVec 32 := 128#32
  let v740 : BitVec 32 := Scalar.muli arg10 c128_i32
  let c32_i32 : BitVec 32 := 32#32
  let v756 : BitVec 32 := Scalar.addi v740 c32_i32
  let v757 : Index := Scalar.indexCast v756
  ![v757.toNat]

def k0_chk76 (v760 : IVec S16 32) : Prop :=
  (∀ a x, ((![v760] : Fin 1 → IVec S16 32) a x).toNat < S48000.size a)
theorem k0_idx76_inb : ∀ (v760 : IVec S16 32) (k0_hw76 : k0_chk76 v760), ∀ a x, ((![v760] : Fin 1 → IVec S16 32) a x).toNat < S48000.size a := fun v760 k0_hw76 => k0_hw76
def k0_off78 (k0_t10 : Fin k0_t10_loop.trips) : Fin 1 → Nat :=
  let c0_i32_84 : BitVec 32 := 0#32
  let c1_i32_86 : BitVec 32 := 1#32
  let arg10 : BitVec 32 := Scf.iv c0_i32_84 c1_i32_86 k0_t10
  let c128_i32 : BitVec 32 := 128#32
  let v740 : BitVec 32 := Scalar.muli arg10 c128_i32
  let c48_i32_298 : BitVec 32 := 48#32
  let v762 : BitVec 32 := Scalar.addi v740 c48_i32_298
  let v763 : Index := Scalar.indexCast v762
  ![v763.toNat]

def k0_chk77 (v766 : IVec S16 32) : Prop :=
  (∀ a x, ((![v766] : Fin 1 → IVec S16 32) a x).toNat < S48000.size a)
theorem k0_idx77_inb : ∀ (v766 : IVec S16 32) (k0_hw77 : k0_chk77 v766), ∀ a x, ((![v766] : Fin 1 → IVec S16 32) a x).toNat < S48000.size a := fun v766 k0_hw77 => k0_hw77
def k0_off79 (k0_t10 : Fin k0_t10_loop.trips) : Fin 1 → Nat :=
  let c0_i32_84 : BitVec 32 := 0#32
  let c1_i32_86 : BitVec 32 := 1#32
  let arg10 : BitVec 32 := Scf.iv c0_i32_84 c1_i32_86 k0_t10
  let c128_i32 : BitVec 32 := 128#32
  let v740 : BitVec 32 := Scalar.muli arg10 c128_i32
  let c64_i32 : BitVec 32 := 64#32
  let v768 : BitVec 32 := Scalar.addi v740 c64_i32
  let v769 : Index := Scalar.indexCast v768
  ![v769.toNat]

def k0_chk78 (v772 : IVec S16 32) : Prop :=
  (∀ a x, ((![v772] : Fin 1 → IVec S16 32) a x).toNat < S48000.size a)
theorem k0_idx78_inb : ∀ (v772 : IVec S16 32) (k0_hw78 : k0_chk78 v772), ∀ a x, ((![v772] : Fin 1 → IVec S16 32) a x).toNat < S48000.size a := fun v772 k0_hw78 => k0_hw78
def k0_off80 (k0_t10 : Fin k0_t10_loop.trips) : Fin 1 → Nat :=
  let c0_i32_84 : BitVec 32 := 0#32
  let c1_i32_86 : BitVec 32 := 1#32
  let arg10 : BitVec 32 := Scf.iv c0_i32_84 c1_i32_86 k0_t10
  let c128_i32 : BitVec 32 := 128#32
  let v740 : BitVec 32 := Scalar.muli arg10 c128_i32
  let c80_i32 : BitVec 32 := 80#32
  let v774 : BitVec 32 := Scalar.addi v740 c80_i32
  let v775 : Index := Scalar.indexCast v774
  ![v775.toNat]

def k0_chk79 (v778 : IVec S16 32) : Prop :=
  (∀ a x, ((![v778] : Fin 1 → IVec S16 32) a x).toNat < S48000.size a)
theorem k0_idx79_inb : ∀ (v778 : IVec S16 32) (k0_hw79 : k0_chk79 v778), ∀ a x, ((![v778] : Fin 1 → IVec S16 32) a x).toNat < S48000.size a := fun v778 k0_hw79 => k0_hw79
def k0_off81 (k0_t10 : Fin k0_t10_loop.trips) : Fin 1 → Nat :=
  let c0_i32_84 : BitVec 32 := 0#32
  let c1_i32_86 : BitVec 32 := 1#32
  let arg10 : BitVec 32 := Scf.iv c0_i32_84 c1_i32_86 k0_t10
  let c128_i32 : BitVec 32 := 128#32
  let v740 : BitVec 32 := Scalar.muli arg10 c128_i32
  let c96_i32_299 : BitVec 32 := 96#32
  let v780 : BitVec 32 := Scalar.addi v740 c96_i32_299
  let v781 : Index := Scalar.indexCast v780
  ![v781.toNat]

def k0_chk80 (v784 : IVec S16 32) : Prop :=
  (∀ a x, ((![v784] : Fin 1 → IVec S16 32) a x).toNat < S48000.size a)
theorem k0_idx80_inb : ∀ (v784 : IVec S16 32) (k0_hw80 : k0_chk80 v784), ∀ a x, ((![v784] : Fin 1 → IVec S16 32) a x).toNat < S48000.size a := fun v784 k0_hw80 => k0_hw80
def k0_off82 (k0_t10 : Fin k0_t10_loop.trips) : Fin 1 → Nat :=
  let c0_i32_84 : BitVec 32 := 0#32
  let c1_i32_86 : BitVec 32 := 1#32
  let arg10 : BitVec 32 := Scf.iv c0_i32_84 c1_i32_86 k0_t10
  let c128_i32 : BitVec 32 := 128#32
  let v740 : BitVec 32 := Scalar.muli arg10 c128_i32
  let c112_i32 : BitVec 32 := 112#32
  let v786 : BitVec 32 := Scalar.addi v740 c112_i32
  let v787 : Index := Scalar.indexCast v786
  ![v787.toNat]
@[reducible] def k0_t11_loop : Scf.Loop 32 :=
  let c0_i32_94 : BitVec 32 := 0#32
  let c125_i32_95 : BitVec 32 := 125#32
  let v247 : BitVec 32 := Scalar.addi c0_i32_94 c125_i32_95
  let c1_i32_96 : BitVec 32 := 1#32
  ⟨c0_i32_94, v247, c1_i32_96⟩

def k0_chk81 (v742 : IVec S16 32) : Prop :=
  (∀ a x, ((![v742] : Fin 1 → IVec S16 32) a x).toNat < S48000.size a)
theorem k0_idx81_inb : ∀ (v742 : IVec S16 32) (k0_hw81 : k0_chk81 v742), ∀ a x, ((![v742] : Fin 1 → IVec S16 32) a x).toNat < S48000.size a := fun v742 k0_hw81 => k0_hw81
def k0_off83 (k0_t11 : Fin k0_t11_loop.trips) : Fin 1 → Nat :=
  let c0_i32_94 : BitVec 32 := 0#32
  let c1_i32_96 : BitVec 32 := 1#32
  let arg10 : BitVec 32 := Scf.iv c0_i32_94 c1_i32_96 k0_t11
  let c128_i32 : BitVec 32 := 128#32
  let v740 : BitVec 32 := Scalar.muli arg10 c128_i32
  let c0_i32_297 : BitVec 32 := 0#32
  let v744 : BitVec 32 := Scalar.addi v740 c0_i32_297
  let v745 : Index := Scalar.indexCast v744
  ![v745.toNat]

def k0_chk82 (v748 : IVec S16 32) : Prop :=
  (∀ a x, ((![v748] : Fin 1 → IVec S16 32) a x).toNat < S48000.size a)
theorem k0_idx82_inb : ∀ (v748 : IVec S16 32) (k0_hw82 : k0_chk82 v748), ∀ a x, ((![v748] : Fin 1 → IVec S16 32) a x).toNat < S48000.size a := fun v748 k0_hw82 => k0_hw82
def k0_off84 (k0_t11 : Fin k0_t11_loop.trips) : Fin 1 → Nat :=
  let c0_i32_94 : BitVec 32 := 0#32
  let c1_i32_96 : BitVec 32 := 1#32
  let arg10 : BitVec 32 := Scf.iv c0_i32_94 c1_i32_96 k0_t11
  let c128_i32 : BitVec 32 := 128#32
  let v740 : BitVec 32 := Scalar.muli arg10 c128_i32
  let c16_i32 : BitVec 32 := 16#32
  let v750 : BitVec 32 := Scalar.addi v740 c16_i32
  let v751 : Index := Scalar.indexCast v750
  ![v751.toNat]

def k0_chk83 (v754 : IVec S16 32) : Prop :=
  (∀ a x, ((![v754] : Fin 1 → IVec S16 32) a x).toNat < S48000.size a)
theorem k0_idx83_inb : ∀ (v754 : IVec S16 32) (k0_hw83 : k0_chk83 v754), ∀ a x, ((![v754] : Fin 1 → IVec S16 32) a x).toNat < S48000.size a := fun v754 k0_hw83 => k0_hw83
def k0_off85 (k0_t11 : Fin k0_t11_loop.trips) : Fin 1 → Nat :=
  let c0_i32_94 : BitVec 32 := 0#32
  let c1_i32_96 : BitVec 32 := 1#32
  let arg10 : BitVec 32 := Scf.iv c0_i32_94 c1_i32_96 k0_t11
  let c128_i32 : BitVec 32 := 128#32
  let v740 : BitVec 32 := Scalar.muli arg10 c128_i32
  let c32_i32 : BitVec 32 := 32#32
  let v756 : BitVec 32 := Scalar.addi v740 c32_i32
  let v757 : Index := Scalar.indexCast v756
  ![v757.toNat]

def k0_chk84 (v760 : IVec S16 32) : Prop :=
  (∀ a x, ((![v760] : Fin 1 → IVec S16 32) a x).toNat < S48000.size a)
theorem k0_idx84_inb : ∀ (v760 : IVec S16 32) (k0_hw84 : k0_chk84 v760), ∀ a x, ((![v760] : Fin 1 → IVec S16 32) a x).toNat < S48000.size a := fun v760 k0_hw84 => k0_hw84
def k0_off86 (k0_t11 : Fin k0_t11_loop.trips) : Fin 1 → Nat :=
  let c0_i32_94 : BitVec 32 := 0#32
  let c1_i32_96 : BitVec 32 := 1#32
  let arg10 : BitVec 32 := Scf.iv c0_i32_94 c1_i32_96 k0_t11
  let c128_i32 : BitVec 32 := 128#32
  let v740 : BitVec 32 := Scalar.muli arg10 c128_i32
  let c48_i32_298 : BitVec 32 := 48#32
  let v762 : BitVec 32 := Scalar.addi v740 c48_i32_298
  let v763 : Index := Scalar.indexCast v762
  ![v763.toNat]

def k0_chk85 (v766 : IVec S16 32) : Prop :=
  (∀ a x, ((![v766] : Fin 1 → IVec S16 32) a x).toNat < S48000.size a)
theorem k0_idx85_inb : ∀ (v766 : IVec S16 32) (k0_hw85 : k0_chk85 v766), ∀ a x, ((![v766] : Fin 1 → IVec S16 32) a x).toNat < S48000.size a := fun v766 k0_hw85 => k0_hw85
def k0_off87 (k0_t11 : Fin k0_t11_loop.trips) : Fin 1 → Nat :=
  let c0_i32_94 : BitVec 32 := 0#32
  let c1_i32_96 : BitVec 32 := 1#32
  let arg10 : BitVec 32 := Scf.iv c0_i32_94 c1_i32_96 k0_t11
  let c128_i32 : BitVec 32 := 128#32
  let v740 : BitVec 32 := Scalar.muli arg10 c128_i32
  let c64_i32 : BitVec 32 := 64#32
  let v768 : BitVec 32 := Scalar.addi v740 c64_i32
  let v769 : Index := Scalar.indexCast v768
  ![v769.toNat]

def k0_chk86 (v772 : IVec S16 32) : Prop :=
  (∀ a x, ((![v772] : Fin 1 → IVec S16 32) a x).toNat < S48000.size a)
theorem k0_idx86_inb : ∀ (v772 : IVec S16 32) (k0_hw86 : k0_chk86 v772), ∀ a x, ((![v772] : Fin 1 → IVec S16 32) a x).toNat < S48000.size a := fun v772 k0_hw86 => k0_hw86
def k0_off88 (k0_t11 : Fin k0_t11_loop.trips) : Fin 1 → Nat :=
  let c0_i32_94 : BitVec 32 := 0#32
  let c1_i32_96 : BitVec 32 := 1#32
  let arg10 : BitVec 32 := Scf.iv c0_i32_94 c1_i32_96 k0_t11
  let c128_i32 : BitVec 32 := 128#32
  let v740 : BitVec 32 := Scalar.muli arg10 c128_i32
  let c80_i32 : BitVec 32 := 80#32
  let v774 : BitVec 32 := Scalar.addi v740 c80_i32
  let v775 : Index := Scalar.indexCast v774
  ![v775.toNat]

def k0_chk87 (v778 : IVec S16 32) : Prop :=
  (∀ a x, ((![v778] : Fin 1 → IVec S16 32) a x).toNat < S48000.size a)
theorem k0_idx87_inb : ∀ (v778 : IVec S16 32) (k0_hw87 : k0_chk87 v778), ∀ a x, ((![v778] : Fin 1 → IVec S16 32) a x).toNat < S48000.size a := fun v778 k0_hw87 => k0_hw87
def k0_off89 (k0_t11 : Fin k0_t11_loop.trips) : Fin 1 → Nat :=
  let c0_i32_94 : BitVec 32 := 0#32
  let c1_i32_96 : BitVec 32 := 1#32
  let arg10 : BitVec 32 := Scf.iv c0_i32_94 c1_i32_96 k0_t11
  let c128_i32 : BitVec 32 := 128#32
  let v740 : BitVec 32 := Scalar.muli arg10 c128_i32
  let c96_i32_299 : BitVec 32 := 96#32
  let v780 : BitVec 32 := Scalar.addi v740 c96_i32_299
  let v781 : Index := Scalar.indexCast v780
  ![v781.toNat]

def k0_chk88 (v784 : IVec S16 32) : Prop :=
  (∀ a x, ((![v784] : Fin 1 → IVec S16 32) a x).toNat < S48000.size a)
theorem k0_idx88_inb : ∀ (v784 : IVec S16 32) (k0_hw88 : k0_chk88 v784), ∀ a x, ((![v784] : Fin 1 → IVec S16 32) a x).toNat < S48000.size a := fun v784 k0_hw88 => k0_hw88
def k0_off90 (k0_t11 : Fin k0_t11_loop.trips) : Fin 1 → Nat :=
  let c0_i32_94 : BitVec 32 := 0#32
  let c1_i32_96 : BitVec 32 := 1#32
  let arg10 : BitVec 32 := Scf.iv c0_i32_94 c1_i32_96 k0_t11
  let c128_i32 : BitVec 32 := 128#32
  let v740 : BitVec 32 := Scalar.muli arg10 c128_i32
  let c112_i32 : BitVec 32 := 112#32
  let v786 : BitVec 32 := Scalar.addi v740 c112_i32
  let v787 : Index := Scalar.indexCast v786
  ![v787.toNat]
@[reducible] def k0_t12_loop : Scf.Loop 32 :=
  let c0_i32_103 : BitVec 32 := 0#32
  let c125_i32_104 : BitVec 32 := 125#32
  let v270 : BitVec 32 := Scalar.addi c0_i32_103 c125_i32_104
  let c1_i32_105 : BitVec 32 := 1#32
  ⟨c0_i32_103, v270, c1_i32_105⟩

def k0_chk89 (v742 : IVec S16 32) : Prop :=
  (∀ a x, ((![v742] : Fin 1 → IVec S16 32) a x).toNat < S48000.size a)
theorem k0_idx89_inb : ∀ (v742 : IVec S16 32) (k0_hw89 : k0_chk89 v742), ∀ a x, ((![v742] : Fin 1 → IVec S16 32) a x).toNat < S48000.size a := fun v742 k0_hw89 => k0_hw89
def k0_off91 (k0_t12 : Fin k0_t12_loop.trips) : Fin 1 → Nat :=
  let c0_i32_103 : BitVec 32 := 0#32
  let c1_i32_105 : BitVec 32 := 1#32
  let arg10 : BitVec 32 := Scf.iv c0_i32_103 c1_i32_105 k0_t12
  let c128_i32 : BitVec 32 := 128#32
  let v740 : BitVec 32 := Scalar.muli arg10 c128_i32
  let c0_i32_297 : BitVec 32 := 0#32
  let v744 : BitVec 32 := Scalar.addi v740 c0_i32_297
  let v745 : Index := Scalar.indexCast v744
  ![v745.toNat]

def k0_chk90 (v748 : IVec S16 32) : Prop :=
  (∀ a x, ((![v748] : Fin 1 → IVec S16 32) a x).toNat < S48000.size a)
theorem k0_idx90_inb : ∀ (v748 : IVec S16 32) (k0_hw90 : k0_chk90 v748), ∀ a x, ((![v748] : Fin 1 → IVec S16 32) a x).toNat < S48000.size a := fun v748 k0_hw90 => k0_hw90
def k0_off92 (k0_t12 : Fin k0_t12_loop.trips) : Fin 1 → Nat :=
  let c0_i32_103 : BitVec 32 := 0#32
  let c1_i32_105 : BitVec 32 := 1#32
  let arg10 : BitVec 32 := Scf.iv c0_i32_103 c1_i32_105 k0_t12
  let c128_i32 : BitVec 32 := 128#32
  let v740 : BitVec 32 := Scalar.muli arg10 c128_i32
  let c16_i32 : BitVec 32 := 16#32
  let v750 : BitVec 32 := Scalar.addi v740 c16_i32
  let v751 : Index := Scalar.indexCast v750
  ![v751.toNat]

def k0_chk91 (v754 : IVec S16 32) : Prop :=
  (∀ a x, ((![v754] : Fin 1 → IVec S16 32) a x).toNat < S48000.size a)
theorem k0_idx91_inb : ∀ (v754 : IVec S16 32) (k0_hw91 : k0_chk91 v754), ∀ a x, ((![v754] : Fin 1 → IVec S16 32) a x).toNat < S48000.size a := fun v754 k0_hw91 => k0_hw91
def k0_off93 (k0_t12 : Fin k0_t12_loop.trips) : Fin 1 → Nat :=
  let c0_i32_103 : BitVec 32 := 0#32
  let c1_i32_105 : BitVec 32 := 1#32
  let arg10 : BitVec 32 := Scf.iv c0_i32_103 c1_i32_105 k0_t12
  let c128_i32 : BitVec 32 := 128#32
  let v740 : BitVec 32 := Scalar.muli arg10 c128_i32
  let c32_i32 : BitVec 32 := 32#32
  let v756 : BitVec 32 := Scalar.addi v740 c32_i32
  let v757 : Index := Scalar.indexCast v756
  ![v757.toNat]

def k0_chk92 (v760 : IVec S16 32) : Prop :=
  (∀ a x, ((![v760] : Fin 1 → IVec S16 32) a x).toNat < S48000.size a)
theorem k0_idx92_inb : ∀ (v760 : IVec S16 32) (k0_hw92 : k0_chk92 v760), ∀ a x, ((![v760] : Fin 1 → IVec S16 32) a x).toNat < S48000.size a := fun v760 k0_hw92 => k0_hw92
def k0_off94 (k0_t12 : Fin k0_t12_loop.trips) : Fin 1 → Nat :=
  let c0_i32_103 : BitVec 32 := 0#32
  let c1_i32_105 : BitVec 32 := 1#32
  let arg10 : BitVec 32 := Scf.iv c0_i32_103 c1_i32_105 k0_t12
  let c128_i32 : BitVec 32 := 128#32
  let v740 : BitVec 32 := Scalar.muli arg10 c128_i32
  let c48_i32_298 : BitVec 32 := 48#32
  let v762 : BitVec 32 := Scalar.addi v740 c48_i32_298
  let v763 : Index := Scalar.indexCast v762
  ![v763.toNat]

def k0_chk93 (v766 : IVec S16 32) : Prop :=
  (∀ a x, ((![v766] : Fin 1 → IVec S16 32) a x).toNat < S48000.size a)
theorem k0_idx93_inb : ∀ (v766 : IVec S16 32) (k0_hw93 : k0_chk93 v766), ∀ a x, ((![v766] : Fin 1 → IVec S16 32) a x).toNat < S48000.size a := fun v766 k0_hw93 => k0_hw93
def k0_off95 (k0_t12 : Fin k0_t12_loop.trips) : Fin 1 → Nat :=
  let c0_i32_103 : BitVec 32 := 0#32
  let c1_i32_105 : BitVec 32 := 1#32
  let arg10 : BitVec 32 := Scf.iv c0_i32_103 c1_i32_105 k0_t12
  let c128_i32 : BitVec 32 := 128#32
  let v740 : BitVec 32 := Scalar.muli arg10 c128_i32
  let c64_i32 : BitVec 32 := 64#32
  let v768 : BitVec 32 := Scalar.addi v740 c64_i32
  let v769 : Index := Scalar.indexCast v768
  ![v769.toNat]

def k0_chk94 (v772 : IVec S16 32) : Prop :=
  (∀ a x, ((![v772] : Fin 1 → IVec S16 32) a x).toNat < S48000.size a)
theorem k0_idx94_inb : ∀ (v772 : IVec S16 32) (k0_hw94 : k0_chk94 v772), ∀ a x, ((![v772] : Fin 1 → IVec S16 32) a x).toNat < S48000.size a := fun v772 k0_hw94 => k0_hw94
def k0_off96 (k0_t12 : Fin k0_t12_loop.trips) : Fin 1 → Nat :=
  let c0_i32_103 : BitVec 32 := 0#32
  let c1_i32_105 : BitVec 32 := 1#32
  let arg10 : BitVec 32 := Scf.iv c0_i32_103 c1_i32_105 k0_t12
  let c128_i32 : BitVec 32 := 128#32
  let v740 : BitVec 32 := Scalar.muli arg10 c128_i32
  let c80_i32 : BitVec 32 := 80#32
  let v774 : BitVec 32 := Scalar.addi v740 c80_i32
  let v775 : Index := Scalar.indexCast v774
  ![v775.toNat]

def k0_chk95 (v778 : IVec S16 32) : Prop :=
  (∀ a x, ((![v778] : Fin 1 → IVec S16 32) a x).toNat < S48000.size a)
theorem k0_idx95_inb : ∀ (v778 : IVec S16 32) (k0_hw95 : k0_chk95 v778), ∀ a x, ((![v778] : Fin 1 → IVec S16 32) a x).toNat < S48000.size a := fun v778 k0_hw95 => k0_hw95
def k0_off97 (k0_t12 : Fin k0_t12_loop.trips) : Fin 1 → Nat :=
  let c0_i32_103 : BitVec 32 := 0#32
  let c1_i32_105 : BitVec 32 := 1#32
  let arg10 : BitVec 32 := Scf.iv c0_i32_103 c1_i32_105 k0_t12
  let c128_i32 : BitVec 32 := 128#32
  let v740 : BitVec 32 := Scalar.muli arg10 c128_i32
  let c96_i32_299 : BitVec 32 := 96#32
  let v780 : BitVec 32 := Scalar.addi v740 c96_i32_299
  let v781 : Index := Scalar.indexCast v780
  ![v781.toNat]

def k0_chk96 (v784 : IVec S16 32) : Prop :=
  (∀ a x, ((![v784] : Fin 1 → IVec S16 32) a x).toNat < S48000.size a)
theorem k0_idx96_inb : ∀ (v784 : IVec S16 32) (k0_hw96 : k0_chk96 v784), ∀ a x, ((![v784] : Fin 1 → IVec S16 32) a x).toNat < S48000.size a := fun v784 k0_hw96 => k0_hw96
def k0_off98 (k0_t12 : Fin k0_t12_loop.trips) : Fin 1 → Nat :=
  let c0_i32_103 : BitVec 32 := 0#32
  let c1_i32_105 : BitVec 32 := 1#32
  let arg10 : BitVec 32 := Scf.iv c0_i32_103 c1_i32_105 k0_t12
  let c128_i32 : BitVec 32 := 128#32
  let v740 : BitVec 32 := Scalar.muli arg10 c128_i32
  let c112_i32 : BitVec 32 := 112#32
  let v786 : BitVec 32 := Scalar.addi v740 c112_i32
  let v787 : Index := Scalar.indexCast v786
  ![v787.toNat]
@[reducible] def k0_t13_loop : Scf.Loop 32 :=
  let c0_i32_112 : BitVec 32 := 0#32
  let c125_i32_113 : BitVec 32 := 125#32
  let v293 : BitVec 32 := Scalar.addi c0_i32_112 c125_i32_113
  let c1_i32_114 : BitVec 32 := 1#32
  ⟨c0_i32_112, v293, c1_i32_114⟩

def k0_chk97 (v742 : IVec S16 32) : Prop :=
  (∀ a x, ((![v742] : Fin 1 → IVec S16 32) a x).toNat < S48000.size a)
theorem k0_idx97_inb : ∀ (v742 : IVec S16 32) (k0_hw97 : k0_chk97 v742), ∀ a x, ((![v742] : Fin 1 → IVec S16 32) a x).toNat < S48000.size a := fun v742 k0_hw97 => k0_hw97
def k0_off99 (k0_t13 : Fin k0_t13_loop.trips) : Fin 1 → Nat :=
  let c0_i32_112 : BitVec 32 := 0#32
  let c1_i32_114 : BitVec 32 := 1#32
  let arg10 : BitVec 32 := Scf.iv c0_i32_112 c1_i32_114 k0_t13
  let c128_i32 : BitVec 32 := 128#32
  let v740 : BitVec 32 := Scalar.muli arg10 c128_i32
  let c0_i32_297 : BitVec 32 := 0#32
  let v744 : BitVec 32 := Scalar.addi v740 c0_i32_297
  let v745 : Index := Scalar.indexCast v744
  ![v745.toNat]

def k0_chk98 (v748 : IVec S16 32) : Prop :=
  (∀ a x, ((![v748] : Fin 1 → IVec S16 32) a x).toNat < S48000.size a)
theorem k0_idx98_inb : ∀ (v748 : IVec S16 32) (k0_hw98 : k0_chk98 v748), ∀ a x, ((![v748] : Fin 1 → IVec S16 32) a x).toNat < S48000.size a := fun v748 k0_hw98 => k0_hw98
def k0_off100 (k0_t13 : Fin k0_t13_loop.trips) : Fin 1 → Nat :=
  let c0_i32_112 : BitVec 32 := 0#32
  let c1_i32_114 : BitVec 32 := 1#32
  let arg10 : BitVec 32 := Scf.iv c0_i32_112 c1_i32_114 k0_t13
  let c128_i32 : BitVec 32 := 128#32
  let v740 : BitVec 32 := Scalar.muli arg10 c128_i32
  let c16_i32 : BitVec 32 := 16#32
  let v750 : BitVec 32 := Scalar.addi v740 c16_i32
  let v751 : Index := Scalar.indexCast v750
  ![v751.toNat]

def k0_chk99 (v754 : IVec S16 32) : Prop :=
  (∀ a x, ((![v754] : Fin 1 → IVec S16 32) a x).toNat < S48000.size a)
theorem k0_idx99_inb : ∀ (v754 : IVec S16 32) (k0_hw99 : k0_chk99 v754), ∀ a x, ((![v754] : Fin 1 → IVec S16 32) a x).toNat < S48000.size a := fun v754 k0_hw99 => k0_hw99
def k0_off101 (k0_t13 : Fin k0_t13_loop.trips) : Fin 1 → Nat :=
  let c0_i32_112 : BitVec 32 := 0#32
  let c1_i32_114 : BitVec 32 := 1#32
  let arg10 : BitVec 32 := Scf.iv c0_i32_112 c1_i32_114 k0_t13
  let c128_i32 : BitVec 32 := 128#32
  let v740 : BitVec 32 := Scalar.muli arg10 c128_i32
  let c32_i32 : BitVec 32 := 32#32
  let v756 : BitVec 32 := Scalar.addi v740 c32_i32
  let v757 : Index := Scalar.indexCast v756
  ![v757.toNat]

def k0_chk100 (v760 : IVec S16 32) : Prop :=
  (∀ a x, ((![v760] : Fin 1 → IVec S16 32) a x).toNat < S48000.size a)
theorem k0_idx100_inb : ∀ (v760 : IVec S16 32) (k0_hw100 : k0_chk100 v760), ∀ a x, ((![v760] : Fin 1 → IVec S16 32) a x).toNat < S48000.size a := fun v760 k0_hw100 => k0_hw100
def k0_off102 (k0_t13 : Fin k0_t13_loop.trips) : Fin 1 → Nat :=
  let c0_i32_112 : BitVec 32 := 0#32
  let c1_i32_114 : BitVec 32 := 1#32
  let arg10 : BitVec 32 := Scf.iv c0_i32_112 c1_i32_114 k0_t13
  let c128_i32 : BitVec 32 := 128#32
  let v740 : BitVec 32 := Scalar.muli arg10 c128_i32
  let c48_i32_298 : BitVec 32 := 48#32
  let v762 : BitVec 32 := Scalar.addi v740 c48_i32_298
  let v763 : Index := Scalar.indexCast v762
  ![v763.toNat]

def k0_chk101 (v766 : IVec S16 32) : Prop :=
  (∀ a x, ((![v766] : Fin 1 → IVec S16 32) a x).toNat < S48000.size a)
theorem k0_idx101_inb : ∀ (v766 : IVec S16 32) (k0_hw101 : k0_chk101 v766), ∀ a x, ((![v766] : Fin 1 → IVec S16 32) a x).toNat < S48000.size a := fun v766 k0_hw101 => k0_hw101
def k0_off103 (k0_t13 : Fin k0_t13_loop.trips) : Fin 1 → Nat :=
  let c0_i32_112 : BitVec 32 := 0#32
  let c1_i32_114 : BitVec 32 := 1#32
  let arg10 : BitVec 32 := Scf.iv c0_i32_112 c1_i32_114 k0_t13
  let c128_i32 : BitVec 32 := 128#32
  let v740 : BitVec 32 := Scalar.muli arg10 c128_i32
  let c64_i32 : BitVec 32 := 64#32
  let v768 : BitVec 32 := Scalar.addi v740 c64_i32
  let v769 : Index := Scalar.indexCast v768
  ![v769.toNat]

def k0_chk102 (v772 : IVec S16 32) : Prop :=
  (∀ a x, ((![v772] : Fin 1 → IVec S16 32) a x).toNat < S48000.size a)
theorem k0_idx102_inb : ∀ (v772 : IVec S16 32) (k0_hw102 : k0_chk102 v772), ∀ a x, ((![v772] : Fin 1 → IVec S16 32) a x).toNat < S48000.size a := fun v772 k0_hw102 => k0_hw102
def k0_off104 (k0_t13 : Fin k0_t13_loop.trips) : Fin 1 → Nat :=
  let c0_i32_112 : BitVec 32 := 0#32
  let c1_i32_114 : BitVec 32 := 1#32
  let arg10 : BitVec 32 := Scf.iv c0_i32_112 c1_i32_114 k0_t13
  let c128_i32 : BitVec 32 := 128#32
  let v740 : BitVec 32 := Scalar.muli arg10 c128_i32
  let c80_i32 : BitVec 32 := 80#32
  let v774 : BitVec 32 := Scalar.addi v740 c80_i32
  let v775 : Index := Scalar.indexCast v774
  ![v775.toNat]

def k0_chk103 (v778 : IVec S16 32) : Prop :=
  (∀ a x, ((![v778] : Fin 1 → IVec S16 32) a x).toNat < S48000.size a)
theorem k0_idx103_inb : ∀ (v778 : IVec S16 32) (k0_hw103 : k0_chk103 v778), ∀ a x, ((![v778] : Fin 1 → IVec S16 32) a x).toNat < S48000.size a := fun v778 k0_hw103 => k0_hw103
def k0_off105 (k0_t13 : Fin k0_t13_loop.trips) : Fin 1 → Nat :=
  let c0_i32_112 : BitVec 32 := 0#32
  let c1_i32_114 : BitVec 32 := 1#32
  let arg10 : BitVec 32 := Scf.iv c0_i32_112 c1_i32_114 k0_t13
  let c128_i32 : BitVec 32 := 128#32
  let v740 : BitVec 32 := Scalar.muli arg10 c128_i32
  let c96_i32_299 : BitVec 32 := 96#32
  let v780 : BitVec 32 := Scalar.addi v740 c96_i32_299
  let v781 : Index := Scalar.indexCast v780
  ![v781.toNat]

def k0_chk104 (v784 : IVec S16 32) : Prop :=
  (∀ a x, ((![v784] : Fin 1 → IVec S16 32) a x).toNat < S48000.size a)
theorem k0_idx104_inb : ∀ (v784 : IVec S16 32) (k0_hw104 : k0_chk104 v784), ∀ a x, ((![v784] : Fin 1 → IVec S16 32) a x).toNat < S48000.size a := fun v784 k0_hw104 => k0_hw104
def k0_off106 (k0_t13 : Fin k0_t13_loop.trips) : Fin 1 → Nat :=
  let c0_i32_112 : BitVec 32 := 0#32
  let c1_i32_114 : BitVec 32 := 1#32
  let arg10 : BitVec 32 := Scf.iv c0_i32_112 c1_i32_114 k0_t13
  let c128_i32 : BitVec 32 := 128#32
  let v740 : BitVec 32 := Scalar.muli arg10 c128_i32
  let c112_i32 : BitVec 32 := 112#32
  let v786 : BitVec 32 := Scalar.addi v740 c112_i32
  let v787 : Index := Scalar.indexCast v786
  ![v787.toNat]
@[reducible] def k0_t14_loop : Scf.Loop 32 :=
  let c0_i32_122 : BitVec 32 := 0#32
  let c125_i32_123 : BitVec 32 := 125#32
  let v316 : BitVec 32 := Scalar.addi c0_i32_122 c125_i32_123
  let c1_i32_124 : BitVec 32 := 1#32
  ⟨c0_i32_122, v316, c1_i32_124⟩

def k0_chk105 (v742 : IVec S16 32) : Prop :=
  (∀ a x, ((![v742] : Fin 1 → IVec S16 32) a x).toNat < S48000.size a)
theorem k0_idx105_inb : ∀ (v742 : IVec S16 32) (k0_hw105 : k0_chk105 v742), ∀ a x, ((![v742] : Fin 1 → IVec S16 32) a x).toNat < S48000.size a := fun v742 k0_hw105 => k0_hw105
def k0_off107 (k0_t14 : Fin k0_t14_loop.trips) : Fin 1 → Nat :=
  let c0_i32_122 : BitVec 32 := 0#32
  let c1_i32_124 : BitVec 32 := 1#32
  let arg10 : BitVec 32 := Scf.iv c0_i32_122 c1_i32_124 k0_t14
  let c128_i32 : BitVec 32 := 128#32
  let v740 : BitVec 32 := Scalar.muli arg10 c128_i32
  let c0_i32_297 : BitVec 32 := 0#32
  let v744 : BitVec 32 := Scalar.addi v740 c0_i32_297
  let v745 : Index := Scalar.indexCast v744
  ![v745.toNat]

def k0_chk106 (v748 : IVec S16 32) : Prop :=
  (∀ a x, ((![v748] : Fin 1 → IVec S16 32) a x).toNat < S48000.size a)
theorem k0_idx106_inb : ∀ (v748 : IVec S16 32) (k0_hw106 : k0_chk106 v748), ∀ a x, ((![v748] : Fin 1 → IVec S16 32) a x).toNat < S48000.size a := fun v748 k0_hw106 => k0_hw106
def k0_off108 (k0_t14 : Fin k0_t14_loop.trips) : Fin 1 → Nat :=
  let c0_i32_122 : BitVec 32 := 0#32
  let c1_i32_124 : BitVec 32 := 1#32
  let arg10 : BitVec 32 := Scf.iv c0_i32_122 c1_i32_124 k0_t14
  let c128_i32 : BitVec 32 := 128#32
  let v740 : BitVec 32 := Scalar.muli arg10 c128_i32
  let c16_i32 : BitVec 32 := 16#32
  let v750 : BitVec 32 := Scalar.addi v740 c16_i32
  let v751 : Index := Scalar.indexCast v750
  ![v751.toNat]

def k0_chk107 (v754 : IVec S16 32) : Prop :=
  (∀ a x, ((![v754] : Fin 1 → IVec S16 32) a x).toNat < S48000.size a)
theorem k0_idx107_inb : ∀ (v754 : IVec S16 32) (k0_hw107 : k0_chk107 v754), ∀ a x, ((![v754] : Fin 1 → IVec S16 32) a x).toNat < S48000.size a := fun v754 k0_hw107 => k0_hw107
def k0_off109 (k0_t14 : Fin k0_t14_loop.trips) : Fin 1 → Nat :=
  let c0_i32_122 : BitVec 32 := 0#32
  let c1_i32_124 : BitVec 32 := 1#32
  let arg10 : BitVec 32 := Scf.iv c0_i32_122 c1_i32_124 k0_t14
  let c128_i32 : BitVec 32 := 128#32
  let v740 : BitVec 32 := Scalar.muli arg10 c128_i32
  let c32_i32 : BitVec 32 := 32#32
  let v756 : BitVec 32 := Scalar.addi v740 c32_i32
  let v757 : Index := Scalar.indexCast v756
  ![v757.toNat]

def k0_chk108 (v760 : IVec S16 32) : Prop :=
  (∀ a x, ((![v760] : Fin 1 → IVec S16 32) a x).toNat < S48000.size a)
theorem k0_idx108_inb : ∀ (v760 : IVec S16 32) (k0_hw108 : k0_chk108 v760), ∀ a x, ((![v760] : Fin 1 → IVec S16 32) a x).toNat < S48000.size a := fun v760 k0_hw108 => k0_hw108
def k0_off110 (k0_t14 : Fin k0_t14_loop.trips) : Fin 1 → Nat :=
  let c0_i32_122 : BitVec 32 := 0#32
  let c1_i32_124 : BitVec 32 := 1#32
  let arg10 : BitVec 32 := Scf.iv c0_i32_122 c1_i32_124 k0_t14
  let c128_i32 : BitVec 32 := 128#32
  let v740 : BitVec 32 := Scalar.muli arg10 c128_i32
  let c48_i32_298 : BitVec 32 := 48#32
  let v762 : BitVec 32 := Scalar.addi v740 c48_i32_298
  let v763 : Index := Scalar.indexCast v762
  ![v763.toNat]

def k0_chk109 (v766 : IVec S16 32) : Prop :=
  (∀ a x, ((![v766] : Fin 1 → IVec S16 32) a x).toNat < S48000.size a)
theorem k0_idx109_inb : ∀ (v766 : IVec S16 32) (k0_hw109 : k0_chk109 v766), ∀ a x, ((![v766] : Fin 1 → IVec S16 32) a x).toNat < S48000.size a := fun v766 k0_hw109 => k0_hw109
def k0_off111 (k0_t14 : Fin k0_t14_loop.trips) : Fin 1 → Nat :=
  let c0_i32_122 : BitVec 32 := 0#32
  let c1_i32_124 : BitVec 32 := 1#32
  let arg10 : BitVec 32 := Scf.iv c0_i32_122 c1_i32_124 k0_t14
  let c128_i32 : BitVec 32 := 128#32
  let v740 : BitVec 32 := Scalar.muli arg10 c128_i32
  let c64_i32 : BitVec 32 := 64#32
  let v768 : BitVec 32 := Scalar.addi v740 c64_i32
  let v769 : Index := Scalar.indexCast v768
  ![v769.toNat]

def k0_chk110 (v772 : IVec S16 32) : Prop :=
  (∀ a x, ((![v772] : Fin 1 → IVec S16 32) a x).toNat < S48000.size a)
theorem k0_idx110_inb : ∀ (v772 : IVec S16 32) (k0_hw110 : k0_chk110 v772), ∀ a x, ((![v772] : Fin 1 → IVec S16 32) a x).toNat < S48000.size a := fun v772 k0_hw110 => k0_hw110
def k0_off112 (k0_t14 : Fin k0_t14_loop.trips) : Fin 1 → Nat :=
  let c0_i32_122 : BitVec 32 := 0#32
  let c1_i32_124 : BitVec 32 := 1#32
  let arg10 : BitVec 32 := Scf.iv c0_i32_122 c1_i32_124 k0_t14
  let c128_i32 : BitVec 32 := 128#32
  let v740 : BitVec 32 := Scalar.muli arg10 c128_i32
  let c80_i32 : BitVec 32 := 80#32
  let v774 : BitVec 32 := Scalar.addi v740 c80_i32
  let v775 : Index := Scalar.indexCast v774
  ![v775.toNat]

def k0_chk111 (v778 : IVec S16 32) : Prop :=
  (∀ a x, ((![v778] : Fin 1 → IVec S16 32) a x).toNat < S48000.size a)
theorem k0_idx111_inb : ∀ (v778 : IVec S16 32) (k0_hw111 : k0_chk111 v778), ∀ a x, ((![v778] : Fin 1 → IVec S16 32) a x).toNat < S48000.size a := fun v778 k0_hw111 => k0_hw111
def k0_off113 (k0_t14 : Fin k0_t14_loop.trips) : Fin 1 → Nat :=
  let c0_i32_122 : BitVec 32 := 0#32
  let c1_i32_124 : BitVec 32 := 1#32
  let arg10 : BitVec 32 := Scf.iv c0_i32_122 c1_i32_124 k0_t14
  let c128_i32 : BitVec 32 := 128#32
  let v740 : BitVec 32 := Scalar.muli arg10 c128_i32
  let c96_i32_299 : BitVec 32 := 96#32
  let v780 : BitVec 32 := Scalar.addi v740 c96_i32_299
  let v781 : Index := Scalar.indexCast v780
  ![v781.toNat]

def k0_chk112 (v784 : IVec S16 32) : Prop :=
  (∀ a x, ((![v784] : Fin 1 → IVec S16 32) a x).toNat < S48000.size a)
theorem k0_idx112_inb : ∀ (v784 : IVec S16 32) (k0_hw112 : k0_chk112 v784), ∀ a x, ((![v784] : Fin 1 → IVec S16 32) a x).toNat < S48000.size a := fun v784 k0_hw112 => k0_hw112
def k0_off114 (k0_t14 : Fin k0_t14_loop.trips) : Fin 1 → Nat :=
  let c0_i32_122 : BitVec 32 := 0#32
  let c1_i32_124 : BitVec 32 := 1#32
  let arg10 : BitVec 32 := Scf.iv c0_i32_122 c1_i32_124 k0_t14
  let c128_i32 : BitVec 32 := 128#32
  let v740 : BitVec 32 := Scalar.muli arg10 c128_i32
  let c112_i32 : BitVec 32 := 112#32
  let v786 : BitVec 32 := Scalar.addi v740 c112_i32
  let v787 : Index := Scalar.indexCast v786
  ![v787.toNat]
@[reducible] def k0_t15_loop : Scf.Loop 32 :=
  let c0_i32_131 : BitVec 32 := 0#32
  let c125_i32_132 : BitVec 32 := 125#32
  let v339 : BitVec 32 := Scalar.addi c0_i32_131 c125_i32_132
  let c1_i32_133 : BitVec 32 := 1#32
  ⟨c0_i32_131, v339, c1_i32_133⟩

def k0_chk113 (v742 : IVec S16 32) : Prop :=
  (∀ a x, ((![v742] : Fin 1 → IVec S16 32) a x).toNat < S48000.size a)
theorem k0_idx113_inb : ∀ (v742 : IVec S16 32) (k0_hw113 : k0_chk113 v742), ∀ a x, ((![v742] : Fin 1 → IVec S16 32) a x).toNat < S48000.size a := fun v742 k0_hw113 => k0_hw113
def k0_off115 (k0_t15 : Fin k0_t15_loop.trips) : Fin 1 → Nat :=
  let c0_i32_131 : BitVec 32 := 0#32
  let c1_i32_133 : BitVec 32 := 1#32
  let arg10 : BitVec 32 := Scf.iv c0_i32_131 c1_i32_133 k0_t15
  let c128_i32 : BitVec 32 := 128#32
  let v740 : BitVec 32 := Scalar.muli arg10 c128_i32
  let c0_i32_297 : BitVec 32 := 0#32
  let v744 : BitVec 32 := Scalar.addi v740 c0_i32_297
  let v745 : Index := Scalar.indexCast v744
  ![v745.toNat]

def k0_chk114 (v748 : IVec S16 32) : Prop :=
  (∀ a x, ((![v748] : Fin 1 → IVec S16 32) a x).toNat < S48000.size a)
theorem k0_idx114_inb : ∀ (v748 : IVec S16 32) (k0_hw114 : k0_chk114 v748), ∀ a x, ((![v748] : Fin 1 → IVec S16 32) a x).toNat < S48000.size a := fun v748 k0_hw114 => k0_hw114
def k0_off116 (k0_t15 : Fin k0_t15_loop.trips) : Fin 1 → Nat :=
  let c0_i32_131 : BitVec 32 := 0#32
  let c1_i32_133 : BitVec 32 := 1#32
  let arg10 : BitVec 32 := Scf.iv c0_i32_131 c1_i32_133 k0_t15
  let c128_i32 : BitVec 32 := 128#32
  let v740 : BitVec 32 := Scalar.muli arg10 c128_i32
  let c16_i32 : BitVec 32 := 16#32
  let v750 : BitVec 32 := Scalar.addi v740 c16_i32
  let v751 : Index := Scalar.indexCast v750
  ![v751.toNat]

def k0_chk115 (v754 : IVec S16 32) : Prop :=
  (∀ a x, ((![v754] : Fin 1 → IVec S16 32) a x).toNat < S48000.size a)
theorem k0_idx115_inb : ∀ (v754 : IVec S16 32) (k0_hw115 : k0_chk115 v754), ∀ a x, ((![v754] : Fin 1 → IVec S16 32) a x).toNat < S48000.size a := fun v754 k0_hw115 => k0_hw115
def k0_off117 (k0_t15 : Fin k0_t15_loop.trips) : Fin 1 → Nat :=
  let c0_i32_131 : BitVec 32 := 0#32
  let c1_i32_133 : BitVec 32 := 1#32
  let arg10 : BitVec 32 := Scf.iv c0_i32_131 c1_i32_133 k0_t15
  let c128_i32 : BitVec 32 := 128#32
  let v740 : BitVec 32 := Scalar.muli arg10 c128_i32
  let c32_i32 : BitVec 32 := 32#32
  let v756 : BitVec 32 := Scalar.addi v740 c32_i32
  let v757 : Index := Scalar.indexCast v756
  ![v757.toNat]

def k0_chk116 (v760 : IVec S16 32) : Prop :=
  (∀ a x, ((![v760] : Fin 1 → IVec S16 32) a x).toNat < S48000.size a)
theorem k0_idx116_inb : ∀ (v760 : IVec S16 32) (k0_hw116 : k0_chk116 v760), ∀ a x, ((![v760] : Fin 1 → IVec S16 32) a x).toNat < S48000.size a := fun v760 k0_hw116 => k0_hw116
def k0_off118 (k0_t15 : Fin k0_t15_loop.trips) : Fin 1 → Nat :=
  let c0_i32_131 : BitVec 32 := 0#32
  let c1_i32_133 : BitVec 32 := 1#32
  let arg10 : BitVec 32 := Scf.iv c0_i32_131 c1_i32_133 k0_t15
  let c128_i32 : BitVec 32 := 128#32
  let v740 : BitVec 32 := Scalar.muli arg10 c128_i32
  let c48_i32_298 : BitVec 32 := 48#32
  let v762 : BitVec 32 := Scalar.addi v740 c48_i32_298
  let v763 : Index := Scalar.indexCast v762
  ![v763.toNat]

def k0_chk117 (v766 : IVec S16 32) : Prop :=
  (∀ a x, ((![v766] : Fin 1 → IVec S16 32) a x).toNat < S48000.size a)
theorem k0_idx117_inb : ∀ (v766 : IVec S16 32) (k0_hw117 : k0_chk117 v766), ∀ a x, ((![v766] : Fin 1 → IVec S16 32) a x).toNat < S48000.size a := fun v766 k0_hw117 => k0_hw117
def k0_off119 (k0_t15 : Fin k0_t15_loop.trips) : Fin 1 → Nat :=
  let c0_i32_131 : BitVec 32 := 0#32
  let c1_i32_133 : BitVec 32 := 1#32
  let arg10 : BitVec 32 := Scf.iv c0_i32_131 c1_i32_133 k0_t15
  let c128_i32 : BitVec 32 := 128#32
  let v740 : BitVec 32 := Scalar.muli arg10 c128_i32
  let c64_i32 : BitVec 32 := 64#32
  let v768 : BitVec 32 := Scalar.addi v740 c64_i32
  let v769 : Index := Scalar.indexCast v768
  ![v769.toNat]

def k0_chk118 (v772 : IVec S16 32) : Prop :=
  (∀ a x, ((![v772] : Fin 1 → IVec S16 32) a x).toNat < S48000.size a)
theorem k0_idx118_inb : ∀ (v772 : IVec S16 32) (k0_hw118 : k0_chk118 v772), ∀ a x, ((![v772] : Fin 1 → IVec S16 32) a x).toNat < S48000.size a := fun v772 k0_hw118 => k0_hw118
def k0_off120 (k0_t15 : Fin k0_t15_loop.trips) : Fin 1 → Nat :=
  let c0_i32_131 : BitVec 32 := 0#32
  let c1_i32_133 : BitVec 32 := 1#32
  let arg10 : BitVec 32 := Scf.iv c0_i32_131 c1_i32_133 k0_t15
  let c128_i32 : BitVec 32 := 128#32
  let v740 : BitVec 32 := Scalar.muli arg10 c128_i32
  let c80_i32 : BitVec 32 := 80#32
  let v774 : BitVec 32 := Scalar.addi v740 c80_i32
  let v775 : Index := Scalar.indexCast v774
  ![v775.toNat]

def k0_chk119 (v778 : IVec S16 32) : Prop :=
  (∀ a x, ((![v778] : Fin 1 → IVec S16 32) a x).toNat < S48000.size a)
theorem k0_idx119_inb : ∀ (v778 : IVec S16 32) (k0_hw119 : k0_chk119 v778), ∀ a x, ((![v778] : Fin 1 → IVec S16 32) a x).toNat < S48000.size a := fun v778 k0_hw119 => k0_hw119
def k0_off121 (k0_t15 : Fin k0_t15_loop.trips) : Fin 1 → Nat :=
  let c0_i32_131 : BitVec 32 := 0#32
  let c1_i32_133 : BitVec 32 := 1#32
  let arg10 : BitVec 32 := Scf.iv c0_i32_131 c1_i32_133 k0_t15
  let c128_i32 : BitVec 32 := 128#32
  let v740 : BitVec 32 := Scalar.muli arg10 c128_i32
  let c96_i32_299 : BitVec 32 := 96#32
  let v780 : BitVec 32 := Scalar.addi v740 c96_i32_299
  let v781 : Index := Scalar.indexCast v780
  ![v781.toNat]

def k0_chk120 (v784 : IVec S16 32) : Prop :=
  (∀ a x, ((![v784] : Fin 1 → IVec S16 32) a x).toNat < S48000.size a)
theorem k0_idx120_inb : ∀ (v784 : IVec S16 32) (k0_hw120 : k0_chk120 v784), ∀ a x, ((![v784] : Fin 1 → IVec S16 32) a x).toNat < S48000.size a := fun v784 k0_hw120 => k0_hw120
def k0_off122 (k0_t15 : Fin k0_t15_loop.trips) : Fin 1 → Nat :=
  let c0_i32_131 : BitVec 32 := 0#32
  let c1_i32_133 : BitVec 32 := 1#32
  let arg10 : BitVec 32 := Scf.iv c0_i32_131 c1_i32_133 k0_t15
  let c128_i32 : BitVec 32 := 128#32
  let v740 : BitVec 32 := Scalar.muli arg10 c128_i32
  let c112_i32 : BitVec 32 := 112#32
  let v786 : BitVec 32 := Scalar.addi v740 c112_i32
  let v787 : Index := Scalar.indexCast v786
  ![v787.toNat]
@[reducible] def k0_t16_loop : Scf.Loop 32 :=
  let c0_i32_140 : BitVec 32 := 0#32
  let c125_i32_141 : BitVec 32 := 125#32
  let v362 : BitVec 32 := Scalar.addi c0_i32_140 c125_i32_141
  let c1_i32_142 : BitVec 32 := 1#32
  ⟨c0_i32_140, v362, c1_i32_142⟩

def k0_chk121 (v742 : IVec S16 32) : Prop :=
  (∀ a x, ((![v742] : Fin 1 → IVec S16 32) a x).toNat < S48000.size a)
theorem k0_idx121_inb : ∀ (v742 : IVec S16 32) (k0_hw121 : k0_chk121 v742), ∀ a x, ((![v742] : Fin 1 → IVec S16 32) a x).toNat < S48000.size a := fun v742 k0_hw121 => k0_hw121
def k0_off123 (k0_t16 : Fin k0_t16_loop.trips) : Fin 1 → Nat :=
  let c0_i32_140 : BitVec 32 := 0#32
  let c1_i32_142 : BitVec 32 := 1#32
  let arg10 : BitVec 32 := Scf.iv c0_i32_140 c1_i32_142 k0_t16
  let c128_i32 : BitVec 32 := 128#32
  let v740 : BitVec 32 := Scalar.muli arg10 c128_i32
  let c0_i32_297 : BitVec 32 := 0#32
  let v744 : BitVec 32 := Scalar.addi v740 c0_i32_297
  let v745 : Index := Scalar.indexCast v744
  ![v745.toNat]

def k0_chk122 (v748 : IVec S16 32) : Prop :=
  (∀ a x, ((![v748] : Fin 1 → IVec S16 32) a x).toNat < S48000.size a)
theorem k0_idx122_inb : ∀ (v748 : IVec S16 32) (k0_hw122 : k0_chk122 v748), ∀ a x, ((![v748] : Fin 1 → IVec S16 32) a x).toNat < S48000.size a := fun v748 k0_hw122 => k0_hw122
def k0_off124 (k0_t16 : Fin k0_t16_loop.trips) : Fin 1 → Nat :=
  let c0_i32_140 : BitVec 32 := 0#32
  let c1_i32_142 : BitVec 32 := 1#32
  let arg10 : BitVec 32 := Scf.iv c0_i32_140 c1_i32_142 k0_t16
  let c128_i32 : BitVec 32 := 128#32
  let v740 : BitVec 32 := Scalar.muli arg10 c128_i32
  let c16_i32 : BitVec 32 := 16#32
  let v750 : BitVec 32 := Scalar.addi v740 c16_i32
  let v751 : Index := Scalar.indexCast v750
  ![v751.toNat]

def k0_chk123 (v754 : IVec S16 32) : Prop :=
  (∀ a x, ((![v754] : Fin 1 → IVec S16 32) a x).toNat < S48000.size a)
theorem k0_idx123_inb : ∀ (v754 : IVec S16 32) (k0_hw123 : k0_chk123 v754), ∀ a x, ((![v754] : Fin 1 → IVec S16 32) a x).toNat < S48000.size a := fun v754 k0_hw123 => k0_hw123
def k0_off125 (k0_t16 : Fin k0_t16_loop.trips) : Fin 1 → Nat :=
  let c0_i32_140 : BitVec 32 := 0#32
  let c1_i32_142 : BitVec 32 := 1#32
  let arg10 : BitVec 32 := Scf.iv c0_i32_140 c1_i32_142 k0_t16
  let c128_i32 : BitVec 32 := 128#32
  let v740 : BitVec 32 := Scalar.muli arg10 c128_i32
  let c32_i32 : BitVec 32 := 32#32
  let v756 : BitVec 32 := Scalar.addi v740 c32_i32
  let v757 : Index := Scalar.indexCast v756
  ![v757.toNat]

def k0_chk124 (v760 : IVec S16 32) : Prop :=
  (∀ a x, ((![v760] : Fin 1 → IVec S16 32) a x).toNat < S48000.size a)
theorem k0_idx124_inb : ∀ (v760 : IVec S16 32) (k0_hw124 : k0_chk124 v760), ∀ a x, ((![v760] : Fin 1 → IVec S16 32) a x).toNat < S48000.size a := fun v760 k0_hw124 => k0_hw124
def k0_off126 (k0_t16 : Fin k0_t16_loop.trips) : Fin 1 → Nat :=
  let c0_i32_140 : BitVec 32 := 0#32
  let c1_i32_142 : BitVec 32 := 1#32
  let arg10 : BitVec 32 := Scf.iv c0_i32_140 c1_i32_142 k0_t16
  let c128_i32 : BitVec 32 := 128#32
  let v740 : BitVec 32 := Scalar.muli arg10 c128_i32
  let c48_i32_298 : BitVec 32 := 48#32
  let v762 : BitVec 32 := Scalar.addi v740 c48_i32_298
  let v763 : Index := Scalar.indexCast v762
  ![v763.toNat]

def k0_chk125 (v766 : IVec S16 32) : Prop :=
  (∀ a x, ((![v766] : Fin 1 → IVec S16 32) a x).toNat < S48000.size a)
theorem k0_idx125_inb : ∀ (v766 : IVec S16 32) (k0_hw125 : k0_chk125 v766), ∀ a x, ((![v766] : Fin 1 → IVec S16 32) a x).toNat < S48000.size a := fun v766 k0_hw125 => k0_hw125
def k0_off127 (k0_t16 : Fin k0_t16_loop.trips) : Fin 1 → Nat :=
  let c0_i32_140 : BitVec 32 := 0#32
  let c1_i32_142 : BitVec 32 := 1#32
  let arg10 : BitVec 32 := Scf.iv c0_i32_140 c1_i32_142 k0_t16
  let c128_i32 : BitVec 32 := 128#32
  let v740 : BitVec 32 := Scalar.muli arg10 c128_i32
  let c64_i32 : BitVec 32 := 64#32
  let v768 : BitVec 32 := Scalar.addi v740 c64_i32
  let v769 : Index := Scalar.indexCast v768
  ![v769.toNat]

def k0_chk126 (v772 : IVec S16 32) : Prop :=
  (∀ a x, ((![v772] : Fin 1 → IVec S16 32) a x).toNat < S48000.size a)
theorem k0_idx126_inb : ∀ (v772 : IVec S16 32) (k0_hw126 : k0_chk126 v772), ∀ a x, ((![v772] : Fin 1 → IVec S16 32) a x).toNat < S48000.size a := fun v772 k0_hw126 => k0_hw126
def k0_off128 (k0_t16 : Fin k0_t16_loop.trips) : Fin 1 → Nat :=
  let c0_i32_140 : BitVec 32 := 0#32
  let c1_i32_142 : BitVec 32 := 1#32
  let arg10 : BitVec 32 := Scf.iv c0_i32_140 c1_i32_142 k0_t16
  let c128_i32 : BitVec 32 := 128#32
  let v740 : BitVec 32 := Scalar.muli arg10 c128_i32
  let c80_i32 : BitVec 32 := 80#32
  let v774 : BitVec 32 := Scalar.addi v740 c80_i32
  let v775 : Index := Scalar.indexCast v774
  ![v775.toNat]

def k0_chk127 (v778 : IVec S16 32) : Prop :=
  (∀ a x, ((![v778] : Fin 1 → IVec S16 32) a x).toNat < S48000.size a)
theorem k0_idx127_inb : ∀ (v778 : IVec S16 32) (k0_hw127 : k0_chk127 v778), ∀ a x, ((![v778] : Fin 1 → IVec S16 32) a x).toNat < S48000.size a := fun v778 k0_hw127 => k0_hw127
def k0_off129 (k0_t16 : Fin k0_t16_loop.trips) : Fin 1 → Nat :=
  let c0_i32_140 : BitVec 32 := 0#32
  let c1_i32_142 : BitVec 32 := 1#32
  let arg10 : BitVec 32 := Scf.iv c0_i32_140 c1_i32_142 k0_t16
  let c128_i32 : BitVec 32 := 128#32
  let v740 : BitVec 32 := Scalar.muli arg10 c128_i32
  let c96_i32_299 : BitVec 32 := 96#32
  let v780 : BitVec 32 := Scalar.addi v740 c96_i32_299
  let v781 : Index := Scalar.indexCast v780
  ![v781.toNat]

def k0_chk128 (v784 : IVec S16 32) : Prop :=
  (∀ a x, ((![v784] : Fin 1 → IVec S16 32) a x).toNat < S48000.size a)
theorem k0_idx128_inb : ∀ (v784 : IVec S16 32) (k0_hw128 : k0_chk128 v784), ∀ a x, ((![v784] : Fin 1 → IVec S16 32) a x).toNat < S48000.size a := fun v784 k0_hw128 => k0_hw128
def k0_off130 (k0_t16 : Fin k0_t16_loop.trips) : Fin 1 → Nat :=
  let c0_i32_140 : BitVec 32 := 0#32
  let c1_i32_142 : BitVec 32 := 1#32
  let arg10 : BitVec 32 := Scf.iv c0_i32_140 c1_i32_142 k0_t16
  let c128_i32 : BitVec 32 := 128#32
  let v740 : BitVec 32 := Scalar.muli arg10 c128_i32
  let c112_i32 : BitVec 32 := 112#32
  let v786 : BitVec 32 := Scalar.addi v740 c112_i32
  let v787 : Index := Scalar.indexCast v786
  ![v787.toNat]
@[reducible] def k0_t17_loop : Scf.Loop 32 :=
  let c0_i32_150 : BitVec 32 := 0#32
  let c125_i32_151 : BitVec 32 := 125#32
  let v385 : BitVec 32 := Scalar.addi c0_i32_150 c125_i32_151
  let c1_i32_152 : BitVec 32 := 1#32
  ⟨c0_i32_150, v385, c1_i32_152⟩

def k0_chk129 (v742 : IVec S16 32) : Prop :=
  (∀ a x, ((![v742] : Fin 1 → IVec S16 32) a x).toNat < S48000.size a)
theorem k0_idx129_inb : ∀ (v742 : IVec S16 32) (k0_hw129 : k0_chk129 v742), ∀ a x, ((![v742] : Fin 1 → IVec S16 32) a x).toNat < S48000.size a := fun v742 k0_hw129 => k0_hw129
def k0_off131 (k0_t17 : Fin k0_t17_loop.trips) : Fin 1 → Nat :=
  let c0_i32_150 : BitVec 32 := 0#32
  let c1_i32_152 : BitVec 32 := 1#32
  let arg10 : BitVec 32 := Scf.iv c0_i32_150 c1_i32_152 k0_t17
  let c128_i32 : BitVec 32 := 128#32
  let v740 : BitVec 32 := Scalar.muli arg10 c128_i32
  let c0_i32_297 : BitVec 32 := 0#32
  let v744 : BitVec 32 := Scalar.addi v740 c0_i32_297
  let v745 : Index := Scalar.indexCast v744
  ![v745.toNat]

def k0_chk130 (v748 : IVec S16 32) : Prop :=
  (∀ a x, ((![v748] : Fin 1 → IVec S16 32) a x).toNat < S48000.size a)
theorem k0_idx130_inb : ∀ (v748 : IVec S16 32) (k0_hw130 : k0_chk130 v748), ∀ a x, ((![v748] : Fin 1 → IVec S16 32) a x).toNat < S48000.size a := fun v748 k0_hw130 => k0_hw130
def k0_off132 (k0_t17 : Fin k0_t17_loop.trips) : Fin 1 → Nat :=
  let c0_i32_150 : BitVec 32 := 0#32
  let c1_i32_152 : BitVec 32 := 1#32
  let arg10 : BitVec 32 := Scf.iv c0_i32_150 c1_i32_152 k0_t17
  let c128_i32 : BitVec 32 := 128#32
  let v740 : BitVec 32 := Scalar.muli arg10 c128_i32
  let c16_i32 : BitVec 32 := 16#32
  let v750 : BitVec 32 := Scalar.addi v740 c16_i32
  let v751 : Index := Scalar.indexCast v750
  ![v751.toNat]

def k0_chk131 (v754 : IVec S16 32) : Prop :=
  (∀ a x, ((![v754] : Fin 1 → IVec S16 32) a x).toNat < S48000.size a)
theorem k0_idx131_inb : ∀ (v754 : IVec S16 32) (k0_hw131 : k0_chk131 v754), ∀ a x, ((![v754] : Fin 1 → IVec S16 32) a x).toNat < S48000.size a := fun v754 k0_hw131 => k0_hw131
def k0_off133 (k0_t17 : Fin k0_t17_loop.trips) : Fin 1 → Nat :=
  let c0_i32_150 : BitVec 32 := 0#32
  let c1_i32_152 : BitVec 32 := 1#32
  let arg10 : BitVec 32 := Scf.iv c0_i32_150 c1_i32_152 k0_t17
  let c128_i32 : BitVec 32 := 128#32
  let v740 : BitVec 32 := Scalar.muli arg10 c128_i32
  let c32_i32 : BitVec 32 := 32#32
  let v756 : BitVec 32 := Scalar.addi v740 c32_i32
  let v757 : Index := Scalar.indexCast v756
  ![v757.toNat]

def k0_chk132 (v760 : IVec S16 32) : Prop :=
  (∀ a x, ((![v760] : Fin 1 → IVec S16 32) a x).toNat < S48000.size a)
theorem k0_idx132_inb : ∀ (v760 : IVec S16 32) (k0_hw132 : k0_chk132 v760), ∀ a x, ((![v760] : Fin 1 → IVec S16 32) a x).toNat < S48000.size a := fun v760 k0_hw132 => k0_hw132
def k0_off134 (k0_t17 : Fin k0_t17_loop.trips) : Fin 1 → Nat :=
  let c0_i32_150 : BitVec 32 := 0#32
  let c1_i32_152 : BitVec 32 := 1#32
  let arg10 : BitVec 32 := Scf.iv c0_i32_150 c1_i32_152 k0_t17
  let c128_i32 : BitVec 32 := 128#32
  let v740 : BitVec 32 := Scalar.muli arg10 c128_i32
  let c48_i32_298 : BitVec 32 := 48#32
  let v762 : BitVec 32 := Scalar.addi v740 c48_i32_298
  let v763 : Index := Scalar.indexCast v762
  ![v763.toNat]

def k0_chk133 (v766 : IVec S16 32) : Prop :=
  (∀ a x, ((![v766] : Fin 1 → IVec S16 32) a x).toNat < S48000.size a)
theorem k0_idx133_inb : ∀ (v766 : IVec S16 32) (k0_hw133 : k0_chk133 v766), ∀ a x, ((![v766] : Fin 1 → IVec S16 32) a x).toNat < S48000.size a := fun v766 k0_hw133 => k0_hw133
def k0_off135 (k0_t17 : Fin k0_t17_loop.trips) : Fin 1 → Nat :=
  let c0_i32_150 : BitVec 32 := 0#32
  let c1_i32_152 : BitVec 32 := 1#32
  let arg10 : BitVec 32 := Scf.iv c0_i32_150 c1_i32_152 k0_t17
  let c128_i32 : BitVec 32 := 128#32
  let v740 : BitVec 32 := Scalar.muli arg10 c128_i32
  let c64_i32 : BitVec 32 := 64#32
  let v768 : BitVec 32 := Scalar.addi v740 c64_i32
  let v769 : Index := Scalar.indexCast v768
  ![v769.toNat]

def k0_chk134 (v772 : IVec S16 32) : Prop :=
  (∀ a x, ((![v772] : Fin 1 → IVec S16 32) a x).toNat < S48000.size a)
theorem k0_idx134_inb : ∀ (v772 : IVec S16 32) (k0_hw134 : k0_chk134 v772), ∀ a x, ((![v772] : Fin 1 → IVec S16 32) a x).toNat < S48000.size a := fun v772 k0_hw134 => k0_hw134
def k0_off136 (k0_t17 : Fin k0_t17_loop.trips) : Fin 1 → Nat :=
  let c0_i32_150 : BitVec 32 := 0#32
  let c1_i32_152 : BitVec 32 := 1#32
  let arg10 : BitVec 32 := Scf.iv c0_i32_150 c1_i32_152 k0_t17
  let c128_i32 : BitVec 32 := 128#32
  let v740 : BitVec 32 := Scalar.muli arg10 c128_i32
  let c80_i32 : BitVec 32 := 80#32
  let v774 : BitVec 32 := Scalar.addi v740 c80_i32
  let v775 : Index := Scalar.indexCast v774
  ![v775.toNat]

def k0_chk135 (v778 : IVec S16 32) : Prop :=
  (∀ a x, ((![v778] : Fin 1 → IVec S16 32) a x).toNat < S48000.size a)
theorem k0_idx135_inb : ∀ (v778 : IVec S16 32) (k0_hw135 : k0_chk135 v778), ∀ a x, ((![v778] : Fin 1 → IVec S16 32) a x).toNat < S48000.size a := fun v778 k0_hw135 => k0_hw135
def k0_off137 (k0_t17 : Fin k0_t17_loop.trips) : Fin 1 → Nat :=
  let c0_i32_150 : BitVec 32 := 0#32
  let c1_i32_152 : BitVec 32 := 1#32
  let arg10 : BitVec 32 := Scf.iv c0_i32_150 c1_i32_152 k0_t17
  let c128_i32 : BitVec 32 := 128#32
  let v740 : BitVec 32 := Scalar.muli arg10 c128_i32
  let c96_i32_299 : BitVec 32 := 96#32
  let v780 : BitVec 32 := Scalar.addi v740 c96_i32_299
  let v781 : Index := Scalar.indexCast v780
  ![v781.toNat]

def k0_chk136 (v784 : IVec S16 32) : Prop :=
  (∀ a x, ((![v784] : Fin 1 → IVec S16 32) a x).toNat < S48000.size a)
theorem k0_idx136_inb : ∀ (v784 : IVec S16 32) (k0_hw136 : k0_chk136 v784), ∀ a x, ((![v784] : Fin 1 → IVec S16 32) a x).toNat < S48000.size a := fun v784 k0_hw136 => k0_hw136
def k0_off138 (k0_t17 : Fin k0_t17_loop.trips) : Fin 1 → Nat :=
  let c0_i32_150 : BitVec 32 := 0#32
  let c1_i32_152 : BitVec 32 := 1#32
  let arg10 : BitVec 32 := Scf.iv c0_i32_150 c1_i32_152 k0_t17
  let c128_i32 : BitVec 32 := 128#32
  let v740 : BitVec 32 := Scalar.muli arg10 c128_i32
  let c112_i32 : BitVec 32 := 112#32
  let v786 : BitVec 32 := Scalar.addi v740 c112_i32
  let v787 : Index := Scalar.indexCast v786
  ![v787.toNat]
@[reducible] def k0_t18_loop : Scf.Loop 32 :=
  let c0_i32_159 : BitVec 32 := 0#32
  let c125_i32_160 : BitVec 32 := 125#32
  let v408 : BitVec 32 := Scalar.addi c0_i32_159 c125_i32_160
  let c1_i32_161 : BitVec 32 := 1#32
  ⟨c0_i32_159, v408, c1_i32_161⟩

def k0_chk137 (v742 : IVec S16 32) : Prop :=
  (∀ a x, ((![v742] : Fin 1 → IVec S16 32) a x).toNat < S48000.size a)
theorem k0_idx137_inb : ∀ (v742 : IVec S16 32) (k0_hw137 : k0_chk137 v742), ∀ a x, ((![v742] : Fin 1 → IVec S16 32) a x).toNat < S48000.size a := fun v742 k0_hw137 => k0_hw137
def k0_off139 (k0_t18 : Fin k0_t18_loop.trips) : Fin 1 → Nat :=
  let c0_i32_159 : BitVec 32 := 0#32
  let c1_i32_161 : BitVec 32 := 1#32
  let arg10 : BitVec 32 := Scf.iv c0_i32_159 c1_i32_161 k0_t18
  let c128_i32 : BitVec 32 := 128#32
  let v740 : BitVec 32 := Scalar.muli arg10 c128_i32
  let c0_i32_297 : BitVec 32 := 0#32
  let v744 : BitVec 32 := Scalar.addi v740 c0_i32_297
  let v745 : Index := Scalar.indexCast v744
  ![v745.toNat]

def k0_chk138 (v748 : IVec S16 32) : Prop :=
  (∀ a x, ((![v748] : Fin 1 → IVec S16 32) a x).toNat < S48000.size a)
theorem k0_idx138_inb : ∀ (v748 : IVec S16 32) (k0_hw138 : k0_chk138 v748), ∀ a x, ((![v748] : Fin 1 → IVec S16 32) a x).toNat < S48000.size a := fun v748 k0_hw138 => k0_hw138
def k0_off140 (k0_t18 : Fin k0_t18_loop.trips) : Fin 1 → Nat :=
  let c0_i32_159 : BitVec 32 := 0#32
  let c1_i32_161 : BitVec 32 := 1#32
  let arg10 : BitVec 32 := Scf.iv c0_i32_159 c1_i32_161 k0_t18
  let c128_i32 : BitVec 32 := 128#32
  let v740 : BitVec 32 := Scalar.muli arg10 c128_i32
  let c16_i32 : BitVec 32 := 16#32
  let v750 : BitVec 32 := Scalar.addi v740 c16_i32
  let v751 : Index := Scalar.indexCast v750
  ![v751.toNat]

def k0_chk139 (v754 : IVec S16 32) : Prop :=
  (∀ a x, ((![v754] : Fin 1 → IVec S16 32) a x).toNat < S48000.size a)
theorem k0_idx139_inb : ∀ (v754 : IVec S16 32) (k0_hw139 : k0_chk139 v754), ∀ a x, ((![v754] : Fin 1 → IVec S16 32) a x).toNat < S48000.size a := fun v754 k0_hw139 => k0_hw139
def k0_off141 (k0_t18 : Fin k0_t18_loop.trips) : Fin 1 → Nat :=
  let c0_i32_159 : BitVec 32 := 0#32
  let c1_i32_161 : BitVec 32 := 1#32
  let arg10 : BitVec 32 := Scf.iv c0_i32_159 c1_i32_161 k0_t18
  let c128_i32 : BitVec 32 := 128#32
  let v740 : BitVec 32 := Scalar.muli arg10 c128_i32
  let c32_i32 : BitVec 32 := 32#32
  let v756 : BitVec 32 := Scalar.addi v740 c32_i32
  let v757 : Index := Scalar.indexCast v756
  ![v757.toNat]

def k0_chk140 (v760 : IVec S16 32) : Prop :=
  (∀ a x, ((![v760] : Fin 1 → IVec S16 32) a x).toNat < S48000.size a)
theorem k0_idx140_inb : ∀ (v760 : IVec S16 32) (k0_hw140 : k0_chk140 v760), ∀ a x, ((![v760] : Fin 1 → IVec S16 32) a x).toNat < S48000.size a := fun v760 k0_hw140 => k0_hw140
def k0_off142 (k0_t18 : Fin k0_t18_loop.trips) : Fin 1 → Nat :=
  let c0_i32_159 : BitVec 32 := 0#32
  let c1_i32_161 : BitVec 32 := 1#32
  let arg10 : BitVec 32 := Scf.iv c0_i32_159 c1_i32_161 k0_t18
  let c128_i32 : BitVec 32 := 128#32
  let v740 : BitVec 32 := Scalar.muli arg10 c128_i32
  let c48_i32_298 : BitVec 32 := 48#32
  let v762 : BitVec 32 := Scalar.addi v740 c48_i32_298
  let v763 : Index := Scalar.indexCast v762
  ![v763.toNat]

def k0_chk141 (v766 : IVec S16 32) : Prop :=
  (∀ a x, ((![v766] : Fin 1 → IVec S16 32) a x).toNat < S48000.size a)
theorem k0_idx141_inb : ∀ (v766 : IVec S16 32) (k0_hw141 : k0_chk141 v766), ∀ a x, ((![v766] : Fin 1 → IVec S16 32) a x).toNat < S48000.size a := fun v766 k0_hw141 => k0_hw141
def k0_off143 (k0_t18 : Fin k0_t18_loop.trips) : Fin 1 → Nat :=
  let c0_i32_159 : BitVec 32 := 0#32
  let c1_i32_161 : BitVec 32 := 1#32
  let arg10 : BitVec 32 := Scf.iv c0_i32_159 c1_i32_161 k0_t18
  let c128_i32 : BitVec 32 := 128#32
  let v740 : BitVec 32 := Scalar.muli arg10 c128_i32
  let c64_i32 : BitVec 32 := 64#32
  let v768 : BitVec 32 := Scalar.addi v740 c64_i32
  let v769 : Index := Scalar.indexCast v768
  ![v769.toNat]

def k0_chk142 (v772 : IVec S16 32) : Prop :=
  (∀ a x, ((![v772] : Fin 1 → IVec S16 32) a x).toNat < S48000.size a)
theorem k0_idx142_inb : ∀ (v772 : IVec S16 32) (k0_hw142 : k0_chk142 v772), ∀ a x, ((![v772] : Fin 1 → IVec S16 32) a x).toNat < S48000.size a := fun v772 k0_hw142 => k0_hw142
def k0_off144 (k0_t18 : Fin k0_t18_loop.trips) : Fin 1 → Nat :=
  let c0_i32_159 : BitVec 32 := 0#32
  let c1_i32_161 : BitVec 32 := 1#32
  let arg10 : BitVec 32 := Scf.iv c0_i32_159 c1_i32_161 k0_t18
  let c128_i32 : BitVec 32 := 128#32
  let v740 : BitVec 32 := Scalar.muli arg10 c128_i32
  let c80_i32 : BitVec 32 := 80#32
  let v774 : BitVec 32 := Scalar.addi v740 c80_i32
  let v775 : Index := Scalar.indexCast v774
  ![v775.toNat]

def k0_chk143 (v778 : IVec S16 32) : Prop :=
  (∀ a x, ((![v778] : Fin 1 → IVec S16 32) a x).toNat < S48000.size a)
theorem k0_idx143_inb : ∀ (v778 : IVec S16 32) (k0_hw143 : k0_chk143 v778), ∀ a x, ((![v778] : Fin 1 → IVec S16 32) a x).toNat < S48000.size a := fun v778 k0_hw143 => k0_hw143
def k0_off145 (k0_t18 : Fin k0_t18_loop.trips) : Fin 1 → Nat :=
  let c0_i32_159 : BitVec 32 := 0#32
  let c1_i32_161 : BitVec 32 := 1#32
  let arg10 : BitVec 32 := Scf.iv c0_i32_159 c1_i32_161 k0_t18
  let c128_i32 : BitVec 32 := 128#32
  let v740 : BitVec 32 := Scalar.muli arg10 c128_i32
  let c96_i32_299 : BitVec 32 := 96#32
  let v780 : BitVec 32 := Scalar.addi v740 c96_i32_299
  let v781 : Index := Scalar.indexCast v780
  ![v781.toNat]

def k0_chk144 (v784 : IVec S16 32) : Prop :=
  (∀ a x, ((![v784] : Fin 1 → IVec S16 32) a x).toNat < S48000.size a)
theorem k0_idx144_inb : ∀ (v784 : IVec S16 32) (k0_hw144 : k0_chk144 v784), ∀ a x, ((![v784] : Fin 1 → IVec S16 32) a x).toNat < S48000.size a := fun v784 k0_hw144 => k0_hw144
def k0_off146 (k0_t18 : Fin k0_t18_loop.trips) : Fin 1 → Nat :=
  let c0_i32_159 : BitVec 32 := 0#32
  let c1_i32_161 : BitVec 32 := 1#32
  let arg10 : BitVec 32 := Scf.iv c0_i32_159 c1_i32_161 k0_t18
  let c128_i32 : BitVec 32 := 128#32
  let v740 : BitVec 32 := Scalar.muli arg10 c128_i32
  let c112_i32 : BitVec 32 := 112#32
  let v786 : BitVec 32 := Scalar.addi v740 c112_i32
  let v787 : Index := Scalar.indexCast v786
  ![v787.toNat]
@[reducible] def k0_t19_loop : Scf.Loop 32 :=
  let c0_i32_168 : BitVec 32 := 0#32
  let c125_i32_169 : BitVec 32 := 125#32
  let v431 : BitVec 32 := Scalar.addi c0_i32_168 c125_i32_169
  let c1_i32_170 : BitVec 32 := 1#32
  ⟨c0_i32_168, v431, c1_i32_170⟩

def k0_chk145 (v742 : IVec S16 32) : Prop :=
  (∀ a x, ((![v742] : Fin 1 → IVec S16 32) a x).toNat < S48000.size a)
theorem k0_idx145_inb : ∀ (v742 : IVec S16 32) (k0_hw145 : k0_chk145 v742), ∀ a x, ((![v742] : Fin 1 → IVec S16 32) a x).toNat < S48000.size a := fun v742 k0_hw145 => k0_hw145
def k0_off147 (k0_t19 : Fin k0_t19_loop.trips) : Fin 1 → Nat :=
  let c0_i32_168 : BitVec 32 := 0#32
  let c1_i32_170 : BitVec 32 := 1#32
  let arg10 : BitVec 32 := Scf.iv c0_i32_168 c1_i32_170 k0_t19
  let c128_i32 : BitVec 32 := 128#32
  let v740 : BitVec 32 := Scalar.muli arg10 c128_i32
  let c0_i32_297 : BitVec 32 := 0#32
  let v744 : BitVec 32 := Scalar.addi v740 c0_i32_297
  let v745 : Index := Scalar.indexCast v744
  ![v745.toNat]

def k0_chk146 (v748 : IVec S16 32) : Prop :=
  (∀ a x, ((![v748] : Fin 1 → IVec S16 32) a x).toNat < S48000.size a)
theorem k0_idx146_inb : ∀ (v748 : IVec S16 32) (k0_hw146 : k0_chk146 v748), ∀ a x, ((![v748] : Fin 1 → IVec S16 32) a x).toNat < S48000.size a := fun v748 k0_hw146 => k0_hw146
def k0_off148 (k0_t19 : Fin k0_t19_loop.trips) : Fin 1 → Nat :=
  let c0_i32_168 : BitVec 32 := 0#32
  let c1_i32_170 : BitVec 32 := 1#32
  let arg10 : BitVec 32 := Scf.iv c0_i32_168 c1_i32_170 k0_t19
  let c128_i32 : BitVec 32 := 128#32
  let v740 : BitVec 32 := Scalar.muli arg10 c128_i32
  let c16_i32 : BitVec 32 := 16#32
  let v750 : BitVec 32 := Scalar.addi v740 c16_i32
  let v751 : Index := Scalar.indexCast v750
  ![v751.toNat]

def k0_chk147 (v754 : IVec S16 32) : Prop :=
  (∀ a x, ((![v754] : Fin 1 → IVec S16 32) a x).toNat < S48000.size a)
theorem k0_idx147_inb : ∀ (v754 : IVec S16 32) (k0_hw147 : k0_chk147 v754), ∀ a x, ((![v754] : Fin 1 → IVec S16 32) a x).toNat < S48000.size a := fun v754 k0_hw147 => k0_hw147
def k0_off149 (k0_t19 : Fin k0_t19_loop.trips) : Fin 1 → Nat :=
  let c0_i32_168 : BitVec 32 := 0#32
  let c1_i32_170 : BitVec 32 := 1#32
  let arg10 : BitVec 32 := Scf.iv c0_i32_168 c1_i32_170 k0_t19
  let c128_i32 : BitVec 32 := 128#32
  let v740 : BitVec 32 := Scalar.muli arg10 c128_i32
  let c32_i32 : BitVec 32 := 32#32
  let v756 : BitVec 32 := Scalar.addi v740 c32_i32
  let v757 : Index := Scalar.indexCast v756
  ![v757.toNat]

def k0_chk148 (v760 : IVec S16 32) : Prop :=
  (∀ a x, ((![v760] : Fin 1 → IVec S16 32) a x).toNat < S48000.size a)
theorem k0_idx148_inb : ∀ (v760 : IVec S16 32) (k0_hw148 : k0_chk148 v760), ∀ a x, ((![v760] : Fin 1 → IVec S16 32) a x).toNat < S48000.size a := fun v760 k0_hw148 => k0_hw148
def k0_off150 (k0_t19 : Fin k0_t19_loop.trips) : Fin 1 → Nat :=
  let c0_i32_168 : BitVec 32 := 0#32
  let c1_i32_170 : BitVec 32 := 1#32
  let arg10 : BitVec 32 := Scf.iv c0_i32_168 c1_i32_170 k0_t19
  let c128_i32 : BitVec 32 := 128#32
  let v740 : BitVec 32 := Scalar.muli arg10 c128_i32
  let c48_i32_298 : BitVec 32 := 48#32
  let v762 : BitVec 32 := Scalar.addi v740 c48_i32_298
  let v763 : Index := Scalar.indexCast v762
  ![v763.toNat]

def k0_chk149 (v766 : IVec S16 32) : Prop :=
  (∀ a x, ((![v766] : Fin 1 → IVec S16 32) a x).toNat < S48000.size a)
theorem k0_idx149_inb : ∀ (v766 : IVec S16 32) (k0_hw149 : k0_chk149 v766), ∀ a x, ((![v766] : Fin 1 → IVec S16 32) a x).toNat < S48000.size a := fun v766 k0_hw149 => k0_hw149
def k0_off151 (k0_t19 : Fin k0_t19_loop.trips) : Fin 1 → Nat :=
  let c0_i32_168 : BitVec 32 := 0#32
  let c1_i32_170 : BitVec 32 := 1#32
  let arg10 : BitVec 32 := Scf.iv c0_i32_168 c1_i32_170 k0_t19
  let c128_i32 : BitVec 32 := 128#32
  let v740 : BitVec 32 := Scalar.muli arg10 c128_i32
  let c64_i32 : BitVec 32 := 64#32
  let v768 : BitVec 32 := Scalar.addi v740 c64_i32
  let v769 : Index := Scalar.indexCast v768
  ![v769.toNat]

def k0_chk150 (v772 : IVec S16 32) : Prop :=
  (∀ a x, ((![v772] : Fin 1 → IVec S16 32) a x).toNat < S48000.size a)
theorem k0_idx150_inb : ∀ (v772 : IVec S16 32) (k0_hw150 : k0_chk150 v772), ∀ a x, ((![v772] : Fin 1 → IVec S16 32) a x).toNat < S48000.size a := fun v772 k0_hw150 => k0_hw150
def k0_off152 (k0_t19 : Fin k0_t19_loop.trips) : Fin 1 → Nat :=
  let c0_i32_168 : BitVec 32 := 0#32
  let c1_i32_170 : BitVec 32 := 1#32
  let arg10 : BitVec 32 := Scf.iv c0_i32_168 c1_i32_170 k0_t19
  let c128_i32 : BitVec 32 := 128#32
  let v740 : BitVec 32 := Scalar.muli arg10 c128_i32
  let c80_i32 : BitVec 32 := 80#32
  let v774 : BitVec 32 := Scalar.addi v740 c80_i32
  let v775 : Index := Scalar.indexCast v774
  ![v775.toNat]

def k0_chk151 (v778 : IVec S16 32) : Prop :=
  (∀ a x, ((![v778] : Fin 1 → IVec S16 32) a x).toNat < S48000.size a)
theorem k0_idx151_inb : ∀ (v778 : IVec S16 32) (k0_hw151 : k0_chk151 v778), ∀ a x, ((![v778] : Fin 1 → IVec S16 32) a x).toNat < S48000.size a := fun v778 k0_hw151 => k0_hw151
def k0_off153 (k0_t19 : Fin k0_t19_loop.trips) : Fin 1 → Nat :=
  let c0_i32_168 : BitVec 32 := 0#32
  let c1_i32_170 : BitVec 32 := 1#32
  let arg10 : BitVec 32 := Scf.iv c0_i32_168 c1_i32_170 k0_t19
  let c128_i32 : BitVec 32 := 128#32
  let v740 : BitVec 32 := Scalar.muli arg10 c128_i32
  let c96_i32_299 : BitVec 32 := 96#32
  let v780 : BitVec 32 := Scalar.addi v740 c96_i32_299
  let v781 : Index := Scalar.indexCast v780
  ![v781.toNat]

def k0_chk152 (v784 : IVec S16 32) : Prop :=
  (∀ a x, ((![v784] : Fin 1 → IVec S16 32) a x).toNat < S48000.size a)
theorem k0_idx152_inb : ∀ (v784 : IVec S16 32) (k0_hw152 : k0_chk152 v784), ∀ a x, ((![v784] : Fin 1 → IVec S16 32) a x).toNat < S48000.size a := fun v784 k0_hw152 => k0_hw152
def k0_off154 (k0_t19 : Fin k0_t19_loop.trips) : Fin 1 → Nat :=
  let c0_i32_168 : BitVec 32 := 0#32
  let c1_i32_170 : BitVec 32 := 1#32
  let arg10 : BitVec 32 := Scf.iv c0_i32_168 c1_i32_170 k0_t19
  let c128_i32 : BitVec 32 := 128#32
  let v740 : BitVec 32 := Scalar.muli arg10 c128_i32
  let c112_i32 : BitVec 32 := 112#32
  let v786 : BitVec 32 := Scalar.addi v740 c112_i32
  let v787 : Index := Scalar.indexCast v786
  ![v787.toNat]
@[reducible] def k0_t20_loop : Scf.Loop 32 :=
  let c0_i32_178 : BitVec 32 := 0#32
  let c125_i32_179 : BitVec 32 := 125#32
  let v454 : BitVec 32 := Scalar.addi c0_i32_178 c125_i32_179
  let c1_i32_180 : BitVec 32 := 1#32
  ⟨c0_i32_178, v454, c1_i32_180⟩

def k0_chk153 (v742 : IVec S16 32) : Prop :=
  (∀ a x, ((![v742] : Fin 1 → IVec S16 32) a x).toNat < S48000.size a)
theorem k0_idx153_inb : ∀ (v742 : IVec S16 32) (k0_hw153 : k0_chk153 v742), ∀ a x, ((![v742] : Fin 1 → IVec S16 32) a x).toNat < S48000.size a := fun v742 k0_hw153 => k0_hw153
def k0_off155 (k0_t20 : Fin k0_t20_loop.trips) : Fin 1 → Nat :=
  let c0_i32_178 : BitVec 32 := 0#32
  let c1_i32_180 : BitVec 32 := 1#32
  let arg10 : BitVec 32 := Scf.iv c0_i32_178 c1_i32_180 k0_t20
  let c128_i32 : BitVec 32 := 128#32
  let v740 : BitVec 32 := Scalar.muli arg10 c128_i32
  let c0_i32_297 : BitVec 32 := 0#32
  let v744 : BitVec 32 := Scalar.addi v740 c0_i32_297
  let v745 : Index := Scalar.indexCast v744
  ![v745.toNat]

def k0_chk154 (v748 : IVec S16 32) : Prop :=
  (∀ a x, ((![v748] : Fin 1 → IVec S16 32) a x).toNat < S48000.size a)
theorem k0_idx154_inb : ∀ (v748 : IVec S16 32) (k0_hw154 : k0_chk154 v748), ∀ a x, ((![v748] : Fin 1 → IVec S16 32) a x).toNat < S48000.size a := fun v748 k0_hw154 => k0_hw154
def k0_off156 (k0_t20 : Fin k0_t20_loop.trips) : Fin 1 → Nat :=
  let c0_i32_178 : BitVec 32 := 0#32
  let c1_i32_180 : BitVec 32 := 1#32
  let arg10 : BitVec 32 := Scf.iv c0_i32_178 c1_i32_180 k0_t20
  let c128_i32 : BitVec 32 := 128#32
  let v740 : BitVec 32 := Scalar.muli arg10 c128_i32
  let c16_i32 : BitVec 32 := 16#32
  let v750 : BitVec 32 := Scalar.addi v740 c16_i32
  let v751 : Index := Scalar.indexCast v750
  ![v751.toNat]

def k0_chk155 (v754 : IVec S16 32) : Prop :=
  (∀ a x, ((![v754] : Fin 1 → IVec S16 32) a x).toNat < S48000.size a)
theorem k0_idx155_inb : ∀ (v754 : IVec S16 32) (k0_hw155 : k0_chk155 v754), ∀ a x, ((![v754] : Fin 1 → IVec S16 32) a x).toNat < S48000.size a := fun v754 k0_hw155 => k0_hw155
def k0_off157 (k0_t20 : Fin k0_t20_loop.trips) : Fin 1 → Nat :=
  let c0_i32_178 : BitVec 32 := 0#32
  let c1_i32_180 : BitVec 32 := 1#32
  let arg10 : BitVec 32 := Scf.iv c0_i32_178 c1_i32_180 k0_t20
  let c128_i32 : BitVec 32 := 128#32
  let v740 : BitVec 32 := Scalar.muli arg10 c128_i32
  let c32_i32 : BitVec 32 := 32#32
  let v756 : BitVec 32 := Scalar.addi v740 c32_i32
  let v757 : Index := Scalar.indexCast v756
  ![v757.toNat]

def k0_chk156 (v760 : IVec S16 32) : Prop :=
  (∀ a x, ((![v760] : Fin 1 → IVec S16 32) a x).toNat < S48000.size a)
theorem k0_idx156_inb : ∀ (v760 : IVec S16 32) (k0_hw156 : k0_chk156 v760), ∀ a x, ((![v760] : Fin 1 → IVec S16 32) a x).toNat < S48000.size a := fun v760 k0_hw156 => k0_hw156
def k0_off158 (k0_t20 : Fin k0_t20_loop.trips) : Fin 1 → Nat :=
  let c0_i32_178 : BitVec 32 := 0#32
  let c1_i32_180 : BitVec 32 := 1#32
  let arg10 : BitVec 32 := Scf.iv c0_i32_178 c1_i32_180 k0_t20
  let c128_i32 : BitVec 32 := 128#32
  let v740 : BitVec 32 := Scalar.muli arg10 c128_i32
  let c48_i32_298 : BitVec 32 := 48#32
  let v762 : BitVec 32 := Scalar.addi v740 c48_i32_298
  let v763 : Index := Scalar.indexCast v762
  ![v763.toNat]

def k0_chk157 (v766 : IVec S16 32) : Prop :=
  (∀ a x, ((![v766] : Fin 1 → IVec S16 32) a x).toNat < S48000.size a)
theorem k0_idx157_inb : ∀ (v766 : IVec S16 32) (k0_hw157 : k0_chk157 v766), ∀ a x, ((![v766] : Fin 1 → IVec S16 32) a x).toNat < S48000.size a := fun v766 k0_hw157 => k0_hw157
def k0_off159 (k0_t20 : Fin k0_t20_loop.trips) : Fin 1 → Nat :=
  let c0_i32_178 : BitVec 32 := 0#32
  let c1_i32_180 : BitVec 32 := 1#32
  let arg10 : BitVec 32 := Scf.iv c0_i32_178 c1_i32_180 k0_t20
  let c128_i32 : BitVec 32 := 128#32
  let v740 : BitVec 32 := Scalar.muli arg10 c128_i32
  let c64_i32 : BitVec 32 := 64#32
  let v768 : BitVec 32 := Scalar.addi v740 c64_i32
  let v769 : Index := Scalar.indexCast v768
  ![v769.toNat]

def k0_chk158 (v772 : IVec S16 32) : Prop :=
  (∀ a x, ((![v772] : Fin 1 → IVec S16 32) a x).toNat < S48000.size a)
theorem k0_idx158_inb : ∀ (v772 : IVec S16 32) (k0_hw158 : k0_chk158 v772), ∀ a x, ((![v772] : Fin 1 → IVec S16 32) a x).toNat < S48000.size a := fun v772 k0_hw158 => k0_hw158
def k0_off160 (k0_t20 : Fin k0_t20_loop.trips) : Fin 1 → Nat :=
  let c0_i32_178 : BitVec 32 := 0#32
  let c1_i32_180 : BitVec 32 := 1#32
  let arg10 : BitVec 32 := Scf.iv c0_i32_178 c1_i32_180 k0_t20
  let c128_i32 : BitVec 32 := 128#32
  let v740 : BitVec 32 := Scalar.muli arg10 c128_i32
  let c80_i32 : BitVec 32 := 80#32
  let v774 : BitVec 32 := Scalar.addi v740 c80_i32
  let v775 : Index := Scalar.indexCast v774
  ![v775.toNat]

def k0_chk159 (v778 : IVec S16 32) : Prop :=
  (∀ a x, ((![v778] : Fin 1 → IVec S16 32) a x).toNat < S48000.size a)
theorem k0_idx159_inb : ∀ (v778 : IVec S16 32) (k0_hw159 : k0_chk159 v778), ∀ a x, ((![v778] : Fin 1 → IVec S16 32) a x).toNat < S48000.size a := fun v778 k0_hw159 => k0_hw159
def k0_off161 (k0_t20 : Fin k0_t20_loop.trips) : Fin 1 → Nat :=
  let c0_i32_178 : BitVec 32 := 0#32
  let c1_i32_180 : BitVec 32 := 1#32
  let arg10 : BitVec 32 := Scf.iv c0_i32_178 c1_i32_180 k0_t20
  let c128_i32 : BitVec 32 := 128#32
  let v740 : BitVec 32 := Scalar.muli arg10 c128_i32
  let c96_i32_299 : BitVec 32 := 96#32
  let v780 : BitVec 32 := Scalar.addi v740 c96_i32_299
  let v781 : Index := Scalar.indexCast v780
  ![v781.toNat]

def k0_chk160 (v784 : IVec S16 32) : Prop :=
  (∀ a x, ((![v784] : Fin 1 → IVec S16 32) a x).toNat < S48000.size a)
theorem k0_idx160_inb : ∀ (v784 : IVec S16 32) (k0_hw160 : k0_chk160 v784), ∀ a x, ((![v784] : Fin 1 → IVec S16 32) a x).toNat < S48000.size a := fun v784 k0_hw160 => k0_hw160
def k0_off162 (k0_t20 : Fin k0_t20_loop.trips) : Fin 1 → Nat :=
  let c0_i32_178 : BitVec 32 := 0#32
  let c1_i32_180 : BitVec 32 := 1#32
  let arg10 : BitVec 32 := Scf.iv c0_i32_178 c1_i32_180 k0_t20
  let c128_i32 : BitVec 32 := 128#32
  let v740 : BitVec 32 := Scalar.muli arg10 c128_i32
  let c112_i32 : BitVec 32 := 112#32
  let v786 : BitVec 32 := Scalar.addi v740 c112_i32
  let v787 : Index := Scalar.indexCast v786
  ![v787.toNat]
@[reducible] def k0_t21_loop : Scf.Loop 32 :=
  let c0_i32_187 : BitVec 32 := 0#32
  let c125_i32_188 : BitVec 32 := 125#32
  let v477 : BitVec 32 := Scalar.addi c0_i32_187 c125_i32_188
  let c1_i32_189 : BitVec 32 := 1#32
  ⟨c0_i32_187, v477, c1_i32_189⟩

def k0_chk161 (v742 : IVec S16 32) : Prop :=
  (∀ a x, ((![v742] : Fin 1 → IVec S16 32) a x).toNat < S48000.size a)
theorem k0_idx161_inb : ∀ (v742 : IVec S16 32) (k0_hw161 : k0_chk161 v742), ∀ a x, ((![v742] : Fin 1 → IVec S16 32) a x).toNat < S48000.size a := fun v742 k0_hw161 => k0_hw161
def k0_off163 (k0_t21 : Fin k0_t21_loop.trips) : Fin 1 → Nat :=
  let c0_i32_187 : BitVec 32 := 0#32
  let c1_i32_189 : BitVec 32 := 1#32
  let arg10 : BitVec 32 := Scf.iv c0_i32_187 c1_i32_189 k0_t21
  let c128_i32 : BitVec 32 := 128#32
  let v740 : BitVec 32 := Scalar.muli arg10 c128_i32
  let c0_i32_297 : BitVec 32 := 0#32
  let v744 : BitVec 32 := Scalar.addi v740 c0_i32_297
  let v745 : Index := Scalar.indexCast v744
  ![v745.toNat]

def k0_chk162 (v748 : IVec S16 32) : Prop :=
  (∀ a x, ((![v748] : Fin 1 → IVec S16 32) a x).toNat < S48000.size a)
theorem k0_idx162_inb : ∀ (v748 : IVec S16 32) (k0_hw162 : k0_chk162 v748), ∀ a x, ((![v748] : Fin 1 → IVec S16 32) a x).toNat < S48000.size a := fun v748 k0_hw162 => k0_hw162
def k0_off164 (k0_t21 : Fin k0_t21_loop.trips) : Fin 1 → Nat :=
  let c0_i32_187 : BitVec 32 := 0#32
  let c1_i32_189 : BitVec 32 := 1#32
  let arg10 : BitVec 32 := Scf.iv c0_i32_187 c1_i32_189 k0_t21
  let c128_i32 : BitVec 32 := 128#32
  let v740 : BitVec 32 := Scalar.muli arg10 c128_i32
  let c16_i32 : BitVec 32 := 16#32
  let v750 : BitVec 32 := Scalar.addi v740 c16_i32
  let v751 : Index := Scalar.indexCast v750
  ![v751.toNat]

def k0_chk163 (v754 : IVec S16 32) : Prop :=
  (∀ a x, ((![v754] : Fin 1 → IVec S16 32) a x).toNat < S48000.size a)
theorem k0_idx163_inb : ∀ (v754 : IVec S16 32) (k0_hw163 : k0_chk163 v754), ∀ a x, ((![v754] : Fin 1 → IVec S16 32) a x).toNat < S48000.size a := fun v754 k0_hw163 => k0_hw163
def k0_off165 (k0_t21 : Fin k0_t21_loop.trips) : Fin 1 → Nat :=
  let c0_i32_187 : BitVec 32 := 0#32
  let c1_i32_189 : BitVec 32 := 1#32
  let arg10 : BitVec 32 := Scf.iv c0_i32_187 c1_i32_189 k0_t21
  let c128_i32 : BitVec 32 := 128#32
  let v740 : BitVec 32 := Scalar.muli arg10 c128_i32
  let c32_i32 : BitVec 32 := 32#32
  let v756 : BitVec 32 := Scalar.addi v740 c32_i32
  let v757 : Index := Scalar.indexCast v756
  ![v757.toNat]

def k0_chk164 (v760 : IVec S16 32) : Prop :=
  (∀ a x, ((![v760] : Fin 1 → IVec S16 32) a x).toNat < S48000.size a)
theorem k0_idx164_inb : ∀ (v760 : IVec S16 32) (k0_hw164 : k0_chk164 v760), ∀ a x, ((![v760] : Fin 1 → IVec S16 32) a x).toNat < S48000.size a := fun v760 k0_hw164 => k0_hw164
def k0_off166 (k0_t21 : Fin k0_t21_loop.trips) : Fin 1 → Nat :=
  let c0_i32_187 : BitVec 32 := 0#32
  let c1_i32_189 : BitVec 32 := 1#32
  let arg10 : BitVec 32 := Scf.iv c0_i32_187 c1_i32_189 k0_t21
  let c128_i32 : BitVec 32 := 128#32
  let v740 : BitVec 32 := Scalar.muli arg10 c128_i32
  let c48_i32_298 : BitVec 32 := 48#32
  let v762 : BitVec 32 := Scalar.addi v740 c48_i32_298
  let v763 : Index := Scalar.indexCast v762
  ![v763.toNat]

def k0_chk165 (v766 : IVec S16 32) : Prop :=
  (∀ a x, ((![v766] : Fin 1 → IVec S16 32) a x).toNat < S48000.size a)
theorem k0_idx165_inb : ∀ (v766 : IVec S16 32) (k0_hw165 : k0_chk165 v766), ∀ a x, ((![v766] : Fin 1 → IVec S16 32) a x).toNat < S48000.size a := fun v766 k0_hw165 => k0_hw165
def k0_off167 (k0_t21 : Fin k0_t21_loop.trips) : Fin 1 → Nat :=
  let c0_i32_187 : BitVec 32 := 0#32
  let c1_i32_189 : BitVec 32 := 1#32
  let arg10 : BitVec 32 := Scf.iv c0_i32_187 c1_i32_189 k0_t21
  let c128_i32 : BitVec 32 := 128#32
  let v740 : BitVec 32 := Scalar.muli arg10 c128_i32
  let c64_i32 : BitVec 32 := 64#32
  let v768 : BitVec 32 := Scalar.addi v740 c64_i32
  let v769 : Index := Scalar.indexCast v768
  ![v769.toNat]

def k0_chk166 (v772 : IVec S16 32) : Prop :=
  (∀ a x, ((![v772] : Fin 1 → IVec S16 32) a x).toNat < S48000.size a)
theorem k0_idx166_inb : ∀ (v772 : IVec S16 32) (k0_hw166 : k0_chk166 v772), ∀ a x, ((![v772] : Fin 1 → IVec S16 32) a x).toNat < S48000.size a := fun v772 k0_hw166 => k0_hw166
def k0_off168 (k0_t21 : Fin k0_t21_loop.trips) : Fin 1 → Nat :=
  let c0_i32_187 : BitVec 32 := 0#32
  let c1_i32_189 : BitVec 32 := 1#32
  let arg10 : BitVec 32 := Scf.iv c0_i32_187 c1_i32_189 k0_t21
  let c128_i32 : BitVec 32 := 128#32
  let v740 : BitVec 32 := Scalar.muli arg10 c128_i32
  let c80_i32 : BitVec 32 := 80#32
  let v774 : BitVec 32 := Scalar.addi v740 c80_i32
  let v775 : Index := Scalar.indexCast v774
  ![v775.toNat]

def k0_chk167 (v778 : IVec S16 32) : Prop :=
  (∀ a x, ((![v778] : Fin 1 → IVec S16 32) a x).toNat < S48000.size a)
theorem k0_idx167_inb : ∀ (v778 : IVec S16 32) (k0_hw167 : k0_chk167 v778), ∀ a x, ((![v778] : Fin 1 → IVec S16 32) a x).toNat < S48000.size a := fun v778 k0_hw167 => k0_hw167
def k0_off169 (k0_t21 : Fin k0_t21_loop.trips) : Fin 1 → Nat :=
  let c0_i32_187 : BitVec 32 := 0#32
  let c1_i32_189 : BitVec 32 := 1#32
  let arg10 : BitVec 32 := Scf.iv c0_i32_187 c1_i32_189 k0_t21
  let c128_i32 : BitVec 32 := 128#32
  let v740 : BitVec 32 := Scalar.muli arg10 c128_i32
  let c96_i32_299 : BitVec 32 := 96#32
  let v780 : BitVec 32 := Scalar.addi v740 c96_i32_299
  let v781 : Index := Scalar.indexCast v780
  ![v781.toNat]

def k0_chk168 (v784 : IVec S16 32) : Prop :=
  (∀ a x, ((![v784] : Fin 1 → IVec S16 32) a x).toNat < S48000.size a)
theorem k0_idx168_inb : ∀ (v784 : IVec S16 32) (k0_hw168 : k0_chk168 v784), ∀ a x, ((![v784] : Fin 1 → IVec S16 32) a x).toNat < S48000.size a := fun v784 k0_hw168 => k0_hw168
def k0_off170 (k0_t21 : Fin k0_t21_loop.trips) : Fin 1 → Nat :=
  let c0_i32_187 : BitVec 32 := 0#32
  let c1_i32_189 : BitVec 32 := 1#32
  let arg10 : BitVec 32 := Scf.iv c0_i32_187 c1_i32_189 k0_t21
  let c128_i32 : BitVec 32 := 128#32
  let v740 : BitVec 32 := Scalar.muli arg10 c128_i32
  let c112_i32 : BitVec 32 := 112#32
  let v786 : BitVec 32 := Scalar.addi v740 c112_i32
  let v787 : Index := Scalar.indexCast v786
  ![v787.toNat]
@[reducible] def k0_t22_loop : Scf.Loop 32 :=
  let c0_i32_196 : BitVec 32 := 0#32
  let c125_i32_197 : BitVec 32 := 125#32
  let v500 : BitVec 32 := Scalar.addi c0_i32_196 c125_i32_197
  let c1_i32_198 : BitVec 32 := 1#32
  ⟨c0_i32_196, v500, c1_i32_198⟩

def k0_chk169 (v742 : IVec S16 32) : Prop :=
  (∀ a x, ((![v742] : Fin 1 → IVec S16 32) a x).toNat < S48000.size a)
theorem k0_idx169_inb : ∀ (v742 : IVec S16 32) (k0_hw169 : k0_chk169 v742), ∀ a x, ((![v742] : Fin 1 → IVec S16 32) a x).toNat < S48000.size a := fun v742 k0_hw169 => k0_hw169
def k0_off171 (k0_t22 : Fin k0_t22_loop.trips) : Fin 1 → Nat :=
  let c0_i32_196 : BitVec 32 := 0#32
  let c1_i32_198 : BitVec 32 := 1#32
  let arg10 : BitVec 32 := Scf.iv c0_i32_196 c1_i32_198 k0_t22
  let c128_i32 : BitVec 32 := 128#32
  let v740 : BitVec 32 := Scalar.muli arg10 c128_i32
  let c0_i32_297 : BitVec 32 := 0#32
  let v744 : BitVec 32 := Scalar.addi v740 c0_i32_297
  let v745 : Index := Scalar.indexCast v744
  ![v745.toNat]

def k0_chk170 (v748 : IVec S16 32) : Prop :=
  (∀ a x, ((![v748] : Fin 1 → IVec S16 32) a x).toNat < S48000.size a)
theorem k0_idx170_inb : ∀ (v748 : IVec S16 32) (k0_hw170 : k0_chk170 v748), ∀ a x, ((![v748] : Fin 1 → IVec S16 32) a x).toNat < S48000.size a := fun v748 k0_hw170 => k0_hw170
def k0_off172 (k0_t22 : Fin k0_t22_loop.trips) : Fin 1 → Nat :=
  let c0_i32_196 : BitVec 32 := 0#32
  let c1_i32_198 : BitVec 32 := 1#32
  let arg10 : BitVec 32 := Scf.iv c0_i32_196 c1_i32_198 k0_t22
  let c128_i32 : BitVec 32 := 128#32
  let v740 : BitVec 32 := Scalar.muli arg10 c128_i32
  let c16_i32 : BitVec 32 := 16#32
  let v750 : BitVec 32 := Scalar.addi v740 c16_i32
  let v751 : Index := Scalar.indexCast v750
  ![v751.toNat]

def k0_chk171 (v754 : IVec S16 32) : Prop :=
  (∀ a x, ((![v754] : Fin 1 → IVec S16 32) a x).toNat < S48000.size a)
theorem k0_idx171_inb : ∀ (v754 : IVec S16 32) (k0_hw171 : k0_chk171 v754), ∀ a x, ((![v754] : Fin 1 → IVec S16 32) a x).toNat < S48000.size a := fun v754 k0_hw171 => k0_hw171
def k0_off173 (k0_t22 : Fin k0_t22_loop.trips) : Fin 1 → Nat :=
  let c0_i32_196 : BitVec 32 := 0#32
  let c1_i32_198 : BitVec 32 := 1#32
  let arg10 : BitVec 32 := Scf.iv c0_i32_196 c1_i32_198 k0_t22
  let c128_i32 : BitVec 32 := 128#32
  let v740 : BitVec 32 := Scalar.muli arg10 c128_i32
  let c32_i32 : BitVec 32 := 32#32
  let v756 : BitVec 32 := Scalar.addi v740 c32_i32
  let v757 : Index := Scalar.indexCast v756
  ![v757.toNat]

def k0_chk172 (v760 : IVec S16 32) : Prop :=
  (∀ a x, ((![v760] : Fin 1 → IVec S16 32) a x).toNat < S48000.size a)
theorem k0_idx172_inb : ∀ (v760 : IVec S16 32) (k0_hw172 : k0_chk172 v760), ∀ a x, ((![v760] : Fin 1 → IVec S16 32) a x).toNat < S48000.size a := fun v760 k0_hw172 => k0_hw172
def k0_off174 (k0_t22 : Fin k0_t22_loop.trips) : Fin 1 → Nat :=
  let c0_i32_196 : BitVec 32 := 0#32
  let c1_i32_198 : BitVec 32 := 1#32
  let arg10 : BitVec 32 := Scf.iv c0_i32_196 c1_i32_198 k0_t22
  let c128_i32 : BitVec 32 := 128#32
  let v740 : BitVec 32 := Scalar.muli arg10 c128_i32
  let c48_i32_298 : BitVec 32 := 48#32
  let v762 : BitVec 32 := Scalar.addi v740 c48_i32_298
  let v763 : Index := Scalar.indexCast v762
  ![v763.toNat]

def k0_chk173 (v766 : IVec S16 32) : Prop :=
  (∀ a x, ((![v766] : Fin 1 → IVec S16 32) a x).toNat < S48000.size a)
theorem k0_idx173_inb : ∀ (v766 : IVec S16 32) (k0_hw173 : k0_chk173 v766), ∀ a x, ((![v766] : Fin 1 → IVec S16 32) a x).toNat < S48000.size a := fun v766 k0_hw173 => k0_hw173
def k0_off175 (k0_t22 : Fin k0_t22_loop.trips) : Fin 1 → Nat :=
  let c0_i32_196 : BitVec 32 := 0#32
  let c1_i32_198 : BitVec 32 := 1#32
  let arg10 : BitVec 32 := Scf.iv c0_i32_196 c1_i32_198 k0_t22
  let c128_i32 : BitVec 32 := 128#32
  let v740 : BitVec 32 := Scalar.muli arg10 c128_i32
  let c64_i32 : BitVec 32 := 64#32
  let v768 : BitVec 32 := Scalar.addi v740 c64_i32
  let v769 : Index := Scalar.indexCast v768
  ![v769.toNat]

def k0_chk174 (v772 : IVec S16 32) : Prop :=
  (∀ a x, ((![v772] : Fin 1 → IVec S16 32) a x).toNat < S48000.size a)
theorem k0_idx174_inb : ∀ (v772 : IVec S16 32) (k0_hw174 : k0_chk174 v772), ∀ a x, ((![v772] : Fin 1 → IVec S16 32) a x).toNat < S48000.size a := fun v772 k0_hw174 => k0_hw174
def k0_off176 (k0_t22 : Fin k0_t22_loop.trips) : Fin 1 → Nat :=
  let c0_i32_196 : BitVec 32 := 0#32
  let c1_i32_198 : BitVec 32 := 1#32
  let arg10 : BitVec 32 := Scf.iv c0_i32_196 c1_i32_198 k0_t22
  let c128_i32 : BitVec 32 := 128#32
  let v740 : BitVec 32 := Scalar.muli arg10 c128_i32
  let c80_i32 : BitVec 32 := 80#32
  let v774 : BitVec 32 := Scalar.addi v740 c80_i32
  let v775 : Index := Scalar.indexCast v774
  ![v775.toNat]

def k0_chk175 (v778 : IVec S16 32) : Prop :=
  (∀ a x, ((![v778] : Fin 1 → IVec S16 32) a x).toNat < S48000.size a)
theorem k0_idx175_inb : ∀ (v778 : IVec S16 32) (k0_hw175 : k0_chk175 v778), ∀ a x, ((![v778] : Fin 1 → IVec S16 32) a x).toNat < S48000.size a := fun v778 k0_hw175 => k0_hw175
def k0_off177 (k0_t22 : Fin k0_t22_loop.trips) : Fin 1 → Nat :=
  let c0_i32_196 : BitVec 32 := 0#32
  let c1_i32_198 : BitVec 32 := 1#32
  let arg10 : BitVec 32 := Scf.iv c0_i32_196 c1_i32_198 k0_t22
  let c128_i32 : BitVec 32 := 128#32
  let v740 : BitVec 32 := Scalar.muli arg10 c128_i32
  let c96_i32_299 : BitVec 32 := 96#32
  let v780 : BitVec 32 := Scalar.addi v740 c96_i32_299
  let v781 : Index := Scalar.indexCast v780
  ![v781.toNat]

def k0_chk176 (v784 : IVec S16 32) : Prop :=
  (∀ a x, ((![v784] : Fin 1 → IVec S16 32) a x).toNat < S48000.size a)
theorem k0_idx176_inb : ∀ (v784 : IVec S16 32) (k0_hw176 : k0_chk176 v784), ∀ a x, ((![v784] : Fin 1 → IVec S16 32) a x).toNat < S48000.size a := fun v784 k0_hw176 => k0_hw176
def k0_off178 (k0_t22 : Fin k0_t22_loop.trips) : Fin 1 → Nat :=
  let c0_i32_196 : BitVec 32 := 0#32
  let c1_i32_198 : BitVec 32 := 1#32
  let arg10 : BitVec 32 := Scf.iv c0_i32_196 c1_i32_198 k0_t22
  let c128_i32 : BitVec 32 := 128#32
  let v740 : BitVec 32 := Scalar.muli arg10 c128_i32
  let c112_i32 : BitVec 32 := 112#32
  let v786 : BitVec 32 := Scalar.addi v740 c112_i32
  let v787 : Index := Scalar.indexCast v786
  ![v787.toNat]
@[reducible] def k0_t23_loop : Scf.Loop 32 :=
  let c0_i32_206 : BitVec 32 := 0#32
  let c125_i32_207 : BitVec 32 := 125#32
  let v523 : BitVec 32 := Scalar.addi c0_i32_206 c125_i32_207
  let c1_i32_208 : BitVec 32 := 1#32
  ⟨c0_i32_206, v523, c1_i32_208⟩

def k0_chk177 (v742 : IVec S16 32) : Prop :=
  (∀ a x, ((![v742] : Fin 1 → IVec S16 32) a x).toNat < S48000.size a)
theorem k0_idx177_inb : ∀ (v742 : IVec S16 32) (k0_hw177 : k0_chk177 v742), ∀ a x, ((![v742] : Fin 1 → IVec S16 32) a x).toNat < S48000.size a := fun v742 k0_hw177 => k0_hw177
def k0_off179 (k0_t23 : Fin k0_t23_loop.trips) : Fin 1 → Nat :=
  let c0_i32_206 : BitVec 32 := 0#32
  let c1_i32_208 : BitVec 32 := 1#32
  let arg10 : BitVec 32 := Scf.iv c0_i32_206 c1_i32_208 k0_t23
  let c128_i32 : BitVec 32 := 128#32
  let v740 : BitVec 32 := Scalar.muli arg10 c128_i32
  let c0_i32_297 : BitVec 32 := 0#32
  let v744 : BitVec 32 := Scalar.addi v740 c0_i32_297
  let v745 : Index := Scalar.indexCast v744
  ![v745.toNat]

def k0_chk178 (v748 : IVec S16 32) : Prop :=
  (∀ a x, ((![v748] : Fin 1 → IVec S16 32) a x).toNat < S48000.size a)
theorem k0_idx178_inb : ∀ (v748 : IVec S16 32) (k0_hw178 : k0_chk178 v748), ∀ a x, ((![v748] : Fin 1 → IVec S16 32) a x).toNat < S48000.size a := fun v748 k0_hw178 => k0_hw178
def k0_off180 (k0_t23 : Fin k0_t23_loop.trips) : Fin 1 → Nat :=
  let c0_i32_206 : BitVec 32 := 0#32
  let c1_i32_208 : BitVec 32 := 1#32
  let arg10 : BitVec 32 := Scf.iv c0_i32_206 c1_i32_208 k0_t23
  let c128_i32 : BitVec 32 := 128#32
  let v740 : BitVec 32 := Scalar.muli arg10 c128_i32
  let c16_i32 : BitVec 32 := 16#32
  let v750 : BitVec 32 := Scalar.addi v740 c16_i32
  let v751 : Index := Scalar.indexCast v750
  ![v751.toNat]

def k0_chk179 (v754 : IVec S16 32) : Prop :=
  (∀ a x, ((![v754] : Fin 1 → IVec S16 32) a x).toNat < S48000.size a)
theorem k0_idx179_inb : ∀ (v754 : IVec S16 32) (k0_hw179 : k0_chk179 v754), ∀ a x, ((![v754] : Fin 1 → IVec S16 32) a x).toNat < S48000.size a := fun v754 k0_hw179 => k0_hw179
def k0_off181 (k0_t23 : Fin k0_t23_loop.trips) : Fin 1 → Nat :=
  let c0_i32_206 : BitVec 32 := 0#32
  let c1_i32_208 : BitVec 32 := 1#32
  let arg10 : BitVec 32 := Scf.iv c0_i32_206 c1_i32_208 k0_t23
  let c128_i32 : BitVec 32 := 128#32
  let v740 : BitVec 32 := Scalar.muli arg10 c128_i32
  let c32_i32 : BitVec 32 := 32#32
  let v756 : BitVec 32 := Scalar.addi v740 c32_i32
  let v757 : Index := Scalar.indexCast v756
  ![v757.toNat]

def k0_chk180 (v760 : IVec S16 32) : Prop :=
  (∀ a x, ((![v760] : Fin 1 → IVec S16 32) a x).toNat < S48000.size a)
theorem k0_idx180_inb : ∀ (v760 : IVec S16 32) (k0_hw180 : k0_chk180 v760), ∀ a x, ((![v760] : Fin 1 → IVec S16 32) a x).toNat < S48000.size a := fun v760 k0_hw180 => k0_hw180
def k0_off182 (k0_t23 : Fin k0_t23_loop.trips) : Fin 1 → Nat :=
  let c0_i32_206 : BitVec 32 := 0#32
  let c1_i32_208 : BitVec 32 := 1#32
  let arg10 : BitVec 32 := Scf.iv c0_i32_206 c1_i32_208 k0_t23
  let c128_i32 : BitVec 32 := 128#32
  let v740 : BitVec 32 := Scalar.muli arg10 c128_i32
  let c48_i32_298 : BitVec 32 := 48#32
  let v762 : BitVec 32 := Scalar.addi v740 c48_i32_298
  let v763 : Index := Scalar.indexCast v762
  ![v763.toNat]

def k0_chk181 (v766 : IVec S16 32) : Prop :=
  (∀ a x, ((![v766] : Fin 1 → IVec S16 32) a x).toNat < S48000.size a)
theorem k0_idx181_inb : ∀ (v766 : IVec S16 32) (k0_hw181 : k0_chk181 v766), ∀ a x, ((![v766] : Fin 1 → IVec S16 32) a x).toNat < S48000.size a := fun v766 k0_hw181 => k0_hw181
def k0_off183 (k0_t23 : Fin k0_t23_loop.trips) : Fin 1 → Nat :=
  let c0_i32_206 : BitVec 32 := 0#32
  let c1_i32_208 : BitVec 32 := 1#32
  let arg10 : BitVec 32 := Scf.iv c0_i32_206 c1_i32_208 k0_t23
  let c128_i32 : BitVec 32 := 128#32
  let v740 : BitVec 32 := Scalar.muli arg10 c128_i32
  let c64_i32 : BitVec 32 := 64#32
  let v768 : BitVec 32 := Scalar.addi v740 c64_i32
  let v769 : Index := Scalar.indexCast v768
  ![v769.toNat]

def k0_chk182 (v772 : IVec S16 32) : Prop :=
  (∀ a x, ((![v772] : Fin 1 → IVec S16 32) a x).toNat < S48000.size a)
theorem k0_idx182_inb : ∀ (v772 : IVec S16 32) (k0_hw182 : k0_chk182 v772), ∀ a x, ((![v772] : Fin 1 → IVec S16 32) a x).toNat < S48000.size a := fun v772 k0_hw182 => k0_hw182
def k0_off184 (k0_t23 : Fin k0_t23_loop.trips) : Fin 1 → Nat :=
  let c0_i32_206 : BitVec 32 := 0#32
  let c1_i32_208 : BitVec 32 := 1#32
  let arg10 : BitVec 32 := Scf.iv c0_i32_206 c1_i32_208 k0_t23
  let c128_i32 : BitVec 32 := 128#32
  let v740 : BitVec 32 := Scalar.muli arg10 c128_i32
  let c80_i32 : BitVec 32 := 80#32
  let v774 : BitVec 32 := Scalar.addi v740 c80_i32
  let v775 : Index := Scalar.indexCast v774
  ![v775.toNat]

def k0_chk183 (v778 : IVec S16 32) : Prop :=
  (∀ a x, ((![v778] : Fin 1 → IVec S16 32) a x).toNat < S48000.size a)
theorem k0_idx183_inb : ∀ (v778 : IVec S16 32) (k0_hw183 : k0_chk183 v778), ∀ a x, ((![v778] : Fin 1 → IVec S16 32) a x).toNat < S48000.size a := fun v778 k0_hw183 => k0_hw183
def k0_off185 (k0_t23 : Fin k0_t23_loop.trips) : Fin 1 → Nat :=
  let c0_i32_206 : BitVec 32 := 0#32
  let c1_i32_208 : BitVec 32 := 1#32
  let arg10 : BitVec 32 := Scf.iv c0_i32_206 c1_i32_208 k0_t23
  let c128_i32 : BitVec 32 := 128#32
  let v740 : BitVec 32 := Scalar.muli arg10 c128_i32
  let c96_i32_299 : BitVec 32 := 96#32
  let v780 : BitVec 32 := Scalar.addi v740 c96_i32_299
  let v781 : Index := Scalar.indexCast v780
  ![v781.toNat]

def k0_chk184 (v784 : IVec S16 32) : Prop :=
  (∀ a x, ((![v784] : Fin 1 → IVec S16 32) a x).toNat < S48000.size a)
theorem k0_idx184_inb : ∀ (v784 : IVec S16 32) (k0_hw184 : k0_chk184 v784), ∀ a x, ((![v784] : Fin 1 → IVec S16 32) a x).toNat < S48000.size a := fun v784 k0_hw184 => k0_hw184
def k0_off186 (k0_t23 : Fin k0_t23_loop.trips) : Fin 1 → Nat :=
  let c0_i32_206 : BitVec 32 := 0#32
  let c1_i32_208 : BitVec 32 := 1#32
  let arg10 : BitVec 32 := Scf.iv c0_i32_206 c1_i32_208 k0_t23
  let c128_i32 : BitVec 32 := 128#32
  let v740 : BitVec 32 := Scalar.muli arg10 c128_i32
  let c112_i32 : BitVec 32 := 112#32
  let v786 : BitVec 32 := Scalar.addi v740 c112_i32
  let v787 : Index := Scalar.indexCast v786
  ![v787.toNat]
@[reducible] def k0_t24_loop : Scf.Loop 32 :=
  let c0_i32_215 : BitVec 32 := 0#32
  let c125_i32_216 : BitVec 32 := 125#32
  let v546 : BitVec 32 := Scalar.addi c0_i32_215 c125_i32_216
  let c1_i32_217 : BitVec 32 := 1#32
  ⟨c0_i32_215, v546, c1_i32_217⟩

def k0_chk185 (v742 : IVec S16 32) : Prop :=
  (∀ a x, ((![v742] : Fin 1 → IVec S16 32) a x).toNat < S48000.size a)
theorem k0_idx185_inb : ∀ (v742 : IVec S16 32) (k0_hw185 : k0_chk185 v742), ∀ a x, ((![v742] : Fin 1 → IVec S16 32) a x).toNat < S48000.size a := fun v742 k0_hw185 => k0_hw185
def k0_off187 (k0_t24 : Fin k0_t24_loop.trips) : Fin 1 → Nat :=
  let c0_i32_215 : BitVec 32 := 0#32
  let c1_i32_217 : BitVec 32 := 1#32
  let arg10 : BitVec 32 := Scf.iv c0_i32_215 c1_i32_217 k0_t24
  let c128_i32 : BitVec 32 := 128#32
  let v740 : BitVec 32 := Scalar.muli arg10 c128_i32
  let c0_i32_297 : BitVec 32 := 0#32
  let v744 : BitVec 32 := Scalar.addi v740 c0_i32_297
  let v745 : Index := Scalar.indexCast v744
  ![v745.toNat]

def k0_chk186 (v748 : IVec S16 32) : Prop :=
  (∀ a x, ((![v748] : Fin 1 → IVec S16 32) a x).toNat < S48000.size a)
theorem k0_idx186_inb : ∀ (v748 : IVec S16 32) (k0_hw186 : k0_chk186 v748), ∀ a x, ((![v748] : Fin 1 → IVec S16 32) a x).toNat < S48000.size a := fun v748 k0_hw186 => k0_hw186
def k0_off188 (k0_t24 : Fin k0_t24_loop.trips) : Fin 1 → Nat :=
  let c0_i32_215 : BitVec 32 := 0#32
  let c1_i32_217 : BitVec 32 := 1#32
  let arg10 : BitVec 32 := Scf.iv c0_i32_215 c1_i32_217 k0_t24
  let c128_i32 : BitVec 32 := 128#32
  let v740 : BitVec 32 := Scalar.muli arg10 c128_i32
  let c16_i32 : BitVec 32 := 16#32
  let v750 : BitVec 32 := Scalar.addi v740 c16_i32
  let v751 : Index := Scalar.indexCast v750
  ![v751.toNat]

def k0_chk187 (v754 : IVec S16 32) : Prop :=
  (∀ a x, ((![v754] : Fin 1 → IVec S16 32) a x).toNat < S48000.size a)
theorem k0_idx187_inb : ∀ (v754 : IVec S16 32) (k0_hw187 : k0_chk187 v754), ∀ a x, ((![v754] : Fin 1 → IVec S16 32) a x).toNat < S48000.size a := fun v754 k0_hw187 => k0_hw187
def k0_off189 (k0_t24 : Fin k0_t24_loop.trips) : Fin 1 → Nat :=
  let c0_i32_215 : BitVec 32 := 0#32
  let c1_i32_217 : BitVec 32 := 1#32
  let arg10 : BitVec 32 := Scf.iv c0_i32_215 c1_i32_217 k0_t24
  let c128_i32 : BitVec 32 := 128#32
  let v740 : BitVec 32 := Scalar.muli arg10 c128_i32
  let c32_i32 : BitVec 32 := 32#32
  let v756 : BitVec 32 := Scalar.addi v740 c32_i32
  let v757 : Index := Scalar.indexCast v756
  ![v757.toNat]

def k0_chk188 (v760 : IVec S16 32) : Prop :=
  (∀ a x, ((![v760] : Fin 1 → IVec S16 32) a x).toNat < S48000.size a)
theorem k0_idx188_inb : ∀ (v760 : IVec S16 32) (k0_hw188 : k0_chk188 v760), ∀ a x, ((![v760] : Fin 1 → IVec S16 32) a x).toNat < S48000.size a := fun v760 k0_hw188 => k0_hw188
def k0_off190 (k0_t24 : Fin k0_t24_loop.trips) : Fin 1 → Nat :=
  let c0_i32_215 : BitVec 32 := 0#32
  let c1_i32_217 : BitVec 32 := 1#32
  let arg10 : BitVec 32 := Scf.iv c0_i32_215 c1_i32_217 k0_t24
  let c128_i32 : BitVec 32 := 128#32
  let v740 : BitVec 32 := Scalar.muli arg10 c128_i32
  let c48_i32_298 : BitVec 32 := 48#32
  let v762 : BitVec 32 := Scalar.addi v740 c48_i32_298
  let v763 : Index := Scalar.indexCast v762
  ![v763.toNat]

def k0_chk189 (v766 : IVec S16 32) : Prop :=
  (∀ a x, ((![v766] : Fin 1 → IVec S16 32) a x).toNat < S48000.size a)
theorem k0_idx189_inb : ∀ (v766 : IVec S16 32) (k0_hw189 : k0_chk189 v766), ∀ a x, ((![v766] : Fin 1 → IVec S16 32) a x).toNat < S48000.size a := fun v766 k0_hw189 => k0_hw189
def k0_off191 (k0_t24 : Fin k0_t24_loop.trips) : Fin 1 → Nat :=
  let c0_i32_215 : BitVec 32 := 0#32
  let c1_i32_217 : BitVec 32 := 1#32
  let arg10 : BitVec 32 := Scf.iv c0_i32_215 c1_i32_217 k0_t24
  let c128_i32 : BitVec 32 := 128#32
  let v740 : BitVec 32 := Scalar.muli arg10 c128_i32
  let c64_i32 : BitVec 32 := 64#32
  let v768 : BitVec 32 := Scalar.addi v740 c64_i32
  let v769 : Index := Scalar.indexCast v768
  ![v769.toNat]

def k0_chk190 (v772 : IVec S16 32) : Prop :=
  (∀ a x, ((![v772] : Fin 1 → IVec S16 32) a x).toNat < S48000.size a)
theorem k0_idx190_inb : ∀ (v772 : IVec S16 32) (k0_hw190 : k0_chk190 v772), ∀ a x, ((![v772] : Fin 1 → IVec S16 32) a x).toNat < S48000.size a := fun v772 k0_hw190 => k0_hw190
def k0_off192 (k0_t24 : Fin k0_t24_loop.trips) : Fin 1 → Nat :=
  let c0_i32_215 : BitVec 32 := 0#32
  let c1_i32_217 : BitVec 32 := 1#32
  let arg10 : BitVec 32 := Scf.iv c0_i32_215 c1_i32_217 k0_t24
  let c128_i32 : BitVec 32 := 128#32
  let v740 : BitVec 32 := Scalar.muli arg10 c128_i32
  let c80_i32 : BitVec 32 := 80#32
  let v774 : BitVec 32 := Scalar.addi v740 c80_i32
  let v775 : Index := Scalar.indexCast v774
  ![v775.toNat]

def k0_chk191 (v778 : IVec S16 32) : Prop :=
  (∀ a x, ((![v778] : Fin 1 → IVec S16 32) a x).toNat < S48000.size a)
theorem k0_idx191_inb : ∀ (v778 : IVec S16 32) (k0_hw191 : k0_chk191 v778), ∀ a x, ((![v778] : Fin 1 → IVec S16 32) a x).toNat < S48000.size a := fun v778 k0_hw191 => k0_hw191
def k0_off193 (k0_t24 : Fin k0_t24_loop.trips) : Fin 1 → Nat :=
  let c0_i32_215 : BitVec 32 := 0#32
  let c1_i32_217 : BitVec 32 := 1#32
  let arg10 : BitVec 32 := Scf.iv c0_i32_215 c1_i32_217 k0_t24
  let c128_i32 : BitVec 32 := 128#32
  let v740 : BitVec 32 := Scalar.muli arg10 c128_i32
  let c96_i32_299 : BitVec 32 := 96#32
  let v780 : BitVec 32 := Scalar.addi v740 c96_i32_299
  let v781 : Index := Scalar.indexCast v780
  ![v781.toNat]

def k0_chk192 (v784 : IVec S16 32) : Prop :=
  (∀ a x, ((![v784] : Fin 1 → IVec S16 32) a x).toNat < S48000.size a)
theorem k0_idx192_inb : ∀ (v784 : IVec S16 32) (k0_hw192 : k0_chk192 v784), ∀ a x, ((![v784] : Fin 1 → IVec S16 32) a x).toNat < S48000.size a := fun v784 k0_hw192 => k0_hw192
def k0_off194 (k0_t24 : Fin k0_t24_loop.trips) : Fin 1 → Nat :=
  let c0_i32_215 : BitVec 32 := 0#32
  let c1_i32_217 : BitVec 32 := 1#32
  let arg10 : BitVec 32 := Scf.iv c0_i32_215 c1_i32_217 k0_t24
  let c128_i32 : BitVec 32 := 128#32
  let v740 : BitVec 32 := Scalar.muli arg10 c128_i32
  let c112_i32 : BitVec 32 := 112#32
  let v786 : BitVec 32 := Scalar.addi v740 c112_i32
  let v787 : Index := Scalar.indexCast v786
  ![v787.toNat]
@[reducible] def k0_t25_loop : Scf.Loop 32 :=
  let c0_i32_224 : BitVec 32 := 0#32
  let c125_i32_225 : BitVec 32 := 125#32
  let v569 : BitVec 32 := Scalar.addi c0_i32_224 c125_i32_225
  let c1_i32_226 : BitVec 32 := 1#32
  ⟨c0_i32_224, v569, c1_i32_226⟩

def k0_chk193 (v742 : IVec S16 32) : Prop :=
  (∀ a x, ((![v742] : Fin 1 → IVec S16 32) a x).toNat < S48000.size a)
theorem k0_idx193_inb : ∀ (v742 : IVec S16 32) (k0_hw193 : k0_chk193 v742), ∀ a x, ((![v742] : Fin 1 → IVec S16 32) a x).toNat < S48000.size a := fun v742 k0_hw193 => k0_hw193
def k0_off195 (k0_t25 : Fin k0_t25_loop.trips) : Fin 1 → Nat :=
  let c0_i32_224 : BitVec 32 := 0#32
  let c1_i32_226 : BitVec 32 := 1#32
  let arg10 : BitVec 32 := Scf.iv c0_i32_224 c1_i32_226 k0_t25
  let c128_i32 : BitVec 32 := 128#32
  let v740 : BitVec 32 := Scalar.muli arg10 c128_i32
  let c0_i32_297 : BitVec 32 := 0#32
  let v744 : BitVec 32 := Scalar.addi v740 c0_i32_297
  let v745 : Index := Scalar.indexCast v744
  ![v745.toNat]

def k0_chk194 (v748 : IVec S16 32) : Prop :=
  (∀ a x, ((![v748] : Fin 1 → IVec S16 32) a x).toNat < S48000.size a)
theorem k0_idx194_inb : ∀ (v748 : IVec S16 32) (k0_hw194 : k0_chk194 v748), ∀ a x, ((![v748] : Fin 1 → IVec S16 32) a x).toNat < S48000.size a := fun v748 k0_hw194 => k0_hw194
def k0_off196 (k0_t25 : Fin k0_t25_loop.trips) : Fin 1 → Nat :=
  let c0_i32_224 : BitVec 32 := 0#32
  let c1_i32_226 : BitVec 32 := 1#32
  let arg10 : BitVec 32 := Scf.iv c0_i32_224 c1_i32_226 k0_t25
  let c128_i32 : BitVec 32 := 128#32
  let v740 : BitVec 32 := Scalar.muli arg10 c128_i32
  let c16_i32 : BitVec 32 := 16#32
  let v750 : BitVec 32 := Scalar.addi v740 c16_i32
  let v751 : Index := Scalar.indexCast v750
  ![v751.toNat]

def k0_chk195 (v754 : IVec S16 32) : Prop :=
  (∀ a x, ((![v754] : Fin 1 → IVec S16 32) a x).toNat < S48000.size a)
theorem k0_idx195_inb : ∀ (v754 : IVec S16 32) (k0_hw195 : k0_chk195 v754), ∀ a x, ((![v754] : Fin 1 → IVec S16 32) a x).toNat < S48000.size a := fun v754 k0_hw195 => k0_hw195
def k0_off197 (k0_t25 : Fin k0_t25_loop.trips) : Fin 1 → Nat :=
  let c0_i32_224 : BitVec 32 := 0#32
  let c1_i32_226 : BitVec 32 := 1#32
  let arg10 : BitVec 32 := Scf.iv c0_i32_224 c1_i32_226 k0_t25
  let c128_i32 : BitVec 32 := 128#32
  let v740 : BitVec 32 := Scalar.muli arg10 c128_i32
  let c32_i32 : BitVec 32 := 32#32
  let v756 : BitVec 32 := Scalar.addi v740 c32_i32
  let v757 : Index := Scalar.indexCast v756
  ![v757.toNat]

def k0_chk196 (v760 : IVec S16 32) : Prop :=
  (∀ a x, ((![v760] : Fin 1 → IVec S16 32) a x).toNat < S48000.size a)
theorem k0_idx196_inb : ∀ (v760 : IVec S16 32) (k0_hw196 : k0_chk196 v760), ∀ a x, ((![v760] : Fin 1 → IVec S16 32) a x).toNat < S48000.size a := fun v760 k0_hw196 => k0_hw196
def k0_off198 (k0_t25 : Fin k0_t25_loop.trips) : Fin 1 → Nat :=
  let c0_i32_224 : BitVec 32 := 0#32
  let c1_i32_226 : BitVec 32 := 1#32
  let arg10 : BitVec 32 := Scf.iv c0_i32_224 c1_i32_226 k0_t25
  let c128_i32 : BitVec 32 := 128#32
  let v740 : BitVec 32 := Scalar.muli arg10 c128_i32
  let c48_i32_298 : BitVec 32 := 48#32
  let v762 : BitVec 32 := Scalar.addi v740 c48_i32_298
  let v763 : Index := Scalar.indexCast v762
  ![v763.toNat]

def k0_chk197 (v766 : IVec S16 32) : Prop :=
  (∀ a x, ((![v766] : Fin 1 → IVec S16 32) a x).toNat < S48000.size a)
theorem k0_idx197_inb : ∀ (v766 : IVec S16 32) (k0_hw197 : k0_chk197 v766), ∀ a x, ((![v766] : Fin 1 → IVec S16 32) a x).toNat < S48000.size a := fun v766 k0_hw197 => k0_hw197
def k0_off199 (k0_t25 : Fin k0_t25_loop.trips) : Fin 1 → Nat :=
  let c0_i32_224 : BitVec 32 := 0#32
  let c1_i32_226 : BitVec 32 := 1#32
  let arg10 : BitVec 32 := Scf.iv c0_i32_224 c1_i32_226 k0_t25
  let c128_i32 : BitVec 32 := 128#32
  let v740 : BitVec 32 := Scalar.muli arg10 c128_i32
  let c64_i32 : BitVec 32 := 64#32
  let v768 : BitVec 32 := Scalar.addi v740 c64_i32
  let v769 : Index := Scalar.indexCast v768
  ![v769.toNat]

def k0_chk198 (v772 : IVec S16 32) : Prop :=
  (∀ a x, ((![v772] : Fin 1 → IVec S16 32) a x).toNat < S48000.size a)
theorem k0_idx198_inb : ∀ (v772 : IVec S16 32) (k0_hw198 : k0_chk198 v772), ∀ a x, ((![v772] : Fin 1 → IVec S16 32) a x).toNat < S48000.size a := fun v772 k0_hw198 => k0_hw198
def k0_off200 (k0_t25 : Fin k0_t25_loop.trips) : Fin 1 → Nat :=
  let c0_i32_224 : BitVec 32 := 0#32
  let c1_i32_226 : BitVec 32 := 1#32
  let arg10 : BitVec 32 := Scf.iv c0_i32_224 c1_i32_226 k0_t25
  let c128_i32 : BitVec 32 := 128#32
  let v740 : BitVec 32 := Scalar.muli arg10 c128_i32
  let c80_i32 : BitVec 32 := 80#32
  let v774 : BitVec 32 := Scalar.addi v740 c80_i32
  let v775 : Index := Scalar.indexCast v774
  ![v775.toNat]

def k0_chk199 (v778 : IVec S16 32) : Prop :=
  (∀ a x, ((![v778] : Fin 1 → IVec S16 32) a x).toNat < S48000.size a)
theorem k0_idx199_inb : ∀ (v778 : IVec S16 32) (k0_hw199 : k0_chk199 v778), ∀ a x, ((![v778] : Fin 1 → IVec S16 32) a x).toNat < S48000.size a := fun v778 k0_hw199 => k0_hw199
def k0_off201 (k0_t25 : Fin k0_t25_loop.trips) : Fin 1 → Nat :=
  let c0_i32_224 : BitVec 32 := 0#32
  let c1_i32_226 : BitVec 32 := 1#32
  let arg10 : BitVec 32 := Scf.iv c0_i32_224 c1_i32_226 k0_t25
  let c128_i32 : BitVec 32 := 128#32
  let v740 : BitVec 32 := Scalar.muli arg10 c128_i32
  let c96_i32_299 : BitVec 32 := 96#32
  let v780 : BitVec 32 := Scalar.addi v740 c96_i32_299
  let v781 : Index := Scalar.indexCast v780
  ![v781.toNat]

def k0_chk200 (v784 : IVec S16 32) : Prop :=
  (∀ a x, ((![v784] : Fin 1 → IVec S16 32) a x).toNat < S48000.size a)
theorem k0_idx200_inb : ∀ (v784 : IVec S16 32) (k0_hw200 : k0_chk200 v784), ∀ a x, ((![v784] : Fin 1 → IVec S16 32) a x).toNat < S48000.size a := fun v784 k0_hw200 => k0_hw200
def k0_off202 (k0_t25 : Fin k0_t25_loop.trips) : Fin 1 → Nat :=
  let c0_i32_224 : BitVec 32 := 0#32
  let c1_i32_226 : BitVec 32 := 1#32
  let arg10 : BitVec 32 := Scf.iv c0_i32_224 c1_i32_226 k0_t25
  let c128_i32 : BitVec 32 := 128#32
  let v740 : BitVec 32 := Scalar.muli arg10 c128_i32
  let c112_i32 : BitVec 32 := 112#32
  let v786 : BitVec 32 := Scalar.addi v740 c112_i32
  let v787 : Index := Scalar.indexCast v786
  ![v787.toNat]
@[reducible] def k0_t26_loop : Scf.Loop 32 :=
  let c0_i32_234 : BitVec 32 := 0#32
  let c125_i32_235 : BitVec 32 := 125#32
  let v592 : BitVec 32 := Scalar.addi c0_i32_234 c125_i32_235
  let c1_i32_236 : BitVec 32 := 1#32
  ⟨c0_i32_234, v592, c1_i32_236⟩

def k0_chk201 (v742 : IVec S16 32) : Prop :=
  (∀ a x, ((![v742] : Fin 1 → IVec S16 32) a x).toNat < S48000.size a)
theorem k0_idx201_inb : ∀ (v742 : IVec S16 32) (k0_hw201 : k0_chk201 v742), ∀ a x, ((![v742] : Fin 1 → IVec S16 32) a x).toNat < S48000.size a := fun v742 k0_hw201 => k0_hw201
def k0_off203 (k0_t26 : Fin k0_t26_loop.trips) : Fin 1 → Nat :=
  let c0_i32_234 : BitVec 32 := 0#32
  let c1_i32_236 : BitVec 32 := 1#32
  let arg10 : BitVec 32 := Scf.iv c0_i32_234 c1_i32_236 k0_t26
  let c128_i32 : BitVec 32 := 128#32
  let v740 : BitVec 32 := Scalar.muli arg10 c128_i32
  let c0_i32_297 : BitVec 32 := 0#32
  let v744 : BitVec 32 := Scalar.addi v740 c0_i32_297
  let v745 : Index := Scalar.indexCast v744
  ![v745.toNat]

def k0_chk202 (v748 : IVec S16 32) : Prop :=
  (∀ a x, ((![v748] : Fin 1 → IVec S16 32) a x).toNat < S48000.size a)
theorem k0_idx202_inb : ∀ (v748 : IVec S16 32) (k0_hw202 : k0_chk202 v748), ∀ a x, ((![v748] : Fin 1 → IVec S16 32) a x).toNat < S48000.size a := fun v748 k0_hw202 => k0_hw202
def k0_off204 (k0_t26 : Fin k0_t26_loop.trips) : Fin 1 → Nat :=
  let c0_i32_234 : BitVec 32 := 0#32
  let c1_i32_236 : BitVec 32 := 1#32
  let arg10 : BitVec 32 := Scf.iv c0_i32_234 c1_i32_236 k0_t26
  let c128_i32 : BitVec 32 := 128#32
  let v740 : BitVec 32 := Scalar.muli arg10 c128_i32
  let c16_i32 : BitVec 32 := 16#32
  let v750 : BitVec 32 := Scalar.addi v740 c16_i32
  let v751 : Index := Scalar.indexCast v750
  ![v751.toNat]

def k0_chk203 (v754 : IVec S16 32) : Prop :=
  (∀ a x, ((![v754] : Fin 1 → IVec S16 32) a x).toNat < S48000.size a)
theorem k0_idx203_inb : ∀ (v754 : IVec S16 32) (k0_hw203 : k0_chk203 v754), ∀ a x, ((![v754] : Fin 1 → IVec S16 32) a x).toNat < S48000.size a := fun v754 k0_hw203 => k0_hw203
def k0_off205 (k0_t26 : Fin k0_t26_loop.trips) : Fin 1 → Nat :=
  let c0_i32_234 : BitVec 32 := 0#32
  let c1_i32_236 : BitVec 32 := 1#32
  let arg10 : BitVec 32 := Scf.iv c0_i32_234 c1_i32_236 k0_t26
  let c128_i32 : BitVec 32 := 128#32
  let v740 : BitVec 32 := Scalar.muli arg10 c128_i32
  let c32_i32 : BitVec 32 := 32#32
  let v756 : BitVec 32 := Scalar.addi v740 c32_i32
  let v757 : Index := Scalar.indexCast v756
  ![v757.toNat]

def k0_chk204 (v760 : IVec S16 32) : Prop :=
  (∀ a x, ((![v760] : Fin 1 → IVec S16 32) a x).toNat < S48000.size a)
theorem k0_idx204_inb : ∀ (v760 : IVec S16 32) (k0_hw204 : k0_chk204 v760), ∀ a x, ((![v760] : Fin 1 → IVec S16 32) a x).toNat < S48000.size a := fun v760 k0_hw204 => k0_hw204
def k0_off206 (k0_t26 : Fin k0_t26_loop.trips) : Fin 1 → Nat :=
  let c0_i32_234 : BitVec 32 := 0#32
  let c1_i32_236 : BitVec 32 := 1#32
  let arg10 : BitVec 32 := Scf.iv c0_i32_234 c1_i32_236 k0_t26
  let c128_i32 : BitVec 32 := 128#32
  let v740 : BitVec 32 := Scalar.muli arg10 c128_i32
  let c48_i32_298 : BitVec 32 := 48#32
  let v762 : BitVec 32 := Scalar.addi v740 c48_i32_298
  let v763 : Index := Scalar.indexCast v762
  ![v763.toNat]

def k0_chk205 (v766 : IVec S16 32) : Prop :=
  (∀ a x, ((![v766] : Fin 1 → IVec S16 32) a x).toNat < S48000.size a)
theorem k0_idx205_inb : ∀ (v766 : IVec S16 32) (k0_hw205 : k0_chk205 v766), ∀ a x, ((![v766] : Fin 1 → IVec S16 32) a x).toNat < S48000.size a := fun v766 k0_hw205 => k0_hw205
def k0_off207 (k0_t26 : Fin k0_t26_loop.trips) : Fin 1 → Nat :=
  let c0_i32_234 : BitVec 32 := 0#32
  let c1_i32_236 : BitVec 32 := 1#32
  let arg10 : BitVec 32 := Scf.iv c0_i32_234 c1_i32_236 k0_t26
  let c128_i32 : BitVec 32 := 128#32
  let v740 : BitVec 32 := Scalar.muli arg10 c128_i32
  let c64_i32 : BitVec 32 := 64#32
  let v768 : BitVec 32 := Scalar.addi v740 c64_i32
  let v769 : Index := Scalar.indexCast v768
  ![v769.toNat]

def k0_chk206 (v772 : IVec S16 32) : Prop :=
  (∀ a x, ((![v772] : Fin 1 → IVec S16 32) a x).toNat < S48000.size a)
theorem k0_idx206_inb : ∀ (v772 : IVec S16 32) (k0_hw206 : k0_chk206 v772), ∀ a x, ((![v772] : Fin 1 → IVec S16 32) a x).toNat < S48000.size a := fun v772 k0_hw206 => k0_hw206
def k0_off208 (k0_t26 : Fin k0_t26_loop.trips) : Fin 1 → Nat :=
  let c0_i32_234 : BitVec 32 := 0#32
  let c1_i32_236 : BitVec 32 := 1#32
  let arg10 : BitVec 32 := Scf.iv c0_i32_234 c1_i32_236 k0_t26
  let c128_i32 : BitVec 32 := 128#32
  let v740 : BitVec 32 := Scalar.muli arg10 c128_i32
  let c80_i32 : BitVec 32 := 80#32
  let v774 : BitVec 32 := Scalar.addi v740 c80_i32
  let v775 : Index := Scalar.indexCast v774
  ![v775.toNat]

def k0_chk207 (v778 : IVec S16 32) : Prop :=
  (∀ a x, ((![v778] : Fin 1 → IVec S16 32) a x).toNat < S48000.size a)
theorem k0_idx207_inb : ∀ (v778 : IVec S16 32) (k0_hw207 : k0_chk207 v778), ∀ a x, ((![v778] : Fin 1 → IVec S16 32) a x).toNat < S48000.size a := fun v778 k0_hw207 => k0_hw207
def k0_off209 (k0_t26 : Fin k0_t26_loop.trips) : Fin 1 → Nat :=
  let c0_i32_234 : BitVec 32 := 0#32
  let c1_i32_236 : BitVec 32 := 1#32
  let arg10 : BitVec 32 := Scf.iv c0_i32_234 c1_i32_236 k0_t26
  let c128_i32 : BitVec 32 := 128#32
  let v740 : BitVec 32 := Scalar.muli arg10 c128_i32
  let c96_i32_299 : BitVec 32 := 96#32
  let v780 : BitVec 32 := Scalar.addi v740 c96_i32_299
  let v781 : Index := Scalar.indexCast v780
  ![v781.toNat]

def k0_chk208 (v784 : IVec S16 32) : Prop :=
  (∀ a x, ((![v784] : Fin 1 → IVec S16 32) a x).toNat < S48000.size a)
theorem k0_idx208_inb : ∀ (v784 : IVec S16 32) (k0_hw208 : k0_chk208 v784), ∀ a x, ((![v784] : Fin 1 → IVec S16 32) a x).toNat < S48000.size a := fun v784 k0_hw208 => k0_hw208
def k0_off210 (k0_t26 : Fin k0_t26_loop.trips) : Fin 1 → Nat :=
  let c0_i32_234 : BitVec 32 := 0#32
  let c1_i32_236 : BitVec 32 := 1#32
  let arg10 : BitVec 32 := Scf.iv c0_i32_234 c1_i32_236 k0_t26
  let c128_i32 : BitVec 32 := 128#32
  let v740 : BitVec 32 := Scalar.muli arg10 c128_i32
  let c112_i32 : BitVec 32 := 112#32
  let v786 : BitVec 32 := Scalar.addi v740 c112_i32
  let v787 : Index := Scalar.indexCast v786
  ![v787.toNat]
@[reducible] def k0_t27_loop : Scf.Loop 32 :=
  let c0_i32_243 : BitVec 32 := 0#32
  let c125_i32_244 : BitVec 32 := 125#32
  let v615 : BitVec 32 := Scalar.addi c0_i32_243 c125_i32_244
  let c1_i32_245 : BitVec 32 := 1#32
  ⟨c0_i32_243, v615, c1_i32_245⟩

def k0_chk209 (v742 : IVec S16 32) : Prop :=
  (∀ a x, ((![v742] : Fin 1 → IVec S16 32) a x).toNat < S48000.size a)
theorem k0_idx209_inb : ∀ (v742 : IVec S16 32) (k0_hw209 : k0_chk209 v742), ∀ a x, ((![v742] : Fin 1 → IVec S16 32) a x).toNat < S48000.size a := fun v742 k0_hw209 => k0_hw209
def k0_off211 (k0_t27 : Fin k0_t27_loop.trips) : Fin 1 → Nat :=
  let c0_i32_243 : BitVec 32 := 0#32
  let c1_i32_245 : BitVec 32 := 1#32
  let arg10 : BitVec 32 := Scf.iv c0_i32_243 c1_i32_245 k0_t27
  let c128_i32 : BitVec 32 := 128#32
  let v740 : BitVec 32 := Scalar.muli arg10 c128_i32
  let c0_i32_297 : BitVec 32 := 0#32
  let v744 : BitVec 32 := Scalar.addi v740 c0_i32_297
  let v745 : Index := Scalar.indexCast v744
  ![v745.toNat]

def k0_chk210 (v748 : IVec S16 32) : Prop :=
  (∀ a x, ((![v748] : Fin 1 → IVec S16 32) a x).toNat < S48000.size a)
theorem k0_idx210_inb : ∀ (v748 : IVec S16 32) (k0_hw210 : k0_chk210 v748), ∀ a x, ((![v748] : Fin 1 → IVec S16 32) a x).toNat < S48000.size a := fun v748 k0_hw210 => k0_hw210
def k0_off212 (k0_t27 : Fin k0_t27_loop.trips) : Fin 1 → Nat :=
  let c0_i32_243 : BitVec 32 := 0#32
  let c1_i32_245 : BitVec 32 := 1#32
  let arg10 : BitVec 32 := Scf.iv c0_i32_243 c1_i32_245 k0_t27
  let c128_i32 : BitVec 32 := 128#32
  let v740 : BitVec 32 := Scalar.muli arg10 c128_i32
  let c16_i32 : BitVec 32 := 16#32
  let v750 : BitVec 32 := Scalar.addi v740 c16_i32
  let v751 : Index := Scalar.indexCast v750
  ![v751.toNat]

def k0_chk211 (v754 : IVec S16 32) : Prop :=
  (∀ a x, ((![v754] : Fin 1 → IVec S16 32) a x).toNat < S48000.size a)
theorem k0_idx211_inb : ∀ (v754 : IVec S16 32) (k0_hw211 : k0_chk211 v754), ∀ a x, ((![v754] : Fin 1 → IVec S16 32) a x).toNat < S48000.size a := fun v754 k0_hw211 => k0_hw211
def k0_off213 (k0_t27 : Fin k0_t27_loop.trips) : Fin 1 → Nat :=
  let c0_i32_243 : BitVec 32 := 0#32
  let c1_i32_245 : BitVec 32 := 1#32
  let arg10 : BitVec 32 := Scf.iv c0_i32_243 c1_i32_245 k0_t27
  let c128_i32 : BitVec 32 := 128#32
  let v740 : BitVec 32 := Scalar.muli arg10 c128_i32
  let c32_i32 : BitVec 32 := 32#32
  let v756 : BitVec 32 := Scalar.addi v740 c32_i32
  let v757 : Index := Scalar.indexCast v756
  ![v757.toNat]

def k0_chk212 (v760 : IVec S16 32) : Prop :=
  (∀ a x, ((![v760] : Fin 1 → IVec S16 32) a x).toNat < S48000.size a)
theorem k0_idx212_inb : ∀ (v760 : IVec S16 32) (k0_hw212 : k0_chk212 v760), ∀ a x, ((![v760] : Fin 1 → IVec S16 32) a x).toNat < S48000.size a := fun v760 k0_hw212 => k0_hw212
def k0_off214 (k0_t27 : Fin k0_t27_loop.trips) : Fin 1 → Nat :=
  let c0_i32_243 : BitVec 32 := 0#32
  let c1_i32_245 : BitVec 32 := 1#32
  let arg10 : BitVec 32 := Scf.iv c0_i32_243 c1_i32_245 k0_t27
  let c128_i32 : BitVec 32 := 128#32
  let v740 : BitVec 32 := Scalar.muli arg10 c128_i32
  let c48_i32_298 : BitVec 32 := 48#32
  let v762 : BitVec 32 := Scalar.addi v740 c48_i32_298
  let v763 : Index := Scalar.indexCast v762
  ![v763.toNat]

def k0_chk213 (v766 : IVec S16 32) : Prop :=
  (∀ a x, ((![v766] : Fin 1 → IVec S16 32) a x).toNat < S48000.size a)
theorem k0_idx213_inb : ∀ (v766 : IVec S16 32) (k0_hw213 : k0_chk213 v766), ∀ a x, ((![v766] : Fin 1 → IVec S16 32) a x).toNat < S48000.size a := fun v766 k0_hw213 => k0_hw213
def k0_off215 (k0_t27 : Fin k0_t27_loop.trips) : Fin 1 → Nat :=
  let c0_i32_243 : BitVec 32 := 0#32
  let c1_i32_245 : BitVec 32 := 1#32
  let arg10 : BitVec 32 := Scf.iv c0_i32_243 c1_i32_245 k0_t27
  let c128_i32 : BitVec 32 := 128#32
  let v740 : BitVec 32 := Scalar.muli arg10 c128_i32
  let c64_i32 : BitVec 32 := 64#32
  let v768 : BitVec 32 := Scalar.addi v740 c64_i32
  let v769 : Index := Scalar.indexCast v768
  ![v769.toNat]

def k0_chk214 (v772 : IVec S16 32) : Prop :=
  (∀ a x, ((![v772] : Fin 1 → IVec S16 32) a x).toNat < S48000.size a)
theorem k0_idx214_inb : ∀ (v772 : IVec S16 32) (k0_hw214 : k0_chk214 v772), ∀ a x, ((![v772] : Fin 1 → IVec S16 32) a x).toNat < S48000.size a := fun v772 k0_hw214 => k0_hw214
def k0_off216 (k0_t27 : Fin k0_t27_loop.trips) : Fin 1 → Nat :=
  let c0_i32_243 : BitVec 32 := 0#32
  let c1_i32_245 : BitVec 32 := 1#32
  let arg10 : BitVec 32 := Scf.iv c0_i32_243 c1_i32_245 k0_t27
  let c128_i32 : BitVec 32 := 128#32
  let v740 : BitVec 32 := Scalar.muli arg10 c128_i32
  let c80_i32 : BitVec 32 := 80#32
  let v774 : BitVec 32 := Scalar.addi v740 c80_i32
  let v775 : Index := Scalar.indexCast v774
  ![v775.toNat]

def k0_chk215 (v778 : IVec S16 32) : Prop :=
  (∀ a x, ((![v778] : Fin 1 → IVec S16 32) a x).toNat < S48000.size a)
theorem k0_idx215_inb : ∀ (v778 : IVec S16 32) (k0_hw215 : k0_chk215 v778), ∀ a x, ((![v778] : Fin 1 → IVec S16 32) a x).toNat < S48000.size a := fun v778 k0_hw215 => k0_hw215
def k0_off217 (k0_t27 : Fin k0_t27_loop.trips) : Fin 1 → Nat :=
  let c0_i32_243 : BitVec 32 := 0#32
  let c1_i32_245 : BitVec 32 := 1#32
  let arg10 : BitVec 32 := Scf.iv c0_i32_243 c1_i32_245 k0_t27
  let c128_i32 : BitVec 32 := 128#32
  let v740 : BitVec 32 := Scalar.muli arg10 c128_i32
  let c96_i32_299 : BitVec 32 := 96#32
  let v780 : BitVec 32 := Scalar.addi v740 c96_i32_299
  let v781 : Index := Scalar.indexCast v780
  ![v781.toNat]

def k0_chk216 (v784 : IVec S16 32) : Prop :=
  (∀ a x, ((![v784] : Fin 1 → IVec S16 32) a x).toNat < S48000.size a)
theorem k0_idx216_inb : ∀ (v784 : IVec S16 32) (k0_hw216 : k0_chk216 v784), ∀ a x, ((![v784] : Fin 1 → IVec S16 32) a x).toNat < S48000.size a := fun v784 k0_hw216 => k0_hw216
def k0_off218 (k0_t27 : Fin k0_t27_loop.trips) : Fin 1 → Nat :=
  let c0_i32_243 : BitVec 32 := 0#32
  let c1_i32_245 : BitVec 32 := 1#32
  let arg10 : BitVec 32 := Scf.iv c0_i32_243 c1_i32_245 k0_t27
  let c128_i32 : BitVec 32 := 128#32
  let v740 : BitVec 32 := Scalar.muli arg10 c128_i32
  let c112_i32 : BitVec 32 := 112#32
  let v786 : BitVec 32 := Scalar.addi v740 c112_i32
  let v787 : Index := Scalar.indexCast v786
  ![v787.toNat]
@[reducible] def k0_t28_loop : Scf.Loop 32 :=
  let c0_i32_252 : BitVec 32 := 0#32
  let c125_i32_253 : BitVec 32 := 125#32
  let v638 : BitVec 32 := Scalar.addi c0_i32_252 c125_i32_253
  let c1_i32_254 : BitVec 32 := 1#32
  ⟨c0_i32_252, v638, c1_i32_254⟩

def k0_chk217 (v742 : IVec S16 32) : Prop :=
  (∀ a x, ((![v742] : Fin 1 → IVec S16 32) a x).toNat < S48000.size a)
theorem k0_idx217_inb : ∀ (v742 : IVec S16 32) (k0_hw217 : k0_chk217 v742), ∀ a x, ((![v742] : Fin 1 → IVec S16 32) a x).toNat < S48000.size a := fun v742 k0_hw217 => k0_hw217
def k0_off219 (k0_t28 : Fin k0_t28_loop.trips) : Fin 1 → Nat :=
  let c0_i32_252 : BitVec 32 := 0#32
  let c1_i32_254 : BitVec 32 := 1#32
  let arg10 : BitVec 32 := Scf.iv c0_i32_252 c1_i32_254 k0_t28
  let c128_i32 : BitVec 32 := 128#32
  let v740 : BitVec 32 := Scalar.muli arg10 c128_i32
  let c0_i32_297 : BitVec 32 := 0#32
  let v744 : BitVec 32 := Scalar.addi v740 c0_i32_297
  let v745 : Index := Scalar.indexCast v744
  ![v745.toNat]

def k0_chk218 (v748 : IVec S16 32) : Prop :=
  (∀ a x, ((![v748] : Fin 1 → IVec S16 32) a x).toNat < S48000.size a)
theorem k0_idx218_inb : ∀ (v748 : IVec S16 32) (k0_hw218 : k0_chk218 v748), ∀ a x, ((![v748] : Fin 1 → IVec S16 32) a x).toNat < S48000.size a := fun v748 k0_hw218 => k0_hw218
def k0_off220 (k0_t28 : Fin k0_t28_loop.trips) : Fin 1 → Nat :=
  let c0_i32_252 : BitVec 32 := 0#32
  let c1_i32_254 : BitVec 32 := 1#32
  let arg10 : BitVec 32 := Scf.iv c0_i32_252 c1_i32_254 k0_t28
  let c128_i32 : BitVec 32 := 128#32
  let v740 : BitVec 32 := Scalar.muli arg10 c128_i32
  let c16_i32 : BitVec 32 := 16#32
  let v750 : BitVec 32 := Scalar.addi v740 c16_i32
  let v751 : Index := Scalar.indexCast v750
  ![v751.toNat]

def k0_chk219 (v754 : IVec S16 32) : Prop :=
  (∀ a x, ((![v754] : Fin 1 → IVec S16 32) a x).toNat < S48000.size a)
theorem k0_idx219_inb : ∀ (v754 : IVec S16 32) (k0_hw219 : k0_chk219 v754), ∀ a x, ((![v754] : Fin 1 → IVec S16 32) a x).toNat < S48000.size a := fun v754 k0_hw219 => k0_hw219
def k0_off221 (k0_t28 : Fin k0_t28_loop.trips) : Fin 1 → Nat :=
  let c0_i32_252 : BitVec 32 := 0#32
  let c1_i32_254 : BitVec 32 := 1#32
  let arg10 : BitVec 32 := Scf.iv c0_i32_252 c1_i32_254 k0_t28
  let c128_i32 : BitVec 32 := 128#32
  let v740 : BitVec 32 := Scalar.muli arg10 c128_i32
  let c32_i32 : BitVec 32 := 32#32
  let v756 : BitVec 32 := Scalar.addi v740 c32_i32
  let v757 : Index := Scalar.indexCast v756
  ![v757.toNat]

def k0_chk220 (v760 : IVec S16 32) : Prop :=
  (∀ a x, ((![v760] : Fin 1 → IVec S16 32) a x).toNat < S48000.size a)
theorem k0_idx220_inb : ∀ (v760 : IVec S16 32) (k0_hw220 : k0_chk220 v760), ∀ a x, ((![v760] : Fin 1 → IVec S16 32) a x).toNat < S48000.size a := fun v760 k0_hw220 => k0_hw220
def k0_off222 (k0_t28 : Fin k0_t28_loop.trips) : Fin 1 → Nat :=
  let c0_i32_252 : BitVec 32 := 0#32
  let c1_i32_254 : BitVec 32 := 1#32
  let arg10 : BitVec 32 := Scf.iv c0_i32_252 c1_i32_254 k0_t28
  let c128_i32 : BitVec 32 := 128#32
  let v740 : BitVec 32 := Scalar.muli arg10 c128_i32
  let c48_i32_298 : BitVec 32 := 48#32
  let v762 : BitVec 32 := Scalar.addi v740 c48_i32_298
  let v763 : Index := Scalar.indexCast v762
  ![v763.toNat]

def k0_chk221 (v766 : IVec S16 32) : Prop :=
  (∀ a x, ((![v766] : Fin 1 → IVec S16 32) a x).toNat < S48000.size a)
theorem k0_idx221_inb : ∀ (v766 : IVec S16 32) (k0_hw221 : k0_chk221 v766), ∀ a x, ((![v766] : Fin 1 → IVec S16 32) a x).toNat < S48000.size a := fun v766 k0_hw221 => k0_hw221
def k0_off223 (k0_t28 : Fin k0_t28_loop.trips) : Fin 1 → Nat :=
  let c0_i32_252 : BitVec 32 := 0#32
  let c1_i32_254 : BitVec 32 := 1#32
  let arg10 : BitVec 32 := Scf.iv c0_i32_252 c1_i32_254 k0_t28
  let c128_i32 : BitVec 32 := 128#32
  let v740 : BitVec 32 := Scalar.muli arg10 c128_i32
  let c64_i32 : BitVec 32 := 64#32
  let v768 : BitVec 32 := Scalar.addi v740 c64_i32
  let v769 : Index := Scalar.indexCast v768
  ![v769.toNat]

def k0_chk222 (v772 : IVec S16 32) : Prop :=
  (∀ a x, ((![v772] : Fin 1 → IVec S16 32) a x).toNat < S48000.size a)
theorem k0_idx222_inb : ∀ (v772 : IVec S16 32) (k0_hw222 : k0_chk222 v772), ∀ a x, ((![v772] : Fin 1 → IVec S16 32) a x).toNat < S48000.size a := fun v772 k0_hw222 => k0_hw222
def k0_off224 (k0_t28 : Fin k0_t28_loop.trips) : Fin 1 → Nat :=
  let c0_i32_252 : BitVec 32 := 0#32
  let c1_i32_254 : BitVec 32 := 1#32
  let arg10 : BitVec 32 := Scf.iv c0_i32_252 c1_i32_254 k0_t28
  let c128_i32 : BitVec 32 := 128#32
  let v740 : BitVec 32 := Scalar.muli arg10 c128_i32
  let c80_i32 : BitVec 32 := 80#32
  let v774 : BitVec 32 := Scalar.addi v740 c80_i32
  let v775 : Index := Scalar.indexCast v774
  ![v775.toNat]

def k0_chk223 (v778 : IVec S16 32) : Prop :=
  (∀ a x, ((![v778] : Fin 1 → IVec S16 32) a x).toNat < S48000.size a)
theorem k0_idx223_inb : ∀ (v778 : IVec S16 32) (k0_hw223 : k0_chk223 v778), ∀ a x, ((![v778] : Fin 1 → IVec S16 32) a x).toNat < S48000.size a := fun v778 k0_hw223 => k0_hw223
def k0_off225 (k0_t28 : Fin k0_t28_loop.trips) : Fin 1 → Nat :=
  let c0_i32_252 : BitVec 32 := 0#32
  let c1_i32_254 : BitVec 32 := 1#32
  let arg10 : BitVec 32 := Scf.iv c0_i32_252 c1_i32_254 k0_t28
  let c128_i32 : BitVec 32 := 128#32
  let v740 : BitVec 32 := Scalar.muli arg10 c128_i32
  let c96_i32_299 : BitVec 32 := 96#32
  let v780 : BitVec 32 := Scalar.addi v740 c96_i32_299
  let v781 : Index := Scalar.indexCast v780
  ![v781.toNat]

def k0_chk224 (v784 : IVec S16 32) : Prop :=
  (∀ a x, ((![v784] : Fin 1 → IVec S16 32) a x).toNat < S48000.size a)
theorem k0_idx224_inb : ∀ (v784 : IVec S16 32) (k0_hw224 : k0_chk224 v784), ∀ a x, ((![v784] : Fin 1 → IVec S16 32) a x).toNat < S48000.size a := fun v784 k0_hw224 => k0_hw224
def k0_off226 (k0_t28 : Fin k0_t28_loop.trips) : Fin 1 → Nat :=
  let c0_i32_252 : BitVec 32 := 0#32
  let c1_i32_254 : BitVec 32 := 1#32
  let arg10 : BitVec 32 := Scf.iv c0_i32_252 c1_i32_254 k0_t28
  let c128_i32 : BitVec 32 := 128#32
  let v740 : BitVec 32 := Scalar.muli arg10 c128_i32
  let c112_i32 : BitVec 32 := 112#32
  let v786 : BitVec 32 := Scalar.addi v740 c112_i32
  let v787 : Index := Scalar.indexCast v786
  ![v787.toNat]
@[reducible] def k0_t29_loop : Scf.Loop 32 :=
  let c0_i32_262 : BitVec 32 := 0#32
  let c125_i32_263 : BitVec 32 := 125#32
  let v661 : BitVec 32 := Scalar.addi c0_i32_262 c125_i32_263
  let c1_i32_264 : BitVec 32 := 1#32
  ⟨c0_i32_262, v661, c1_i32_264⟩

def k0_chk225 (v742 : IVec S16 32) : Prop :=
  (∀ a x, ((![v742] : Fin 1 → IVec S16 32) a x).toNat < S48000.size a)
theorem k0_idx225_inb : ∀ (v742 : IVec S16 32) (k0_hw225 : k0_chk225 v742), ∀ a x, ((![v742] : Fin 1 → IVec S16 32) a x).toNat < S48000.size a := fun v742 k0_hw225 => k0_hw225
def k0_off227 (k0_t29 : Fin k0_t29_loop.trips) : Fin 1 → Nat :=
  let c0_i32_262 : BitVec 32 := 0#32
  let c1_i32_264 : BitVec 32 := 1#32
  let arg10 : BitVec 32 := Scf.iv c0_i32_262 c1_i32_264 k0_t29
  let c128_i32 : BitVec 32 := 128#32
  let v740 : BitVec 32 := Scalar.muli arg10 c128_i32
  let c0_i32_297 : BitVec 32 := 0#32
  let v744 : BitVec 32 := Scalar.addi v740 c0_i32_297
  let v745 : Index := Scalar.indexCast v744
  ![v745.toNat]

def k0_chk226 (v748 : IVec S16 32) : Prop :=
  (∀ a x, ((![v748] : Fin 1 → IVec S16 32) a x).toNat < S48000.size a)
theorem k0_idx226_inb : ∀ (v748 : IVec S16 32) (k0_hw226 : k0_chk226 v748), ∀ a x, ((![v748] : Fin 1 → IVec S16 32) a x).toNat < S48000.size a := fun v748 k0_hw226 => k0_hw226
def k0_off228 (k0_t29 : Fin k0_t29_loop.trips) : Fin 1 → Nat :=
  let c0_i32_262 : BitVec 32 := 0#32
  let c1_i32_264 : BitVec 32 := 1#32
  let arg10 : BitVec 32 := Scf.iv c0_i32_262 c1_i32_264 k0_t29
  let c128_i32 : BitVec 32 := 128#32
  let v740 : BitVec 32 := Scalar.muli arg10 c128_i32
  let c16_i32 : BitVec 32 := 16#32
  let v750 : BitVec 32 := Scalar.addi v740 c16_i32
  let v751 : Index := Scalar.indexCast v750
  ![v751.toNat]

def k0_chk227 (v754 : IVec S16 32) : Prop :=
  (∀ a x, ((![v754] : Fin 1 → IVec S16 32) a x).toNat < S48000.size a)
theorem k0_idx227_inb : ∀ (v754 : IVec S16 32) (k0_hw227 : k0_chk227 v754), ∀ a x, ((![v754] : Fin 1 → IVec S16 32) a x).toNat < S48000.size a := fun v754 k0_hw227 => k0_hw227
def k0_off229 (k0_t29 : Fin k0_t29_loop.trips) : Fin 1 → Nat :=
  let c0_i32_262 : BitVec 32 := 0#32
  let c1_i32_264 : BitVec 32 := 1#32
  let arg10 : BitVec 32 := Scf.iv c0_i32_262 c1_i32_264 k0_t29
  let c128_i32 : BitVec 32 := 128#32
  let v740 : BitVec 32 := Scalar.muli arg10 c128_i32
  let c32_i32 : BitVec 32 := 32#32
  let v756 : BitVec 32 := Scalar.addi v740 c32_i32
  let v757 : Index := Scalar.indexCast v756
  ![v757.toNat]

def k0_chk228 (v760 : IVec S16 32) : Prop :=
  (∀ a x, ((![v760] : Fin 1 → IVec S16 32) a x).toNat < S48000.size a)
theorem k0_idx228_inb : ∀ (v760 : IVec S16 32) (k0_hw228 : k0_chk228 v760), ∀ a x, ((![v760] : Fin 1 → IVec S16 32) a x).toNat < S48000.size a := fun v760 k0_hw228 => k0_hw228
def k0_off230 (k0_t29 : Fin k0_t29_loop.trips) : Fin 1 → Nat :=
  let c0_i32_262 : BitVec 32 := 0#32
  let c1_i32_264 : BitVec 32 := 1#32
  let arg10 : BitVec 32 := Scf.iv c0_i32_262 c1_i32_264 k0_t29
  let c128_i32 : BitVec 32 := 128#32
  let v740 : BitVec 32 := Scalar.muli arg10 c128_i32
  let c48_i32_298 : BitVec 32 := 48#32
  let v762 : BitVec 32 := Scalar.addi v740 c48_i32_298
  let v763 : Index := Scalar.indexCast v762
  ![v763.toNat]

def k0_chk229 (v766 : IVec S16 32) : Prop :=
  (∀ a x, ((![v766] : Fin 1 → IVec S16 32) a x).toNat < S48000.size a)
theorem k0_idx229_inb : ∀ (v766 : IVec S16 32) (k0_hw229 : k0_chk229 v766), ∀ a x, ((![v766] : Fin 1 → IVec S16 32) a x).toNat < S48000.size a := fun v766 k0_hw229 => k0_hw229
def k0_off231 (k0_t29 : Fin k0_t29_loop.trips) : Fin 1 → Nat :=
  let c0_i32_262 : BitVec 32 := 0#32
  let c1_i32_264 : BitVec 32 := 1#32
  let arg10 : BitVec 32 := Scf.iv c0_i32_262 c1_i32_264 k0_t29
  let c128_i32 : BitVec 32 := 128#32
  let v740 : BitVec 32 := Scalar.muli arg10 c128_i32
  let c64_i32 : BitVec 32 := 64#32
  let v768 : BitVec 32 := Scalar.addi v740 c64_i32
  let v769 : Index := Scalar.indexCast v768
  ![v769.toNat]

def k0_chk230 (v772 : IVec S16 32) : Prop :=
  (∀ a x, ((![v772] : Fin 1 → IVec S16 32) a x).toNat < S48000.size a)
theorem k0_idx230_inb : ∀ (v772 : IVec S16 32) (k0_hw230 : k0_chk230 v772), ∀ a x, ((![v772] : Fin 1 → IVec S16 32) a x).toNat < S48000.size a := fun v772 k0_hw230 => k0_hw230
def k0_off232 (k0_t29 : Fin k0_t29_loop.trips) : Fin 1 → Nat :=
  let c0_i32_262 : BitVec 32 := 0#32
  let c1_i32_264 : BitVec 32 := 1#32
  let arg10 : BitVec 32 := Scf.iv c0_i32_262 c1_i32_264 k0_t29
  let c128_i32 : BitVec 32 := 128#32
  let v740 : BitVec 32 := Scalar.muli arg10 c128_i32
  let c80_i32 : BitVec 32 := 80#32
  let v774 : BitVec 32 := Scalar.addi v740 c80_i32
  let v775 : Index := Scalar.indexCast v774
  ![v775.toNat]

def k0_chk231 (v778 : IVec S16 32) : Prop :=
  (∀ a x, ((![v778] : Fin 1 → IVec S16 32) a x).toNat < S48000.size a)
theorem k0_idx231_inb : ∀ (v778 : IVec S16 32) (k0_hw231 : k0_chk231 v778), ∀ a x, ((![v778] : Fin 1 → IVec S16 32) a x).toNat < S48000.size a := fun v778 k0_hw231 => k0_hw231
def k0_off233 (k0_t29 : Fin k0_t29_loop.trips) : Fin 1 → Nat :=
  let c0_i32_262 : BitVec 32 := 0#32
  let c1_i32_264 : BitVec 32 := 1#32
  let arg10 : BitVec 32 := Scf.iv c0_i32_262 c1_i32_264 k0_t29
  let c128_i32 : BitVec 32 := 128#32
  let v740 : BitVec 32 := Scalar.muli arg10 c128_i32
  let c96_i32_299 : BitVec 32 := 96#32
  let v780 : BitVec 32 := Scalar.addi v740 c96_i32_299
  let v781 : Index := Scalar.indexCast v780
  ![v781.toNat]

def k0_chk232 (v784 : IVec S16 32) : Prop :=
  (∀ a x, ((![v784] : Fin 1 → IVec S16 32) a x).toNat < S48000.size a)
theorem k0_idx232_inb : ∀ (v784 : IVec S16 32) (k0_hw232 : k0_chk232 v784), ∀ a x, ((![v784] : Fin 1 → IVec S16 32) a x).toNat < S48000.size a := fun v784 k0_hw232 => k0_hw232
def k0_off234 (k0_t29 : Fin k0_t29_loop.trips) : Fin 1 → Nat :=
  let c0_i32_262 : BitVec 32 := 0#32
  let c1_i32_264 : BitVec 32 := 1#32
  let arg10 : BitVec 32 := Scf.iv c0_i32_262 c1_i32_264 k0_t29
  let c128_i32 : BitVec 32 := 128#32
  let v740 : BitVec 32 := Scalar.muli arg10 c128_i32
  let c112_i32 : BitVec 32 := 112#32
  let v786 : BitVec 32 := Scalar.addi v740 c112_i32
  let v787 : Index := Scalar.indexCast v786
  ![v787.toNat]
@[reducible] def k0_t30_loop : Scf.Loop 32 :=
  let c0_i32_271 : BitVec 32 := 0#32
  let c125_i32_272 : BitVec 32 := 125#32
  let v684 : BitVec 32 := Scalar.addi c0_i32_271 c125_i32_272
  let c1_i32_273 : BitVec 32 := 1#32
  ⟨c0_i32_271, v684, c1_i32_273⟩

def k0_chk233 (v742 : IVec S16 32) : Prop :=
  (∀ a x, ((![v742] : Fin 1 → IVec S16 32) a x).toNat < S48000.size a)
theorem k0_idx233_inb : ∀ (v742 : IVec S16 32) (k0_hw233 : k0_chk233 v742), ∀ a x, ((![v742] : Fin 1 → IVec S16 32) a x).toNat < S48000.size a := fun v742 k0_hw233 => k0_hw233
def k0_off235 (k0_t30 : Fin k0_t30_loop.trips) : Fin 1 → Nat :=
  let c0_i32_271 : BitVec 32 := 0#32
  let c1_i32_273 : BitVec 32 := 1#32
  let arg10 : BitVec 32 := Scf.iv c0_i32_271 c1_i32_273 k0_t30
  let c128_i32 : BitVec 32 := 128#32
  let v740 : BitVec 32 := Scalar.muli arg10 c128_i32
  let c0_i32_297 : BitVec 32 := 0#32
  let v744 : BitVec 32 := Scalar.addi v740 c0_i32_297
  let v745 : Index := Scalar.indexCast v744
  ![v745.toNat]

def k0_chk234 (v748 : IVec S16 32) : Prop :=
  (∀ a x, ((![v748] : Fin 1 → IVec S16 32) a x).toNat < S48000.size a)
theorem k0_idx234_inb : ∀ (v748 : IVec S16 32) (k0_hw234 : k0_chk234 v748), ∀ a x, ((![v748] : Fin 1 → IVec S16 32) a x).toNat < S48000.size a := fun v748 k0_hw234 => k0_hw234
def k0_off236 (k0_t30 : Fin k0_t30_loop.trips) : Fin 1 → Nat :=
  let c0_i32_271 : BitVec 32 := 0#32
  let c1_i32_273 : BitVec 32 := 1#32
  let arg10 : BitVec 32 := Scf.iv c0_i32_271 c1_i32_273 k0_t30
  let c128_i32 : BitVec 32 := 128#32
  let v740 : BitVec 32 := Scalar.muli arg10 c128_i32
  let c16_i32 : BitVec 32 := 16#32
  let v750 : BitVec 32 := Scalar.addi v740 c16_i32
  let v751 : Index := Scalar.indexCast v750
  ![v751.toNat]

def k0_chk235 (v754 : IVec S16 32) : Prop :=
  (∀ a x, ((![v754] : Fin 1 → IVec S16 32) a x).toNat < S48000.size a)
theorem k0_idx235_inb : ∀ (v754 : IVec S16 32) (k0_hw235 : k0_chk235 v754), ∀ a x, ((![v754] : Fin 1 → IVec S16 32) a x).toNat < S48000.size a := fun v754 k0_hw235 => k0_hw235
def k0_off237 (k0_t30 : Fin k0_t30_loop.trips) : Fin 1 → Nat :=
  let c0_i32_271 : BitVec 32 := 0#32
  let c1_i32_273 : BitVec 32 := 1#32
  let arg10 : BitVec 32 := Scf.iv c0_i32_271 c1_i32_273 k0_t30
  let c128_i32 : BitVec 32 := 128#32
  let v740 : BitVec 32 := Scalar.muli arg10 c128_i32
  let c32_i32 : BitVec 32 := 32#32
  let v756 : BitVec 32 := Scalar.addi v740 c32_i32
  let v757 : Index := Scalar.indexCast v756
  ![v757.toNat]

def k0_chk236 (v760 : IVec S16 32) : Prop :=
  (∀ a x, ((![v760] : Fin 1 → IVec S16 32) a x).toNat < S48000.size a)
theorem k0_idx236_inb : ∀ (v760 : IVec S16 32) (k0_hw236 : k0_chk236 v760), ∀ a x, ((![v760] : Fin 1 → IVec S16 32) a x).toNat < S48000.size a := fun v760 k0_hw236 => k0_hw236
def k0_off238 (k0_t30 : Fin k0_t30_loop.trips) : Fin 1 → Nat :=
  let c0_i32_271 : BitVec 32 := 0#32
  let c1_i32_273 : BitVec 32 := 1#32
  let arg10 : BitVec 32 := Scf.iv c0_i32_271 c1_i32_273 k0_t30
  let c128_i32 : BitVec 32 := 128#32
  let v740 : BitVec 32 := Scalar.muli arg10 c128_i32
  let c48_i32_298 : BitVec 32 := 48#32
  let v762 : BitVec 32 := Scalar.addi v740 c48_i32_298
  let v763 : Index := Scalar.indexCast v762
  ![v763.toNat]

def k0_chk237 (v766 : IVec S16 32) : Prop :=
  (∀ a x, ((![v766] : Fin 1 → IVec S16 32) a x).toNat < S48000.size a)
theorem k0_idx237_inb : ∀ (v766 : IVec S16 32) (k0_hw237 : k0_chk237 v766), ∀ a x, ((![v766] : Fin 1 → IVec S16 32) a x).toNat < S48000.size a := fun v766 k0_hw237 => k0_hw237
def k0_off239 (k0_t30 : Fin k0_t30_loop.trips) : Fin 1 → Nat :=
  let c0_i32_271 : BitVec 32 := 0#32
  let c1_i32_273 : BitVec 32 := 1#32
  let arg10 : BitVec 32 := Scf.iv c0_i32_271 c1_i32_273 k0_t30
  let c128_i32 : BitVec 32 := 128#32
  let v740 : BitVec 32 := Scalar.muli arg10 c128_i32
  let c64_i32 : BitVec 32 := 64#32
  let v768 : BitVec 32 := Scalar.addi v740 c64_i32
  let v769 : Index := Scalar.indexCast v768
  ![v769.toNat]

def k0_chk238 (v772 : IVec S16 32) : Prop :=
  (∀ a x, ((![v772] : Fin 1 → IVec S16 32) a x).toNat < S48000.size a)
theorem k0_idx238_inb : ∀ (v772 : IVec S16 32) (k0_hw238 : k0_chk238 v772), ∀ a x, ((![v772] : Fin 1 → IVec S16 32) a x).toNat < S48000.size a := fun v772 k0_hw238 => k0_hw238
def k0_off240 (k0_t30 : Fin k0_t30_loop.trips) : Fin 1 → Nat :=
  let c0_i32_271 : BitVec 32 := 0#32
  let c1_i32_273 : BitVec 32 := 1#32
  let arg10 : BitVec 32 := Scf.iv c0_i32_271 c1_i32_273 k0_t30
  let c128_i32 : BitVec 32 := 128#32
  let v740 : BitVec 32 := Scalar.muli arg10 c128_i32
  let c80_i32 : BitVec 32 := 80#32
  let v774 : BitVec 32 := Scalar.addi v740 c80_i32
  let v775 : Index := Scalar.indexCast v774
  ![v775.toNat]

def k0_chk239 (v778 : IVec S16 32) : Prop :=
  (∀ a x, ((![v778] : Fin 1 → IVec S16 32) a x).toNat < S48000.size a)
theorem k0_idx239_inb : ∀ (v778 : IVec S16 32) (k0_hw239 : k0_chk239 v778), ∀ a x, ((![v778] : Fin 1 → IVec S16 32) a x).toNat < S48000.size a := fun v778 k0_hw239 => k0_hw239
def k0_off241 (k0_t30 : Fin k0_t30_loop.trips) : Fin 1 → Nat :=
  let c0_i32_271 : BitVec 32 := 0#32
  let c1_i32_273 : BitVec 32 := 1#32
  let arg10 : BitVec 32 := Scf.iv c0_i32_271 c1_i32_273 k0_t30
  let c128_i32 : BitVec 32 := 128#32
  let v740 : BitVec 32 := Scalar.muli arg10 c128_i32
  let c96_i32_299 : BitVec 32 := 96#32
  let v780 : BitVec 32 := Scalar.addi v740 c96_i32_299
  let v781 : Index := Scalar.indexCast v780
  ![v781.toNat]

def k0_chk240 (v784 : IVec S16 32) : Prop :=
  (∀ a x, ((![v784] : Fin 1 → IVec S16 32) a x).toNat < S48000.size a)
theorem k0_idx240_inb : ∀ (v784 : IVec S16 32) (k0_hw240 : k0_chk240 v784), ∀ a x, ((![v784] : Fin 1 → IVec S16 32) a x).toNat < S48000.size a := fun v784 k0_hw240 => k0_hw240
def k0_off242 (k0_t30 : Fin k0_t30_loop.trips) : Fin 1 → Nat :=
  let c0_i32_271 : BitVec 32 := 0#32
  let c1_i32_273 : BitVec 32 := 1#32
  let arg10 : BitVec 32 := Scf.iv c0_i32_271 c1_i32_273 k0_t30
  let c128_i32 : BitVec 32 := 128#32
  let v740 : BitVec 32 := Scalar.muli arg10 c128_i32
  let c112_i32 : BitVec 32 := 112#32
  let v786 : BitVec 32 := Scalar.addi v740 c112_i32
  let v787 : Index := Scalar.indexCast v786
  ![v787.toNat]
@[reducible] def k0_t31_loop : Scf.Loop 32 :=
  let c0_i32_280 : BitVec 32 := 0#32
  let c125_i32_281 : BitVec 32 := 125#32
  let v707 : BitVec 32 := Scalar.addi c0_i32_280 c125_i32_281
  let c1_i32_282 : BitVec 32 := 1#32
  ⟨c0_i32_280, v707, c1_i32_282⟩

def k0_chk241 (v742 : IVec S16 32) : Prop :=
  (∀ a x, ((![v742] : Fin 1 → IVec S16 32) a x).toNat < S48000.size a)
theorem k0_idx241_inb : ∀ (v742 : IVec S16 32) (k0_hw241 : k0_chk241 v742), ∀ a x, ((![v742] : Fin 1 → IVec S16 32) a x).toNat < S48000.size a := fun v742 k0_hw241 => k0_hw241
def k0_off243 (k0_t31 : Fin k0_t31_loop.trips) : Fin 1 → Nat :=
  let c0_i32_280 : BitVec 32 := 0#32
  let c1_i32_282 : BitVec 32 := 1#32
  let arg10 : BitVec 32 := Scf.iv c0_i32_280 c1_i32_282 k0_t31
  let c128_i32 : BitVec 32 := 128#32
  let v740 : BitVec 32 := Scalar.muli arg10 c128_i32
  let c0_i32_297 : BitVec 32 := 0#32
  let v744 : BitVec 32 := Scalar.addi v740 c0_i32_297
  let v745 : Index := Scalar.indexCast v744
  ![v745.toNat]

def k0_chk242 (v748 : IVec S16 32) : Prop :=
  (∀ a x, ((![v748] : Fin 1 → IVec S16 32) a x).toNat < S48000.size a)
theorem k0_idx242_inb : ∀ (v748 : IVec S16 32) (k0_hw242 : k0_chk242 v748), ∀ a x, ((![v748] : Fin 1 → IVec S16 32) a x).toNat < S48000.size a := fun v748 k0_hw242 => k0_hw242
def k0_off244 (k0_t31 : Fin k0_t31_loop.trips) : Fin 1 → Nat :=
  let c0_i32_280 : BitVec 32 := 0#32
  let c1_i32_282 : BitVec 32 := 1#32
  let arg10 : BitVec 32 := Scf.iv c0_i32_280 c1_i32_282 k0_t31
  let c128_i32 : BitVec 32 := 128#32
  let v740 : BitVec 32 := Scalar.muli arg10 c128_i32
  let c16_i32 : BitVec 32 := 16#32
  let v750 : BitVec 32 := Scalar.addi v740 c16_i32
  let v751 : Index := Scalar.indexCast v750
  ![v751.toNat]

def k0_chk243 (v754 : IVec S16 32) : Prop :=
  (∀ a x, ((![v754] : Fin 1 → IVec S16 32) a x).toNat < S48000.size a)
theorem k0_idx243_inb : ∀ (v754 : IVec S16 32) (k0_hw243 : k0_chk243 v754), ∀ a x, ((![v754] : Fin 1 → IVec S16 32) a x).toNat < S48000.size a := fun v754 k0_hw243 => k0_hw243
def k0_off245 (k0_t31 : Fin k0_t31_loop.trips) : Fin 1 → Nat :=
  let c0_i32_280 : BitVec 32 := 0#32
  let c1_i32_282 : BitVec 32 := 1#32
  let arg10 : BitVec 32 := Scf.iv c0_i32_280 c1_i32_282 k0_t31
  let c128_i32 : BitVec 32 := 128#32
  let v740 : BitVec 32 := Scalar.muli arg10 c128_i32
  let c32_i32 : BitVec 32 := 32#32
  let v756 : BitVec 32 := Scalar.addi v740 c32_i32
  let v757 : Index := Scalar.indexCast v756
  ![v757.toNat]

def k0_chk244 (v760 : IVec S16 32) : Prop :=
  (∀ a x, ((![v760] : Fin 1 → IVec S16 32) a x).toNat < S48000.size a)
theorem k0_idx244_inb : ∀ (v760 : IVec S16 32) (k0_hw244 : k0_chk244 v760), ∀ a x, ((![v760] : Fin 1 → IVec S16 32) a x).toNat < S48000.size a := fun v760 k0_hw244 => k0_hw244
def k0_off246 (k0_t31 : Fin k0_t31_loop.trips) : Fin 1 → Nat :=
  let c0_i32_280 : BitVec 32 := 0#32
  let c1_i32_282 : BitVec 32 := 1#32
  let arg10 : BitVec 32 := Scf.iv c0_i32_280 c1_i32_282 k0_t31
  let c128_i32 : BitVec 32 := 128#32
  let v740 : BitVec 32 := Scalar.muli arg10 c128_i32
  let c48_i32_298 : BitVec 32 := 48#32
  let v762 : BitVec 32 := Scalar.addi v740 c48_i32_298
  let v763 : Index := Scalar.indexCast v762
  ![v763.toNat]

def k0_chk245 (v766 : IVec S16 32) : Prop :=
  (∀ a x, ((![v766] : Fin 1 → IVec S16 32) a x).toNat < S48000.size a)
theorem k0_idx245_inb : ∀ (v766 : IVec S16 32) (k0_hw245 : k0_chk245 v766), ∀ a x, ((![v766] : Fin 1 → IVec S16 32) a x).toNat < S48000.size a := fun v766 k0_hw245 => k0_hw245
def k0_off247 (k0_t31 : Fin k0_t31_loop.trips) : Fin 1 → Nat :=
  let c0_i32_280 : BitVec 32 := 0#32
  let c1_i32_282 : BitVec 32 := 1#32
  let arg10 : BitVec 32 := Scf.iv c0_i32_280 c1_i32_282 k0_t31
  let c128_i32 : BitVec 32 := 128#32
  let v740 : BitVec 32 := Scalar.muli arg10 c128_i32
  let c64_i32 : BitVec 32 := 64#32
  let v768 : BitVec 32 := Scalar.addi v740 c64_i32
  let v769 : Index := Scalar.indexCast v768
  ![v769.toNat]

def k0_chk246 (v772 : IVec S16 32) : Prop :=
  (∀ a x, ((![v772] : Fin 1 → IVec S16 32) a x).toNat < S48000.size a)
theorem k0_idx246_inb : ∀ (v772 : IVec S16 32) (k0_hw246 : k0_chk246 v772), ∀ a x, ((![v772] : Fin 1 → IVec S16 32) a x).toNat < S48000.size a := fun v772 k0_hw246 => k0_hw246
def k0_off248 (k0_t31 : Fin k0_t31_loop.trips) : Fin 1 → Nat :=
  let c0_i32_280 : BitVec 32 := 0#32
  let c1_i32_282 : BitVec 32 := 1#32
  let arg10 : BitVec 32 := Scf.iv c0_i32_280 c1_i32_282 k0_t31
  let c128_i32 : BitVec 32 := 128#32
  let v740 : BitVec 32 := Scalar.muli arg10 c128_i32
  let c80_i32 : BitVec 32 := 80#32
  let v774 : BitVec 32 := Scalar.addi v740 c80_i32
  let v775 : Index := Scalar.indexCast v774
  ![v775.toNat]

def k0_chk247 (v778 : IVec S16 32) : Prop :=
  (∀ a x, ((![v778] : Fin 1 → IVec S16 32) a x).toNat < S48000.size a)
theorem k0_idx247_inb : ∀ (v778 : IVec S16 32) (k0_hw247 : k0_chk247 v778), ∀ a x, ((![v778] : Fin 1 → IVec S16 32) a x).toNat < S48000.size a := fun v778 k0_hw247 => k0_hw247
def k0_off249 (k0_t31 : Fin k0_t31_loop.trips) : Fin 1 → Nat :=
  let c0_i32_280 : BitVec 32 := 0#32
  let c1_i32_282 : BitVec 32 := 1#32
  let arg10 : BitVec 32 := Scf.iv c0_i32_280 c1_i32_282 k0_t31
  let c128_i32 : BitVec 32 := 128#32
  let v740 : BitVec 32 := Scalar.muli arg10 c128_i32
  let c96_i32_299 : BitVec 32 := 96#32
  let v780 : BitVec 32 := Scalar.addi v740 c96_i32_299
  let v781 : Index := Scalar.indexCast v780
  ![v781.toNat]

def k0_chk248 (v784 : IVec S16 32) : Prop :=
  (∀ a x, ((![v784] : Fin 1 → IVec S16 32) a x).toNat < S48000.size a)
theorem k0_idx248_inb : ∀ (v784 : IVec S16 32) (k0_hw248 : k0_chk248 v784), ∀ a x, ((![v784] : Fin 1 → IVec S16 32) a x).toNat < S48000.size a := fun v784 k0_hw248 => k0_hw248
def k0_off250 (k0_t31 : Fin k0_t31_loop.trips) : Fin 1 → Nat :=
  let c0_i32_280 : BitVec 32 := 0#32
  let c1_i32_282 : BitVec 32 := 1#32
  let arg10 : BitVec 32 := Scf.iv c0_i32_280 c1_i32_282 k0_t31
  let c128_i32 : BitVec 32 := 128#32
  let v740 : BitVec 32 := Scalar.muli arg10 c128_i32
  let c112_i32 : BitVec 32 := 112#32
  let v786 : BitVec 32 := Scalar.addi v740 c112_i32
  let v787 : Index := Scalar.indexCast v786
  ![v787.toNat]
@[reducible] def k0_t32_loop : Scf.Loop 32 :=
  let c0_i32_289 : BitVec 32 := 0#32
  let c125_i32_290 : BitVec 32 := 125#32
  let v725 : BitVec 32 := Scalar.addi c0_i32_289 c125_i32_290
  let c1_i32_291 : BitVec 32 := 1#32
  ⟨c0_i32_289, v725, c1_i32_291⟩

def k0_chk249 (v742 : IVec S16 32) : Prop :=
  (∀ a x, ((![v742] : Fin 1 → IVec S16 32) a x).toNat < S48000.size a)
theorem k0_idx249_inb : ∀ (v742 : IVec S16 32) (k0_hw249 : k0_chk249 v742), ∀ a x, ((![v742] : Fin 1 → IVec S16 32) a x).toNat < S48000.size a := fun v742 k0_hw249 => k0_hw249
def k0_off251 (k0_t32 : Fin k0_t32_loop.trips) : Fin 1 → Nat :=
  let c0_i32_289 : BitVec 32 := 0#32
  let c1_i32_291 : BitVec 32 := 1#32
  let arg10 : BitVec 32 := Scf.iv c0_i32_289 c1_i32_291 k0_t32
  let c128_i32 : BitVec 32 := 128#32
  let v740 : BitVec 32 := Scalar.muli arg10 c128_i32
  let c0_i32_297 : BitVec 32 := 0#32
  let v744 : BitVec 32 := Scalar.addi v740 c0_i32_297
  let v745 : Index := Scalar.indexCast v744
  ![v745.toNat]

def k0_chk250 (v748 : IVec S16 32) : Prop :=
  (∀ a x, ((![v748] : Fin 1 → IVec S16 32) a x).toNat < S48000.size a)
theorem k0_idx250_inb : ∀ (v748 : IVec S16 32) (k0_hw250 : k0_chk250 v748), ∀ a x, ((![v748] : Fin 1 → IVec S16 32) a x).toNat < S48000.size a := fun v748 k0_hw250 => k0_hw250
def k0_off252 (k0_t32 : Fin k0_t32_loop.trips) : Fin 1 → Nat :=
  let c0_i32_289 : BitVec 32 := 0#32
  let c1_i32_291 : BitVec 32 := 1#32
  let arg10 : BitVec 32 := Scf.iv c0_i32_289 c1_i32_291 k0_t32
  let c128_i32 : BitVec 32 := 128#32
  let v740 : BitVec 32 := Scalar.muli arg10 c128_i32
  let c16_i32 : BitVec 32 := 16#32
  let v750 : BitVec 32 := Scalar.addi v740 c16_i32
  let v751 : Index := Scalar.indexCast v750
  ![v751.toNat]

def k0_chk251 (v754 : IVec S16 32) : Prop :=
  (∀ a x, ((![v754] : Fin 1 → IVec S16 32) a x).toNat < S48000.size a)
theorem k0_idx251_inb : ∀ (v754 : IVec S16 32) (k0_hw251 : k0_chk251 v754), ∀ a x, ((![v754] : Fin 1 → IVec S16 32) a x).toNat < S48000.size a := fun v754 k0_hw251 => k0_hw251
def k0_off253 (k0_t32 : Fin k0_t32_loop.trips) : Fin 1 → Nat :=
  let c0_i32_289 : BitVec 32 := 0#32
  let c1_i32_291 : BitVec 32 := 1#32
  let arg10 : BitVec 32 := Scf.iv c0_i32_289 c1_i32_291 k0_t32
  let c128_i32 : BitVec 32 := 128#32
  let v740 : BitVec 32 := Scalar.muli arg10 c128_i32
  let c32_i32 : BitVec 32 := 32#32
  let v756 : BitVec 32 := Scalar.addi v740 c32_i32
  let v757 : Index := Scalar.indexCast v756
  ![v757.toNat]

def k0_chk252 (v760 : IVec S16 32) : Prop :=
  (∀ a x, ((![v760] : Fin 1 → IVec S16 32) a x).toNat < S48000.size a)
theorem k0_idx252_inb : ∀ (v760 : IVec S16 32) (k0_hw252 : k0_chk252 v760), ∀ a x, ((![v760] : Fin 1 → IVec S16 32) a x).toNat < S48000.size a := fun v760 k0_hw252 => k0_hw252
def k0_off254 (k0_t32 : Fin k0_t32_loop.trips) : Fin 1 → Nat :=
  let c0_i32_289 : BitVec 32 := 0#32
  let c1_i32_291 : BitVec 32 := 1#32
  let arg10 : BitVec 32 := Scf.iv c0_i32_289 c1_i32_291 k0_t32
  let c128_i32 : BitVec 32 := 128#32
  let v740 : BitVec 32 := Scalar.muli arg10 c128_i32
  let c48_i32_298 : BitVec 32 := 48#32
  let v762 : BitVec 32 := Scalar.addi v740 c48_i32_298
  let v763 : Index := Scalar.indexCast v762
  ![v763.toNat]

def k0_chk253 (v766 : IVec S16 32) : Prop :=
  (∀ a x, ((![v766] : Fin 1 → IVec S16 32) a x).toNat < S48000.size a)
theorem k0_idx253_inb : ∀ (v766 : IVec S16 32) (k0_hw253 : k0_chk253 v766), ∀ a x, ((![v766] : Fin 1 → IVec S16 32) a x).toNat < S48000.size a := fun v766 k0_hw253 => k0_hw253
def k0_off255 (k0_t32 : Fin k0_t32_loop.trips) : Fin 1 → Nat :=
  let c0_i32_289 : BitVec 32 := 0#32
  let c1_i32_291 : BitVec 32 := 1#32
  let arg10 : BitVec 32 := Scf.iv c0_i32_289 c1_i32_291 k0_t32
  let c128_i32 : BitVec 32 := 128#32
  let v740 : BitVec 32 := Scalar.muli arg10 c128_i32
  let c64_i32 : BitVec 32 := 64#32
  let v768 : BitVec 32 := Scalar.addi v740 c64_i32
  let v769 : Index := Scalar.indexCast v768
  ![v769.toNat]

def k0_chk254 (v772 : IVec S16 32) : Prop :=
  (∀ a x, ((![v772] : Fin 1 → IVec S16 32) a x).toNat < S48000.size a)
theorem k0_idx254_inb : ∀ (v772 : IVec S16 32) (k0_hw254 : k0_chk254 v772), ∀ a x, ((![v772] : Fin 1 → IVec S16 32) a x).toNat < S48000.size a := fun v772 k0_hw254 => k0_hw254
def k0_off256 (k0_t32 : Fin k0_t32_loop.trips) : Fin 1 → Nat :=
  let c0_i32_289 : BitVec 32 := 0#32
  let c1_i32_291 : BitVec 32 := 1#32
  let arg10 : BitVec 32 := Scf.iv c0_i32_289 c1_i32_291 k0_t32
  let c128_i32 : BitVec 32 := 128#32
  let v740 : BitVec 32 := Scalar.muli arg10 c128_i32
  let c80_i32 : BitVec 32 := 80#32
  let v774 : BitVec 32 := Scalar.addi v740 c80_i32
  let v775 : Index := Scalar.indexCast v774
  ![v775.toNat]

def k0_chk255 (v778 : IVec S16 32) : Prop :=
  (∀ a x, ((![v778] : Fin 1 → IVec S16 32) a x).toNat < S48000.size a)
theorem k0_idx255_inb : ∀ (v778 : IVec S16 32) (k0_hw255 : k0_chk255 v778), ∀ a x, ((![v778] : Fin 1 → IVec S16 32) a x).toNat < S48000.size a := fun v778 k0_hw255 => k0_hw255
def k0_off257 (k0_t32 : Fin k0_t32_loop.trips) : Fin 1 → Nat :=
  let c0_i32_289 : BitVec 32 := 0#32
  let c1_i32_291 : BitVec 32 := 1#32
  let arg10 : BitVec 32 := Scf.iv c0_i32_289 c1_i32_291 k0_t32
  let c128_i32 : BitVec 32 := 128#32
  let v740 : BitVec 32 := Scalar.muli arg10 c128_i32
  let c96_i32_299 : BitVec 32 := 96#32
  let v780 : BitVec 32 := Scalar.addi v740 c96_i32_299
  let v781 : Index := Scalar.indexCast v780
  ![v781.toNat]

def k0_chk256 (v784 : IVec S16 32) : Prop :=
  (∀ a x, ((![v784] : Fin 1 → IVec S16 32) a x).toNat < S48000.size a)
theorem k0_idx256_inb : ∀ (v784 : IVec S16 32) (k0_hw256 : k0_chk256 v784), ∀ a x, ((![v784] : Fin 1 → IVec S16 32) a x).toNat < S48000.size a := fun v784 k0_hw256 => k0_hw256
def k0_off258 (k0_t32 : Fin k0_t32_loop.trips) : Fin 1 → Nat :=
  let c0_i32_289 : BitVec 32 := 0#32
  let c1_i32_291 : BitVec 32 := 1#32
  let arg10 : BitVec 32 := Scf.iv c0_i32_289 c1_i32_291 k0_t32
  let c128_i32 : BitVec 32 := 128#32
  let v740 : BitVec 32 := Scalar.muli arg10 c128_i32
  let c112_i32 : BitVec 32 := 112#32
  let v786 : BitVec 32 := Scalar.addi v740 c112_i32
  let v787 : Index := Scalar.indexCast v786
  ![v787.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8x128x48000 : Shape := ⟨3, ![8, 128, 48000]⟩
abbrev S16000 : Shape := ⟨1, ![16000]⟩
abbrev S_ : Shape := ⟨0, ![]⟩
abbrev S16000x1 : Shape := ⟨2, ![16000, 1]⟩
abbrev S1 : Shape := ⟨1, ![1]⟩
abbrev S1x1 : Shape := ⟨2, ![1, 1]⟩
abbrev S8x128x16000 : Shape := ⟨3, ![8, 128, 16000]⟩

abbrev nBuf : Space → Nat
  | .hbm => 41
  | .vmem => 0
  | .smem => 0
  | _ => 0

abbrev bufTy : (tb : Table) → Fin (tcTables nBuf tb) → BufTy
  | .hbm, ⟨0, _⟩ => ⟨S8x128x48000, .f32⟩
  | .hbm, ⟨1, _⟩ => ⟨S16000, .f32⟩
  | .hbm, ⟨2, _⟩ => ⟨S_, .f32⟩
  | .hbm, ⟨3, _⟩ => ⟨S16000, .f32⟩
  | .hbm, ⟨4, _⟩ => ⟨S16000, .f32⟩
  | .hbm, ⟨5, _⟩ => ⟨S_, .f32⟩
  | .hbm, ⟨6, _⟩ => ⟨S16000, .f32⟩
  | .hbm, ⟨7, _⟩ => ⟨S16000, .f32⟩
  | .hbm, ⟨8, _⟩ => ⟨S16000, .f32⟩
  | .hbm, ⟨9, _⟩ => ⟨S16000, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S16000, .i32⟩
  | .hbm, ⟨14, _⟩ => ⟨S16000, .i32⟩
  | .hbm, ⟨15, _⟩ => ⟨S_, .i32⟩
  | .hbm, ⟨16, _⟩ => ⟨S16000, .i32⟩
  | .hbm, ⟨17, _⟩ => ⟨S16000, .i32⟩
  | .hbm, ⟨18, _⟩ => ⟨S_, .i32⟩
  | .hbm, ⟨19, _⟩ => ⟨S16000, .i32⟩
  | .hbm, ⟨20, _⟩ => ⟨S16000, .i1⟩
  | .hbm, ⟨21, _⟩ => ⟨S_, .i32⟩
  | .hbm, ⟨22, _⟩ => ⟨S16000, .i32⟩
  | .hbm, ⟨23, _⟩ => ⟨S16000, .i32⟩
  | .hbm, ⟨24, _⟩ => ⟨S16000, .i32⟩
  | .hbm, ⟨25, _⟩ => ⟨S16000x1, .i32⟩
  | .hbm, ⟨26, _⟩ => ⟨S1, .i32⟩
  | .hbm, ⟨27, _⟩ => ⟨S_, .i32⟩
  | .hbm, ⟨28, _⟩ => ⟨S16000x1, .i32⟩
  | .hbm, ⟨29, _⟩ => ⟨S16000x1, .i1⟩
  | .hbm, ⟨30, _⟩ => ⟨S1x1, .i32⟩
  | .hbm, ⟨31, _⟩ => ⟨S16000x1, .i32⟩
  | .hbm, ⟨32, _⟩ => ⟨S16000x1, .i1⟩
  | .hbm, ⟨33, _⟩ => ⟨S16000x1, .i1⟩
  | .hbm, ⟨34, _⟩ => ⟨S_, .i1⟩
  | .hbm, ⟨35, _⟩ => ⟨S16000, .i1⟩
  | .hbm, ⟨36, _⟩ => ⟨S8x128x16000, .f32⟩
  | .hbm, ⟨37, _⟩ => ⟨S8x128x16000, .i1⟩
  | .hbm, ⟨38, _⟩ => ⟨S_, .f32⟩
  | .hbm, ⟨39, _⟩ => ⟨S8x128x16000, .f32⟩
  | .hbm, ⟨40, _⟩ => ⟨S8x128x16000, .f32⟩
  | _, _ => ⟨S8x128x48000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_c_1 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v7 : Ref sig .tc := ⟨.hbm, 17, rfl⟩
abbrev main_call1_c : Ref sig .tc := ⟨.hbm, 18, rfl⟩
abbrev main_call1_v0 : Ref sig .tc := ⟨.hbm, 19, rfl⟩
abbrev main_call1_v1 : Ref sig .tc := ⟨.hbm, 20, rfl⟩
abbrev main_call1_c_0 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_call1_v5 : Ref sig .tc := ⟨.hbm, 25, rfl⟩
abbrev main_call1_c_1 : Ref sig .tc := ⟨.hbm, 26, rfl⟩
abbrev main_call1_c_2 : Ref sig .tc := ⟨.hbm, 27, rfl⟩
abbrev main_call1_v6 : Ref sig .tc := ⟨.hbm, 28, rfl⟩
abbrev main_call1_v7 : Ref sig .tc := ⟨.hbm, 29, rfl⟩
abbrev main_call1_v8 : Ref sig .tc := ⟨.hbm, 30, rfl⟩
abbrev main_call1_v9 : Ref sig .tc := ⟨.hbm, 31, rfl⟩
abbrev main_call1_v10 : Ref sig .tc := ⟨.hbm, 32, rfl⟩
abbrev main_call1_v11 : Ref sig .tc := ⟨.hbm, 33, rfl⟩
abbrev main_call1_c_3 : Ref sig .tc := ⟨.hbm, 34, rfl⟩
abbrev main_call1_v12 : Ref sig .tc := ⟨.hbm, 35, rfl⟩
abbrev main_call1_v13 : Ref sig .tc := ⟨.hbm, 36, rfl⟩
abbrev main_call1_v14 : Ref sig .tc := ⟨.hbm, 37, rfl⟩
abbrev main_call1_cst : Ref sig .tc := ⟨.hbm, 38, rfl⟩
abbrev main_call1_v15 : Ref sig .tc := ⟨.hbm, 39, rfl⟩
abbrev main_v8 : Ref sig .tc := ⟨.hbm, 40, rfl⟩

abbrev nD : Nat := 1
abbrev τ : Topo := Topo.v7x

variable {F : FTy → Type} [FloatOps F]
-- ==== Proof.ShapeKernelIdeal.lean ====
/- The SparseCore program in a regular form: thirty-two steps of one shape, each on one of two pairs of buffers,
   with one compaction loop. The printed program, whose thirty-two loops are written out one by one, is equal to it. -/
module

public import proofs.«01_k».proof.Proof.Gen.KernelIdeal.Skeleton

@[expose] public section

noncomputable section

namespace Cert.KernelIdeal

open Idealize.ShloMosaic Idealize.SL.Sem
open Cert.KernelIdeal.Gen

variable {F : FTy → Type} [FloatOps F]

/-- The programs of a tile at grid coordinates `i`. -/
abbrev TileProg (F : FTy → Type) [FloatOps F] (i : grid0.Coords) (α : Type) :=
  Prog (TpuEff nD τ sig (Elt F) Λ₀ (.scVector ((i 0).castLE hcore0) ((i 1).castLE hsub0))) α

/-! ## One compaction loop -/

/-- Sixteen lanes gathered from `ib` at the indices `v`, stored to `ob` at `off`. -/
def gatherUnit (i : grid0.Coords) (ib : Memref sig .scVector .vmem S48000 .f32)
    (ob : Memref sig .scVector .vmem S16000 .f32) (off : Fin 1 → Nat) (hoff : ∀ a, off a + S16.size a ≤ S16000.size a)
    (v : IVec S16 32) : TileProg F i PUnit := do
  have hw : k0_chk1 v := (← Prog.lift (TpuEff.assume (k0_chk1 v) (k0_chk1.dec v))).down
  let x : Vec F S16 .f32 ← SparseCore.vectorLoadIdx ib ![v] (k0_idx1_inb v hw) (View.loads_vmem h_S48000)
  let _ : Vec F S16 .f32 ← Prog.lift (.load ob (Rect.unit (s := S16000) off S16.size hoff).toLoadRect (View.loadsAt_vmem h_S16))
  Prog.lift (.store ob (Rect.unit (s := S16000) off S16.size hoff) x Finset.univ (View.stores_vmem_bits_univ h_S16 rfl) (.inl rfl))

/-- The index vector moved on by a constant. -/
def shiftIdx (v : IVec S16 32) (c : BitVec 32) : IVec S16 32 := addi v (broadcast S16 c)

/-- One trip: eight gathers, then the index vector moved on by `384`. -/
def compactBody (i : grid0.Coords) (ib : Memref sig .scVector .vmem S48000 .f32)
    (ob : Memref sig .scVector .vmem S16000 .f32) (t : Fin k0_t1_loop.trips) (v : IVec S16 32) :
    TileProg F i (IVec S16 32) := do
  gatherUnit i ib ob (k0_off2 t) (k0_off2_inb t) (shiftIdx v 0#32)
  gatherUnit i ib ob (k0_off3 t) (k0_off3_inb t) (shiftIdx v 48#32)
  gatherUnit i ib ob (k0_off4 t) (k0_off4_inb t) (shiftIdx v 96#32)
  gatherUnit i ib ob (k0_off5 t) (k0_off5_inb t) (shiftIdx v 144#32)
  gatherUnit i ib ob (k0_off6 t) (k0_off6_inb t) (shiftIdx v 192#32)
  gatherUnit i ib ob (k0_off7 t) (k0_off7_inb t) (shiftIdx v 240#32)
  gatherUnit i ib ob (k0_off8 t) (k0_off8_inb t) (shiftIdx v 288#32)
  gatherUnit i ib ob (k0_off9 t) (k0_off9_inb t) (shiftIdx v 336#32)
  pure (shiftIdx v 384#32)

/-- The loop over a whole chunk, from the index vector `3 * lane`. -/
def compactLoop (i : grid0.Coords) (ib : Memref sig .scVector .vmem S48000 .f32)
    (ob : Memref sig .scVector .vmem S16000 .f32) : TileProg F i (IVec S16 32) :=
  Scf.Loop.for k0_t1_loop k0_t1_ok k0_pay196 (compactBody i ib ob)

section Steps

variable (i : grid0.Coords) (arg2 : Memref sig .scVector .hbm S49152000 .f32) (arg3 : Memref sig .scVector .hbm S16384000 .f32)
  (ib : Fin 2 → Memref sig .scVector .vmem S48000 .f32) (hib : ∀ p, (ib p).IsWhole)
  (ob : Fin 2 → Memref sig .scVector .vmem S16000 .f32) (hob : ∀ p, (ob p).IsWhole)
  (arg8 : DmaSems sig S2) (arg9 : DmaSems sig S2)

/-- Input chunk `g`, -/
def inChunk (g : Fin 32) : Memref sig .scVector .hbm S48000 .f32 :=
  arg2.slice (Rect.unit (s := S49152000) (k0_off1 i (BitVec.ofNat 32 (48000 * g.val))) S48000.size (k0_off1_inb i g)) (fun _ => rfl)

/-- output chunk `g`, -/
def outChunk (g : Fin 32) : Memref sig .scVector .hbm S16000 .f32 :=
  arg3.slice (Rect.unit (s := S16384000) (k0_off10 i (BitVec.ofNat 32 (16000 * g.val))) S16000.size (k0_off10_inb i g)) (fun _ => rfl)

/-- the parity of a step, which picks its buffers and semaphores, -/
def par (g : Fin 32) : Fin 2 := ⟨g.val % 2, Nat.mod_lt _ (by decide)⟩

/-- the semaphore of parity `p` in a pair. -/
def semAt (a : DmaSems sig S2) : Fin 2 → DmaSem sig
  | 0 => ((a.slice (Rect.unit (s := S2) ![0] S1.size inb_S2_S1_0)).squeeze S_ squeezes_S1_S_).sem
  | 1 => ((a.slice (Rect.unit (s := S2) ![1] S1.size inb_S2_S1_1)).squeeze S_ squeezes_S1_S_).sem

/-- Start reading input chunk `g`, -/
def startIn (g : Fin 32) : TileProg F i PUnit :=
  Prog.lift (.enqueueDma (inChunk i arg2 g) (.here (ib (par g))) (.dma (semAt arg8 (par g)))
    (View.wordExact_bits rfl) (hib (par g)).wordExact ⟨Or.inl rfl, trivial⟩)
/-- wait for it, -/
def waitIn (g : Fin 32) : TileProg F i PUnit :=
  Prog.lift (.waitDma2 (semAt arg8 (par g)) (inChunk i arg2 g) (ib (par g)) (View.wordExact_bits rfl) (hib (par g)).wordExact)
/-- start writing output chunk `g`, -/
def startOut (g : Fin 32) : TileProg F i PUnit :=
  Prog.lift (.enqueueDma (ob (par g)) (.here (outChunk i arg3 g)) (.dma (semAt arg9 (par g)))
    (hob (par g)).wordExact (View.wordExact_bits rfl) ⟨Or.inl rfl, trivial⟩)
/-- wait for it. -/
def waitOut (g : Fin 32) : TileProg F i PUnit :=
  Prog.lift (.waitDma2 (semAt arg9 (par g)) (ob (par g)) (outChunk i arg3 g) (hob (par g)).wordExact (View.wordExact_bits rfl))

/-- Step `g`: its input chunk arrives, the output buffer is free, the chunk is compacted and sent, and the read two
    steps on starts. -/
def step (g : Fin 32) : TileProg F i PUnit := do
  waitIn i arg2 ib hib arg8 g
  (if h : 2 ≤ g.val then waitOut i arg3 ob hob arg9 ⟨g.val - 2, by omega⟩ else pure ⟨⟩)
  let _ ← compactLoop i (ib (par g)) (ob (par g))
  startOut i arg3 ob hob arg9 g
  (if h : g.val + 2 < 32 then startIn i arg2 ib hib arg8 ⟨g.val + 2, h⟩ else pure ⟨⟩)

/-- A tile's whole program. -/
def tileProg : TileProg F i PUnit := do
  startIn i arg2 ib hib arg8 0
  startIn i arg2 ib hib arg8 1
  Scf.forFrom (fun g _ => step i arg2 arg3 ib hib ob hob arg8 arg9 g) (List.finRange 32) ⟨⟩
  waitOut i arg3 ob hob arg9 30
  waitOut i arg3 ob hob arg9 31

end Steps

/-- Two buffers as a function of the parity. -/
def two {s : Shape} (a b : Memref sig .scVector .vmem s .f32) : Fin 2 → Memref sig .scVector .vmem s .f32
  | 0 => a
  | 1 => b

theorem two_whole {s : Shape} {a b : Memref sig .scVector .vmem s .f32} (ha : a.IsWhole) (hb : b.IsWhole) :
    ∀ p, (two a b p).IsWhole
  | 0 => ha
  | 1 => hb

theorem finRange32 : List.finRange 32 = ([0, 1, 2, 3, 4, 5, 6, 7, 8, 9, 10, 11, 12, 13, 14, 15, 16, 17, 18, 19, 20, 21, 22,
    23, 24, 25, 26, 27, 28, 29, 30, 31] : List (Fin 32)) := by decide

set_option maxRecDepth 65536 in
set_option maxHeartbeats 4000000 in
/-- The printed program is the regular one. -/
theorem kern_eq (i : grid0.Coords) (arg2 : Memref sig .scVector .hbm S49152000 .f32) (h2 : arg2.IsWhole)
    (arg3 : Memref sig .scVector .hbm S16384000 .f32) (h3 : arg3.IsWhole)
    (arg4 : Memref sig .scVector .vmem S48000 .f32) (h4 : arg4.IsWhole) (arg5 : Memref sig .scVector .vmem S48000 .f32) (h5 : arg5.IsWhole)
    (arg6 : Memref sig .scVector .vmem S16000 .f32) (h6 : arg6.IsWhole) (arg7 : Memref sig .scVector .vmem S16000 .f32) (h7 : arg7.IsWhole)
    (arg8 arg9 : DmaSems sig S2) :
    cc0_resample_nearest_sc (F := F) i arg2 h2 arg3 h3 arg4 h4 arg5 h5 arg6 h6 arg7 h7 arg8 arg9 =
      tileProg i arg2 arg3 (two arg4 arg5) (two_whole h4 h5) (two arg6 arg7) (two_whole h6 h7) arg8 arg9 := by
  rw [cc0_resample_nearest_sc_eq_skeleton]
  unfold cc0_resample_nearest_sc_skel tileProg
  rw [finRange32]
  simp only [k0_part33_eq_skeleton, k0_part33_skel, k0_part34_eq_skeleton, k0_part34_skel, k0_part35_eq_skeleton, k0_part35_skel, k0_part36_eq_skeleton, k0_part36_skel, k0_part37_eq_skeleton, k0_part37_skel, k0_part38_eq_skeleton, k0_part38_skel, k0_part39_eq_skeleton, k0_part39_skel, k0_part40_eq_skeleton, k0_part40_skel, k0_part41_eq_skeleton, k0_part41_skel, k0_part42_eq_skeleton, k0_part42_skel, k0_part43_eq_skeleton, k0_part43_skel, k0_part44_eq_skeleton, k0_part44_skel, k0_part45_eq_skeleton, k0_part45_skel, k0_part46_eq_skeleton, k0_part46_skel, k0_part47_eq_skeleton, k0_part47_skel, k0_part48_eq_skeleton, k0_part48_skel, k0_part49_eq_skeleton, k0_part49_skel, k0_part50_eq_skeleton, k0_part50_skel, k0_part51_eq_skeleton, k0_part51_skel, k0_part52_eq_skeleton, k0_part52_skel]
  simp only [Scf.forFrom_cons, Scf.forFrom_nil, step, compactLoop, bind_assoc, Prog.pure_eq_ret, Prog.bind_ret, Prog.lift, Prog.bind_op]
  rfl

end Cert.KernelIdeal
-- ==== Proof.CompactKernelIdeal.lean ====
/- One compaction loop: from a chunk of 48000 elements, every third one, in order. -/
module

public import proofs.«01_k».proof.Defs
public import proofs.«01_k».proof.Proof.ShapeKernelIdeal
public import Idealize.ShloMosaic.Lib.SparseCore.Quiescent
public import Idealize.ShloMosaic.Lib.StableHlo.Run
public import Idealize.ShloMosaic.Lib.Pipeline.Kit
public import Idealize.ShloMosaic.Lib.Tactic

@[expose] public section

noncomputable section

namespace Cert.KernelIdeal

open Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The resource algebra -/

abbrev UH : Type := URounds (GSem nD τ sig) ℕ
abbrev UU : Type := UH × Counters

local notation "𝕄" => MT nD τ sig (HIx 1) (Elt F) ℕ UU ℕ

abbrev 𝒱₀ : Variants := Variants.none

variable [FloatOps F]

/-- The tile thread at grid coordinates `i` of device `d`. -/
abbrev thr (d : Dev nD) (i : grid0.Coords) : Thread nD τ := V d ((i 0).castLE hcore0) ((i 1).castLE hsub0)

/-! ## Index vectors -/

/-- The lanes of `v` name the places `3 * n`, `3 * (n + 1)`, … -/
def IdxIs (v : IVec S16 32) (n : ℕ) : Prop := ∀ x : S16.Idx, (v x).toNat = 3 * (n + (x 0).val)

/-- A lane's number is below sixteen. -/
theorem IdxIs.lane_lt (x : S16.Idx) : (x 0).val < 16 := (x 0).isLt

/-- The first index vector names `0, 3, …, 45`. -/
theorem idxIs_init : IdxIs k0_pay196 0 := by
  intro x
  have hx := IdxIs.lane_lt x
  show (3#32 * BitVec.ofNat 32 (0 * 16 + (x 0).val)).toNat = 3 * (0 + (x 0).val)
  rw [BitVec.toNat_mul, BitVec.toNat_ofNat, BitVec.toNat_ofNat]
  omega

/-- Moving the index vector on by `3 * c` moves the places named on by `c` elements. -/
theorem IdxIs.shift {v : IVec S16 32} {n : ℕ} (h : IdxIs v n) (c : ℕ) (hn : n + c ≤ 16000) :
    IdxIs (shiftIdx v (BitVec.ofNat 32 (3 * c))) (n + c) := by
  intro x
  have hx := IdxIs.lane_lt x
  show (v x + BitVec.ofNat 32 (3 * c)).toNat = 3 * (n + c + (x 0).val)
  rw [BitVec.toNat_add, BitVec.toNat_ofNat, h x]
  omega

/-- The places named lie in the chunk. -/
theorem IdxIs.chk {v : IVec S16 32} {n : ℕ} (h : IdxIs v n) (hn : n + 16 ≤ 16000) : k0_chk1 v := by
  intro a x
  obtain rfl : a = 0 := Subsingleton.elim _ _
  have hx := IdxIs.lane_lt x
  show (v x).toNat < 48000
  rw [h x]; omega

/-! ## What is compacted so far -/

/-- The place `3 * j` of a chunk. -/
def third (j : S16000.Idx) : S48000.Idx := fun a => ⟨3 * (j 0).val, by
  have h : (j 0).val < 16000 := (j 0).isLt
  obtain rfl : a = 0 := Subsingleton.elim _ _
  show 3 * (j 0).val < 48000
  omega⟩

/-- The first `n` elements of `g` are the source's at `0, 3, 6, …`. -/
def Upto (src : S48000.Idx → Elt F .f32) (g : S16000.Idx → Elt F .f32) (n : ℕ) : Prop :=
  ∀ j : S16000.Idx, (j 0).val < n → g j = src (third j)

/-- Sixteen more gathered and stored. -/
theorem upto_store {ob : Memref sig .scVector .vmem S16000 .f32} {src : S48000.Idx → Elt F .f32} {f : ob.view.ty.Contents (Elt F)} {n : ℕ}
    {off : Fin 1 → ℕ} {hoff : ∀ a, off a + S16.size a ≤ S16000.size a} {v : IVec S16 32} (hv : ∀ a x, ((![v] : Fin 1 → IVec S16 32) a x).toNat < S48000.size a)
    (hi : IdxIs v n) (ho : off 0 = n) (hU : Upto src (ob.view.read (Elt F) f) n) :
    Upto src (ob.view.read (Elt F) ((ob.access (Rect.unit (s := S16000) off S16.size hoff)).write (Elt F) f (loadIdx src ![v] hv) Finset.univ)) (n + 16) := by
  intro j hj
  have h := hoff 0
  by_cases hlt : (j 0).val < n
  · rw [View.read_slice_write_of_not_mem]
    · exact hU j hlt
    · rw [Rect.map_emb_univ]
      refine Rect.not_mem_set_of_axis _ _ 0 n 16 ho rfl rfl (.inl hlt)
  · have hx : (j 0).val - n < 16 := by omega
    let x : S16.Idx := fun _ => ⟨(j 0).val - n, by rename_i a; obtain rfl : a = 0 := Subsingleton.elim _ _; exact hx⟩
    have hxj : (Rect.unit (s := S16000) off S16.size hoff).emb x = j := by
      refine Rect.emb_eq_of_coords _ _ _ fun a => ?_
      obtain rfl : a = 0 := Subsingleton.elim _ _
      show (j 0).val = off 0 + 1 * ((j 0).val - n)
      omega
    rw [← hxj, View.read_slice_write_emb _ _ _ (Finset.mem_univ x), hxj]
    show src _ = src _
    congr 1
    funext a
    obtain rfl : a = 0 := Subsingleton.elim _ _
    refine Fin.ext ?_
    show (v x).toNat = 3 * (j 0).val
    rw [hi x]
    show 3 * (n + ((j 0).val - n)) = 3 * (j 0).val
    omega

/-- Reading a memref through its whole rectangle is reading it. -/
theorem read_access_whole_eq (b : Memref sig .scVector .vmem S48000 .f32) (f : b.view.ty.Contents (Elt F)) :
    (b.access (Rect.whole S48000)).read (Elt F) f = b.view.read (Elt F) f := by
  funext x
  show b.view.read (Elt F) f ((Rect.whole S48000).emb x) = _
  rw [Rect.emb_whole_apply]

/-! ## The loop -/

section Loop

variable (d : Dev nD) (i : grid0.Coords) (ib : Memref sig .scVector .vmem S48000 .f32) (ob : Memref sig .scVector .vmem S16000 .f32)

/-- A buffer held at contents `f`, over the elements its memref addresses. -/
abbrev inHeld (f : Buf (Elt F) (ib.view.loc (thr d i))) : sProp 𝕄 := ib.view.loc (thr d i) ↦[ib.view.set]{fullShare} f
abbrev outHeld (f : Buf (Elt F) (ob.view.loc (thr d i))) : sProp 𝕄 := ob.view.loc (thr d i) ↦[ob.view.set]{fullShare} f

/-- The two buffers with `n` elements compacted. -/
def mid (s : Buf (Elt F) (ib.view.loc (thr d i))) (n : ℕ) : sProp 𝕄 :=
  iprop(inHeld d i ib s ∗ ∃ f, ⌜Upto (ib.view.read (Elt F) s) (ob.view.read (Elt F) f) n⌝ ∗ outHeld d i ob f)

/-- Sixteen elements gathered and stored: `n` compacted become `n + 16`. -/
theorem wp_gatherUnit (s : Buf (Elt F) (ib.view.loc (thr d i))) (n : ℕ) (off : Fin 1 → ℕ) (hoff : ∀ a, off a + S16.size a ≤ S16000.size a)
    (v : IVec S16 32) (hi : IdxIs v n) (hn : n + 16 ≤ 16000) (ho : off 0 = n) :
    mid d i ib ob s n ⊢ wp frame (wpE (defs₀ (F := F)) 𝒱₀ (thr d i) none) Set.univ (gatherUnit i ib ob off hoff v)
      fun _ => mid d i ib ob s (n + 16) := by
  unfold gatherUnit mid
  simp only [Prog.lift, Prog.bind_op, Prog.bind_ret]
  rw [wp_assume_of 𝒱₀ (thr d i) none Set.univ (hi.chk hn)]
  iintro ⟨Hs, %f, %hU, Hf⟩
  iapply (SparseCore.wp_vectorLoadIdx 𝒱₀ (thr d i) none Set.univ (base := ib) (View.set_slice_subset ib.view _)) $$ [Hs]
  · iexact Hs
  iintro Hs
  iapply (wp_load 𝒱₀ (thr d i) none Set.univ (m := ob) (View.setOn_subset_set ob.view _)) $$ Hf
  iintro Hf
  iapply (wp_store 𝒱₀ (thr d i) none Set.univ (m := ob) (View.set_slice_subset ob.view _)) $$ [Hf]
  · iexact Hf
  iintro Hf
  rw [wp_ret]
  imodintro
  isplitl [Hs]; · iexact Hs
  iexists ((ob.access (Rect.unit (s := S16000) off S16.size hoff)).write (Elt F) f
    (loadIdx ((ib.access (Rect.whole S48000)).read (Elt F) s) ![v] (k0_idx1_inb v (hi.chk hn))) Finset.univ)
  isplitr
  · ipureintro
    rw [read_access_whole_eq]
    exact upto_store _ hi ho hU
  · iexact Hf

/-- The eight places a trip stores at. -/
theorem off_eqs : ∀ t : Fin k0_t1_loop.trips, k0_off2 t 0 = 128 * t.val ∧ k0_off3 t 0 = 128 * t.val + 16 ∧ k0_off4 t 0 = 128 * t.val + 32
    ∧ k0_off5 t 0 = 128 * t.val + 48 ∧ k0_off6 t 0 = 128 * t.val + 64 ∧ k0_off7 t 0 = 128 * t.val + 80 ∧ k0_off8 t 0 = 128 * t.val + 96
    ∧ k0_off9 t 0 = 128 * t.val + 112 ∧ t.val < 125 := by decide +kernel

/-- A gather, then the rest of the trip. -/
theorem wp_gather_then (s : Buf (Elt F) (ib.view.loc (thr d i))) (n u : ℕ) (off : Fin 1 → ℕ) (hoff : ∀ a, off a + S16.size a ≤ S16000.size a)
    (v : IVec S16 32) (hi : IdxIs v n) (hn : n + u + 16 ≤ 16000) (ho : off 0 = n + u) (c : BitVec 32) (hc : c = BitVec.ofNat 32 (3 * u))
    {α : Type} (k : PUnit → TileProg F i α) (Q : α → sProp 𝕄)
    (hk : mid d i ib ob s (n + (u + 16)) ⊢ wp frame (wpE (defs₀ (F := F)) 𝒱₀ (thr d i) none) Set.univ (k ⟨⟩) Q) :
    mid d i ib ob s (n + u) ⊢ wp frame (wpE (defs₀ (F := F)) 𝒱₀ (thr d i) none) Set.univ (gatherUnit i ib ob off hoff (shiftIdx v c) >>= k) Q := by
  subst hc
  rw [wp_bind]
  exact (wp_gatherUnit d i ib ob s (n + u) off hoff _ (hi.shift u (by omega)) hn ho).trans (wp_mono frame _ _ fun _ => hk)

/-- What holds before trip `t` with index vector `v`. -/
def loopInv (s : Buf (Elt F) (ib.view.loc (thr d i))) (t : ℕ) (v : IVec S16 32) : sProp 𝕄 :=
  iprop(⌜IdxIs v (128 * t)⌝ ∗ mid d i ib ob s (128 * t))

/-- One trip compacts 128 elements more. -/
theorem wp_compactBody (s : Buf (Elt F) (ib.view.loc (thr d i))) (t : Fin k0_t1_loop.trips) (v : IVec S16 32) :
    loopInv d i ib ob s t.val v ⊢ wp frame (wpE (defs₀ (F := F)) 𝒱₀ (thr d i) none) Set.univ (compactBody i ib ob t v)
      (loopInv d i ib ob s (t.val + 1)) := by
  obtain ⟨h0, h1, h2, h3, h4, h5, h6, h7, ht⟩ := off_eqs t
  unfold loopInv
  iintro ⟨%hi, H⟩
  iapply (show mid d i ib ob s (128 * t.val) ⊢ wp frame (wpE (defs₀ (F := F)) 𝒱₀ (thr d i) none) Set.univ (compactBody i ib ob t v)
      (fun v' => iprop(⌜IdxIs v' (128 * (t.val + 1))⌝ ∗ mid d i ib ob s (128 * (t.val + 1)))) from ?_) $$ H
  unfold compactBody
  refine wp_gather_then d i ib ob s (128 * t.val) 0 _ _ v hi (by omega) h0 _ rfl _ _ ?_
  refine wp_gather_then d i ib ob s (128 * t.val) 16 _ _ v hi (by omega) h1 _ rfl _ _ ?_
  refine wp_gather_then d i ib ob s (128 * t.val) 32 _ _ v hi (by omega) h2 _ rfl _ _ ?_
  refine wp_gather_then d i ib ob s (128 * t.val) 48 _ _ v hi (by omega) h3 _ rfl _ _ ?_
  refine wp_gather_then d i ib ob s (128 * t.val) 64 _ _ v hi (by omega) h4 _ rfl _ _ ?_
  refine wp_gather_then d i ib ob s (128 * t.val) 80 _ _ v hi (by omega) h5 _ rfl _ _ ?_
  refine wp_gather_then d i ib ob s (128 * t.val) 96 _ _ v hi (by omega) h6 _ rfl _ _ ?_
  refine wp_gather_then d i ib ob s (128 * t.val) 112 _ _ v hi (by omega) h7 _ rfl _ _ ?_
  rw [Prog.pure_eq_ret, wp_ret]
  iintro H
  imodintro
  isplitr
  · ipureintro
    exact hi.shift 128 (by omega)
  · iexact H

/-- The whole loop: from any output buffer, the chunk compacted. -/
theorem wp_compactLoop (s : Buf (Elt F) (ib.view.loc (thr d i))) (f : Buf (Elt F) (ob.view.loc (thr d i))) :
    iprop(inHeld d i ib s ∗ outHeld d i ob f) ⊢ wp frame (wpE (defs₀ (F := F)) 𝒱₀ (thr d i) none) Set.univ (compactLoop i ib ob)
      fun _ => iprop(inHeld d i ib s ∗ ∃ f, ⌜∀ j, ob.view.read (Elt F) f j = ib.view.read (Elt F) s (third j)⌝ ∗ outHeld d i ob f) := by
  unfold compactLoop
  iintro ⟨Hs, Hf⟩
  iapply (Scf.wp_for frame (wpE (defs₀ (F := F)) 𝒱₀ (thr d i) none) Set.univ _ _ _ _ _ _ (loopInv d i ib ob s) (wp_compactBody d i ib ob s))
  isplitl
  · unfold loopInv mid
    isplitr; · ipureintro; exact idxIs_init
    isplitl [Hs]; · iexact Hs
    iexists f
    isplitr
    · ipureintro; intro j hj; omega
    · iexact Hf
  · iintro %v HI
    unfold loopInv mid
    icases HI with ⟨-, Hs, %f', %hU, Hf⟩
    isplitl [Hs]; · iexact Hs
    iexists f'
    isplitr
    · ipureintro
      intro j
      refine hU j ?_
      have : k0_t1_loop.trips = 125 := by decide
      have hj : (j 0).val < 16000 := (j 0).isLt
      show (j 0).val < 128 * k0_t1_loop.trips
      omega
    · iexact Hf

end Loop

end Cert.KernelIdeal
-- ==== Proof.TileKernelIdeal.lean ====
/- A tile's whole program: its 32 chunks read, compacted and written through two buffers each way. -/
module

public import proofs.«01_k».proof.Proof.CompactKernelIdeal

@[expose] public section

noncomputable section

namespace Cert.KernelIdeal

open Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable [FloatOps F]

/-! ## The chunks -/

/-- A tile's number. -/
def wid (i : grid0.Coords) : ℕ := (i 1).val * 2 + (i 0).val

/-- There are 32 tiles. -/
theorem wid_lt (i : grid0.Coords) : wid i < 32 := by
  have h0 : (i 0).val < 2 := (i 0).isLt
  have h1 : (i 1).val < 16 := (i 1).isLt
  unfold wid
  omega

/-- The printed offset of a chunk as a natural number, modulo `2 ^ 32`. -/
theorem off_val (a b c n : BitVec 32) :
    (![(Scalar.addi (Scalar.muli (Scalar.addi (Scalar.muli a 2#32) b) n) c).toNat] : Fin 1 → ℕ) 0
      = ((a.toNat * 2 + b.toNat) * n.toNat + c.toNat) % 2 ^ 32 := by
  show ((a * 2#32 + b) * n + c).toNat = _
  simp only [BitVec.toNat_add, BitVec.toNat_mul, BitVec.toNat_ofNat, Nat.mod_add_mod, Nat.mod_mul_mod]

theorem toNat_small {n : ℕ} (h : n < 2 ^ 32) : (BitVec.ofNat 32 n).toNat = n := by
  rw [BitVec.toNat_ofNat, Nat.mod_eq_of_lt h]

/-- Where the operand's chunk `g` starts; -/
theorem off_in (i : grid0.Coords) (g : Fin 32) : k0_off1 i (BitVec.ofNat 32 (48000 * g.val)) 0 = (wid i * 32 + g.val) * 48000 := by
  have h0 : (i 0).val < 2 := (i 0).isLt
  have h1 : (i 1).val < 16 := (i 1).isLt
  have hg := g.isLt
  have hw := wid_lt i
  refine (off_val (BitVec.ofNat 32 (i 1).val) (BitVec.ofNat 32 (i 0).val) _ 1536000#32).trans ?_
  rw [toNat_small (by omega), toNat_small (by omega), toNat_small (by omega), toNat_small (by omega)]
  unfold wid at hw ⊢
  omega

/-- where the result's chunk `g` starts. -/
theorem off_out (i : grid0.Coords) (g : Fin 32) : k0_off10 i (BitVec.ofNat 32 (16000 * g.val)) 0 = (wid i * 32 + g.val) * 16000 := by
  have h0 : (i 0).val < 2 := (i 0).isLt
  have h1 : (i 1).val < 16 := (i 1).isLt
  have hg := g.isLt
  have hw := wid_lt i
  refine (off_val (BitVec.ofNat 32 (i 1).val) (BitVec.ofNat 32 (i 0).val) _ 512000#32).trans ?_
  rw [toNat_small (by omega), toNat_small (by omega), toNat_small (by omega), toNat_small (by omega)]
  unfold wid at hw ⊢
  omega

abbrev xW : Memref sig .scVector .hbm S49152000 .f32 := Memref.whole main_v0_scv
abbrev oW : Memref sig .scVector .hbm S16384000 .f32 := Memref.whole main_v1_scv

/-- Place `3 * k` of the flat operand, for place `k` of the flat result. -/
def thirdFlat (k : S16384000.Idx) : S49152000.Idx := fun a => ⟨3 * (k 0).val, by
  obtain rfl : a = 0 := Subsingleton.elim _ _
  have hk : (k 0).val < 16384000 := (k 0).isLt
  show 3 * (k 0).val < 49152000
  omega⟩

/-- Every third element of the flat operand. -/
def everyThird (X : S49152000.Idx → Elt F .f32) : S16384000.Idx → Elt F .f32 := fun k => X (thirdFlat k)

/-- In chunk `g`, place `3 * j` of the operand's chunk is under place `j` of the result's. -/
theorem chunk_third (i : grid0.Coords) (g : Fin 32) (X : S49152000.Idx → Elt F .f32) (j : S16000.Idx) :
    (inChunk i xW g).view.read (Elt F) X (third j) = everyThird X ((outChunk i oW g).view.emb j) := by
  show X ((Rect.unit (s := S49152000) (k0_off1 i (BitVec.ofNat 32 (48000 * g.val))) S48000.size (k0_off1_inb i g)).emb (third j))
    = X (thirdFlat ((Rect.unit (s := S16384000) (k0_off10 i (BitVec.ofNat 32 (16000 * g.val))) S16000.size (k0_off10_inb i g)).emb j))
  congr 1
  funext a
  obtain rfl : a = 0 := Subsingleton.elim _ _
  refine Fin.ext ?_
  show k0_off1 i (BitVec.ofNat 32 (48000 * g.val)) 0 + 1 * (3 * (j 0).val)
    = 3 * (k0_off10 i (BitVec.ofNat 32 (16000 * g.val)) 0 + 1 * (j 0).val)
  rw [off_in, off_out]
  omega

/-! ## One tile -/

section Tile

variable (d : Dev nD) (i : grid0.Coords) (X : S49152000.Idx → Elt F .f32) (Z : S16384000.Idx → Elt F .f32)
  (ib : Fin 2 → Memref sig .scVector .vmem S48000 .f32) (hib : ∀ p, (ib p).IsWhole)
  (ob : Fin 2 → Memref sig .scVector .vmem S16000 .f32) (hob : ∀ p, (ob p).IsWhole)
  (a8 a9 : DmaSems sig S2)
  (O : CellTallies nD τ sig (HIx 1)) (W : Waits sig (HIx 1))

/-- The triples below are all at the tile's thread. -/
abbrev tileWp {α : Type} (p : TileProg F i α) (Q : α → sProp 𝕄) : sProp 𝕄 :=
  wp frame (wpE (defs₀ (F := F)) 𝒱₀ (thr d i) none) Set.univ p Q

/-- A triple used on the way to another postcondition, -/
theorem wp_use {α : Type} {p : TileProg F i α} {P : sProp 𝕄} {R Q : α → sProp 𝕄} (h : P ⊢ tileWp d i p R) :
    P ⊢ iprop((∀ a, R a -∗ Q a) -∗ tileWp d i p Q) := by
  iintro HP HQ
  unfold tileWp
  iapply (wp_wand_r frame (wpE (defs₀ (F := F)) 𝒱₀ (thr d i) none) (Q := R))
  isplitl [HP]
  · iapply h; iexact HP
  · iexact HQ

/-- or at the head of a longer program. -/
theorem wp_then {α β : Type} {p : TileProg F i α} {k : α → TileProg F i β} {P : sProp 𝕄} {R : α → sProp 𝕄} {Q : β → sProp 𝕄}
    (h : P ⊢ tileWp d i p R) : P ⊢ iprop((∀ a, R a -∗ tileWp d i (k a) Q) -∗ tileWp d i (p >>= k) Q) := by
  unfold tileWp
  rw [wp_bind]
  exact wp_use d i h

/-- The operand's chunk `g` at `X`; -/
def inPts (g : Fin 32) : sProp 𝕄 := (inChunk i xW g).view.loc (thr d i) ↦[(inChunk i xW g).view.set]{fullShare} X
/-- the result's chunk `g` at `f`. -/
def outPts (f : S16384000.Idx → Elt F .f32) (g : Fin 32) : sProp 𝕄 := (outChunk i oW g).view.loc (thr d i) ↦[(outChunk i oW g).view.set]{fullShare} f

/-- What the tile owes, with the evidence that its waits are admissible. -/
def duty : sProp 𝕄 :=
  iprop(Transfers.MayWaits (thr d i) (none : HIx 1) O ∗ ∃ W', ⌜∀ p ∈ W', p ∈ W ∨ p.2 = none⌝ ∗ owes (thr d i) O W')

/-- The read semaphore, the write semaphore of a parity, at zero. -/
abbrev inSem (p : Fin 2) : sProp 𝕄 := semVal (thr d i, SemLoc.dma (semAt a8 p)) 0
abbrev outSem (p : Fin 2) : sProp 𝕄 := semVal (thr d i, SemLoc.dma (semAt a9 p)) 0

/-- An input buffer of no known contents, its semaphore at zero; -/
def inFree (p : Fin 2) : sProp 𝕄 := iprop((∃ f, inHeld d i (ib p) f) ∗ inSem (F := F) d i a8 p)
/-- an output buffer likewise; -/
def outFree (p : Fin 2) : sProp 𝕄 := iprop((∃ f, outHeld d i (ob p) f) ∗ outSem (F := F) d i a9 p)
/-- an input buffer holding chunk `g`; -/
def landed (g : Fin 32) : sProp 𝕄 :=
  iprop(∃ f, ⌜(ib (par g)).view.read (Elt F) f = (inChunk i xW g).view.read (Elt F) X⌝ ∗ inHeld d i (ib (par g)) f)
/-- an output buffer holding chunk `g` compacted. -/
def packed (g : Fin 32) : sProp 𝕄 :=
  iprop(∃ f, ⌜∀ j, (ob (par g)).view.read (Elt F) f j = (inChunk i xW g).view.read (Elt F) X (third j)⌝ ∗ outHeld d i (ob (par g)) f)

/-- The read of chunk `g` on its way; -/
def inFlight (g : Fin 32) : sProp 𝕄 :=
  Transfers.Flight countersEmb (thr d i) (.dma (semAt a8 (par g))) (none : HIx 1) (ib (par g)).view.dmaCredit
    iprop(landed d i X ib g ∗ inPts d i X g)
/-- the write of chunk `g` on its way. -/
def outFlight (g : Fin 32) : sProp 𝕄 :=
  Transfers.Flight countersEmb (thr d i) (.dma (semAt a9 (par g))) (none : HIx 1) (outChunk i oW g).view.dmaCredit
    iprop(outPts d i (everyThird X) g ∗ ∃ f, outHeld d i (ob (par g)) f)

/-- Starting a read takes the chunk, the buffer and the semaphore; -/
theorem wp_startIn (g : Fin 32) :
    iprop(inPts d i X g ∗ inFree d i ib a8 (par g)) ⊢ tileWp d i (startIn i xW ib hib a8 g) fun _ => inFlight d i X ib a8 g := by
  unfold startIn inFree inPts
  iintro ⟨Hx, ⟨%f, Hb⟩, Hs⟩
  iapply (Transfers.wp_dmaLocal countersEmb 𝒱₀ (thr d i) none (none : HIx 1) (ib (par g)).view.dmaCredit rfl
    (View.dmaCredit_pos _ (by decide)) (Finset.Subset.refl _)) $$ [Hx Hb Hs]
  · isplitl [Hx]; · iexact Hx
    isplitl [Hb]; · iexact Hb
    iexact Hs
  iintro Hf
  rw [wp_ret]
  imodintro
  unfold inFlight
  iapply (Transfers.Flight_mono countersEmb (thr d i) ?_) $$ Hf
  unfold landed inPts
  iintro ⟨Hb, Hx⟩
  isplitl [Hb]
  · iexists (ib (par g)).view.write (Elt F) f (ReadAs.same.apply ((inChunk i xW g).view.read (Elt F) X)) Finset.univ
    isplitr
    · ipureintro
      exact View.read_write_univ _ _
    · iexact Hb
  · iexact Hx

/-- its wait gives them back, the chunk landed. -/
theorem wp_waitIn (g : Fin 32) :
    iprop(inFlight d i X ib a8 g ∗ duty d i O W)
      ⊢ tileWp d i (waitIn i xW ib hib a8 g) fun _ => iprop(landed d i X ib g ∗ inPts d i X g ∗ inSem (F := F) d i a8 (par g) ∗ duty d i O W) := by
  unfold waitIn inFlight duty
  iintro ⟨Hf, #Hmw, %W', %hW', HO⟩
  ihave Hm := (Transfers.MayWaits.elim (.dma (semAt a8 (par g)))) $$ Hmw
  iapply (Transfers.wp_waitLocalO countersEmb 𝒱₀ (thr d i) none (none : HIx 1) rfl) $$ [Hf HO Hm]
  · isplitl [Hf]; · iexact Hf
    isplitl [HO]; · iexact HO
    iexact Hm
  iintro ⟨⟨Hb, Hx⟩, Hs, HO⟩
  rw [wp_ret]
  imodintro
  isplitl [Hb]; · iexact Hb
  isplitl [Hx]; · iexact Hx
  isplitl [Hs]; · iexact Hs
  isplitr; · iexact Hmw
  iexists _
  isplitr
  rotate_left
  · iexact HO
  · ipureintro
    intro p hp
    rcases Finset.mem_insert.mp hp with rfl | hp
    · exact .inr rfl
    · exact hW' p hp

/-- Starting a write takes the packed buffer, the chunk and the semaphore; -/
theorem wp_startOut (g : Fin 32) :
    iprop(outPts d i Z g ∗ packed d i X ob g ∗ outSem (F := F) d i a9 (par g))
      ⊢ tileWp d i (startOut i oW ob hob a9 g) fun _ => outFlight d i X ob a9 g := by
  unfold startOut packed outPts
  iintro ⟨Hx, ⟨%f, %hf, Hb⟩, Hs⟩
  iapply (Transfers.wp_dmaLocal countersEmb 𝒱₀ (thr d i) none (none : HIx 1) (outChunk i oW g).view.dmaCredit rfl
    (View.dmaCredit_pos _ (by decide)) (Finset.Subset.refl _)) $$ [Hx Hb Hs]
  · isplitl [Hb]; · iexact Hb
    isplitl [Hx]; · iexact Hx
    iexact Hs
  iintro Hf
  rw [wp_ret]
  imodintro
  unfold outFlight
  iapply (Transfers.Flight_mono countersEmb (thr d i) ?_) $$ Hf
  unfold outPts
  iintro ⟨Hx, Hb⟩
  isplitl [Hx]
  · iapply (Entails.of_eq (pointsTo_congr ?_)) $$ Hx
    intro k hk
    obtain ⟨j, -, rfl⟩ := Finset.mem_map.mp hk
    refine (View.write_emb_of_mem (v := (outChunk i oW g).view) _ _ (Finset.mem_univ j)).trans ?_
    refine Eq.trans ?_ (chunk_third i g X j)
    exact hf j
  · iexists f
    iexact Hb

/-- its wait gives them back, the chunk written. -/
theorem wp_waitOut (g : Fin 32) :
    iprop(outFlight d i X ob a9 g ∗ duty d i O W)
      ⊢ tileWp d i (waitOut i oW ob hob a9 g) fun _ => iprop(outPts d i (everyThird X) g ∗ outFree d i ob a9 (par g) ∗ duty d i O W) := by
  unfold waitOut outFlight duty outFree
  iintro ⟨Hf, #Hmw, %W', %hW', HO⟩
  ihave Hm := (Transfers.MayWaits.elim (.dma (semAt a9 (par g)))) $$ Hmw
  iapply (Transfers.wp_waitLocalO countersEmb 𝒱₀ (thr d i) none (none : HIx 1) rfl) $$ [Hf HO Hm]
  · isplitl [Hf]; · iexact Hf
    isplitl [HO]; · iexact HO
    iexact Hm
  iintro ⟨⟨Hx, Hb⟩, Hs, HO⟩
  rw [wp_ret]
  imodintro
  isplitl [Hx]; · iexact Hx
  isplitl [Hb Hs]
  · isplitl [Hb]; · iexact Hb
    iexact Hs
  isplitr; · iexact Hmw
  iexists _
  isplitr
  rotate_left
  · iexact HO
  · ipureintro
    intro p hp
    rcases Finset.mem_insert.mp hp with rfl | hp
    · exact .inr rfl
    · exact hW' p hp

/-! ### Where everything is before step `n` -/

/-- The buffer and semaphore step `k` reads through: its read on its way, or free past the last chunk. -/
def inSlot (k : ℕ) : sProp 𝕄 :=
  if h : k < 32 then inFlight d i X ib a8 ⟨k, h⟩ else inFree d i ib a8 ⟨k % 2, Nat.mod_lt _ (by decide)⟩

/-- The buffer and semaphore step `k` writes through: the write of two steps before on its way, or free. -/
def outSlot (k : ℕ) : sProp 𝕄 :=
  if h : 2 ≤ k ∧ k - 2 < 32 then outFlight d i X ob a9 ⟨k - 2, h.2⟩ else outFree d i ob a9 ⟨k % 2, Nat.mod_lt _ (by decide)⟩

/-- The operand's chunks, but for `a ≤ g < b`, whose reads are on their way. -/
def inRest (a b : ℕ) (g : Fin 32) : sProp 𝕄 := if a ≤ g.val ∧ g.val < b then iprop(emp) else inPts d i X g

/-- The result's chunks: written below `a`, their writes on their way below `b`, and as at first from there. -/
def outRest (a b : ℕ) (g : Fin 32) : sProp 𝕄 :=
  if g.val < a then outPts d i (everyThird X) g else if g.val < b then iprop(emp) else outPts d i Z g

/-- Chunk `b`'s read starts; -/
theorem inRest_take (a : ℕ) (g : Fin 32) (h : a ≤ g.val) :
    bigSep Finset.univ (inRest d i X a g.val) ⊢ iprop(inPts d i X g ∗ bigSep Finset.univ (inRest d i X a (g.val + 1))) := by
  refine (bigSep_univ_update (Ψ := inRest d i X a (g.val + 1)) g fun j hj => ?_).trans ?_
  · have : j.val ≠ g.val := fun e => hj (Fin.ext e)
    unfold inRest
    exact if_congr (by omega) rfl rfl
  · rw [show inRest d i X a g.val g = inPts d i X g from if_neg (by omega), show inRest d i X a (g.val + 1) g = iprop(emp) from if_pos (by omega)]
    iintro ⟨H, Hk⟩
    isplitl [H]; · iexact H
    iapply Hk
    iempintro

/-- chunk `a`'s read is over. -/
theorem inRest_put (b : ℕ) (g : Fin 32) (h : g.val < b) :
    iprop(inPts d i X g ∗ bigSep Finset.univ (inRest d i X g.val b)) ⊢ bigSep Finset.univ (inRest d i X (g.val + 1) b) := by
  refine (sep_mono_right (bigSep_univ_update (Ψ := inRest d i X (g.val + 1) b) g fun j hj => ?_)).trans ?_
  · have : j.val ≠ g.val := fun e => hj (Fin.ext e)
    unfold inRest
    exact if_congr (by omega) rfl rfl
  · rw [show inRest d i X (g.val + 1) b g = inPts d i X g from if_neg (by omega), show inRest d i X g.val b g = iprop(emp) from if_pos (by omega)]
    iintro ⟨H, -, Hk⟩
    iapply Hk
    iexact H

/-- Chunk `b`'s write starts; -/
theorem outRest_take (a : ℕ) (g : Fin 32) (h : a ≤ g.val) :
    bigSep Finset.univ (outRest d i X Z a g.val) ⊢ iprop(outPts d i Z g ∗ bigSep Finset.univ (outRest d i X Z a (g.val + 1))) := by
  refine (bigSep_univ_update (Ψ := outRest d i X Z a (g.val + 1)) g fun j hj => ?_).trans ?_
  · have : j.val ≠ g.val := fun e => hj (Fin.ext e)
    unfold outRest
    exact if_congr Iff.rfl rfl (if_congr (by omega) rfl rfl)
  · rw [show outRest d i X Z a g.val g = outPts d i Z g from (if_neg (by omega)).trans (if_neg (by omega)),
      show outRest d i X Z a (g.val + 1) g = iprop(emp) from (if_neg (by omega)).trans (if_pos (by omega))]
    iintro ⟨H, Hk⟩
    isplitl [H]; · iexact H
    iapply Hk
    iempintro

/-- chunk `a`'s write is over. -/
theorem outRest_put (b : ℕ) (g : Fin 32) (h : g.val < b) :
    iprop(outPts d i (everyThird X) g ∗ bigSep Finset.univ (outRest d i X Z g.val b)) ⊢ bigSep Finset.univ (outRest d i X Z (g.val + 1) b) := by
  refine (sep_mono_right (bigSep_univ_update (Ψ := outRest d i X Z (g.val + 1) b) g fun j hj => ?_)).trans ?_
  · have : j.val ≠ g.val := fun e => hj (Fin.ext e)
    unfold outRest
    exact if_congr (by omega) rfl rfl
  · rw [show outRest d i X Z (g.val + 1) b g = outPts d i (everyThird X) g from if_pos (by omega),
      show outRest d i X Z g.val b g = iprop(emp) from (if_neg (by omega)).trans (if_pos (by omega))]
    iintro ⟨H, -, Hk⟩
    iapply Hk
    iexact H

/-- Before step `n`. -/
def tileInv (n : ℕ) : sProp 𝕄 :=
  iprop(duty d i O W
    ∗ inSlot d i X ib a8 n ∗ inSlot d i X ib a8 (n + 1) ∗ outSlot d i X ob a9 n ∗ outSlot d i X ob a9 (n + 1)
    ∗ bigSep Finset.univ (inRest d i X n (n + 2)) ∗ bigSep Finset.univ (outRest d i X Z (n - 2) n))

/-! ### A step -/

/-- The output buffer of step `g` comes free. -/
theorem wp_freeOut (g : Fin 32) :
    iprop(outSlot d i X ob a9 g.val ∗ duty d i O W ∗ bigSep Finset.univ (outRest d i X Z (g.val - 2) g.val))
      ⊢ tileWp d i (if h : 2 ≤ g.val then waitOut i oW ob hob a9 ⟨g.val - 2, by omega⟩ else pure ⟨⟩)
        fun _ => iprop(outFree d i ob a9 (par g) ∗ duty d i O W ∗ bigSep Finset.univ (outRest d i X Z (g.val + 1 - 2) g.val)) := by
  have hk : g.val - 2 < 32 := by omega
  by_cases h : 2 ≤ g.val
  · have hg := g.isLt
    have hp : par ⟨g.val - 2, hk⟩ = par g := Fin.ext (show (g.val - 2) % 2 = g.val % 2 by omega)
    have he : g.val + 1 - 2 = g.val - 2 + 1 := by omega
    rw [dif_pos h, he, show outSlot d i X ob a9 g.val = outFlight d i X ob a9 ⟨g.val - 2, hk⟩ from dif_pos ⟨h, by omega⟩]
    iintro ⟨Hf, HO, Hr⟩
    iapply (wp_use d i (wp_waitOut d i X ob hob a9 O W ⟨g.val - 2, hk⟩)) $$ [Hf HO]
    · isplitl [Hf]; · iexact Hf
      iexact HO
    iintro %_ ⟨Hx, Hb, HO⟩
    isplitl [Hb]
    · rw [hp]; iexact Hb
    isplitl [HO]; · iexact HO
    iapply (outRest_put d i X Z g.val ⟨g.val - 2, hk⟩ (by show g.val - 2 < g.val; omega))
    isplitl [Hx]; · iexact Hx
    iexact Hr
  · unfold tileWp
    rw [dif_neg h, Prog.pure_eq_ret, wp_ret, show g.val + 1 - 2 = g.val - 2 by omega,
      show outSlot d i X ob a9 g.val = outFree d i ob a9 (par g) from dif_neg fun h' => h h'.1]
    iintro H
    imodintro
    iexact H

/-- The read of two steps on starts. -/
theorem wp_nextIn (g : Fin 32) :
    iprop(inFree d i ib a8 (par g) ∗ bigSep Finset.univ (inRest d i X (g.val + 1) (g.val + 2)))
      ⊢ tileWp d i (if h : g.val + 2 < 32 then startIn i xW ib hib a8 ⟨g.val + 2, h⟩ else pure ⟨⟩)
        fun _ => iprop(inSlot d i X ib a8 (g.val + 2) ∗ bigSep Finset.univ (inRest d i X (g.val + 1) (g.val + 3))) := by
  by_cases h : g.val + 2 < 32
  · have hp : par g = par ⟨g.val + 2, h⟩ := Fin.ext (show g.val % 2 = (g.val + 2) % 2 by omega)
    rw [dif_pos h, show inSlot d i X ib a8 (g.val + 2) = inFlight d i X ib a8 ⟨g.val + 2, h⟩ from dif_pos h, hp]
    iintro ⟨Hb, Hr⟩
    ihave Hr' := (inRest_take d i X (g.val + 1) ⟨g.val + 2, h⟩ (by show g.val + 1 ≤ g.val + 2; omega)) $$ Hr
    icases Hr' with ⟨Hx, Hr⟩
    iapply (wp_use d i (wp_startIn d i X ib hib a8 ⟨g.val + 2, h⟩)) $$ [Hx Hb]
    · isplitl [Hx]; · iexact Hx
      iexact Hb
    iintro %_ Hf
    isplitl [Hf]; · iexact Hf
    iexact Hr
  · have hp : par g = ⟨(g.val + 2) % 2, Nat.mod_lt _ (by decide)⟩ := Fin.ext (show g.val % 2 = (g.val + 2) % 2 by omega)
    have hr : inRest d i X (g.val + 1) (g.val + 2) = inRest d i X (g.val + 1) (g.val + 3) := by
      funext j
      unfold inRest
      exact if_congr (by omega) rfl rfl
    unfold tileWp
    rw [dif_neg h, Prog.pure_eq_ret, wp_ret, show inSlot d i X ib a8 (g.val + 2) = inFree d i ib a8 _ from dif_neg h, hp, hr]
    iintro H
    imodintro
    iexact H

/-- The compaction of chunk `g`. -/
theorem wp_pack (g : Fin 32) :
    iprop(landed d i X ib g ∗ ∃ f, outHeld d i (ob (par g)) f)
      ⊢ tileWp d i (compactLoop i (ib (par g)) (ob (par g))) fun _ => iprop((∃ f, inHeld d i (ib (par g)) f) ∗ packed d i X ob g) := by
  unfold landed packed
  iintro ⟨⟨%s, %hs, Hs⟩, %f, Hf⟩
  iapply (wp_use d i (wp_compactLoop d i (ib (par g)) (ob (par g)) s f)) $$ [Hs Hf]
  · isplitl [Hs]; · iexact Hs
    iexact Hf
  iintro %_ ⟨Hs, %f', %hf', Hf⟩
  isplitl [Hs]; · iexists s; iexact Hs
  iexists f'
  isplitr
  · ipureintro
    rw [← hs]
    exact hf'
  · iexact Hf

/-- One step keeps the invariant. -/
theorem wp_step (g : Fin 32) :
    tileInv d i X Z ib ob a8 a9 O W g.val
      ⊢ tileWp d i (step i xW oW ib hib ob hob a8 a9 g) fun _ => tileInv d i X Z ib ob a8 a9 O W (g.val + 1) := by
  unfold step tileInv
  rw [show inSlot d i X ib a8 g.val = inFlight d i X ib a8 g from dif_pos g.isLt]
  iintro ⟨HO, Hi, Hi', Ho, Ho', Hx, Hy⟩
  iapply (wp_then d i (wp_waitIn d i X ib hib a8 O W g)) $$ [Hi HO]
  · isplitl [Hi]; · iexact Hi
    iexact HO
  iintro %_ ⟨Hb, Hxg, Hs, HO⟩
  iapply (wp_then d i (wp_freeOut d i X Z ob hob a9 O W g)) $$ [Ho HO Hy]
  · isplitl [Ho]; · iexact Ho
    isplitl [HO]; · iexact HO
    iexact Hy
  unfold outFree
  iintro %_ ⟨⟨Hc, Ht⟩, HO, Hy⟩
  iapply (wp_then d i (wp_pack d i X ib ob g)) $$ [Hb Hc]
  · isplitl [Hb]; · iexact Hb
    iexact Hc
  iintro %_ ⟨Hb, Hc⟩
  ihave Hy' := (outRest_take d i X Z (g.val + 1 - 2) g (by omega)) $$ Hy
  icases Hy' with ⟨Hyg, Hy⟩
  iapply (wp_then d i (wp_startOut d i X Z ob hob a9 g)) $$ [Hyg Hc Ht]
  · isplitl [Hyg]; · iexact Hyg
    isplitl [Hc]; · iexact Hc
    iexact Ht
  iintro %_ Ho
  ihave Hx := (inRest_put d i X (g.val + 2) g (by omega)) $$ [Hxg Hx]
  · isplitl [Hxg]; · iexact Hxg
    iexact Hx
  iapply (wp_use d i (wp_nextIn d i X ib hib a8 g)) $$ [Hb Hs Hx]
  · unfold inFree
    isplitl [Hb Hs]
    · isplitl [Hb]; · iexact Hb
      iexact Hs
    iexact Hx
  iintro %_ ⟨Hi, Hx⟩
  isplitl [HO]; · iexact HO
  isplitl [Hi']; · iexact Hi'
  isplitl [Hi]; · iexact Hi
  isplitl [Ho']; · iexact Ho'
  isplitl [Ho]
  · rw [show outSlot d i X ob a9 (g.val + 1 + 1) = outFlight d i X ob a9 g from
      dif_pos (show 2 ≤ g.val + 1 + 1 ∧ g.val + 1 + 1 - 2 < 32 from ⟨by omega, by omega⟩)]
    iexact Ho
  isplitl [Hx]; · iexact Hx
  iexact Hy

/-- The invariant before the first step, from what the two first reads leave; -/
theorem tileInv_first :
    tileInv d i X Z ib ob a8 a9 O W 0
      = iprop(duty d i O W ∗ inFlight d i X ib a8 0 ∗ inFlight d i X ib a8 1 ∗ outFree d i ob a9 0 ∗ outFree d i ob a9 1
          ∗ bigSep Finset.univ (inRest d i X 0 2) ∗ bigSep Finset.univ (outRest d i X Z (0 - 2) 0)) := by
  unfold tileInv
  rw [show inSlot d i X ib a8 0 = inFlight d i X ib a8 0 from dif_pos (by decide),
    show inSlot d i X ib a8 (0 + 1) = inFlight d i X ib a8 1 from dif_pos (by decide),
    show outSlot d i X ob a9 0 = outFree d i ob a9 0 from dif_neg (by decide),
    show outSlot d i X ob a9 (0 + 1) = outFree d i ob a9 1 from dif_neg (by decide)]

/-- and after the last. -/
theorem tileInv_last :
    tileInv d i X Z ib ob a8 a9 O W 32
      = iprop(duty d i O W ∗ inFree d i ib a8 0 ∗ inFree d i ib a8 1 ∗ outFlight d i X ob a9 30 ∗ outFlight d i X ob a9 31
          ∗ bigSep Finset.univ (inRest d i X 32 34) ∗ bigSep Finset.univ (outRest d i X Z 30 32)) := by
  unfold tileInv
  rw [show inSlot d i X ib a8 32 = inFree d i ib a8 0 from dif_neg (by decide),
    show inSlot d i X ib a8 (32 + 1) = inFree d i ib a8 1 from dif_neg (by decide),
    show outSlot d i X ob a9 32 = outFlight d i X ob a9 30 from dif_pos (by decide),
    show outSlot d i X ob a9 (32 + 1) = outFlight d i X ob a9 31 from dif_pos (by decide)]

/-- What a tile runs from: its chunks, its buffers, its semaphores at zero, and what it owes. -/
def tileRes (f : S16384000.Idx → Elt F .f32) : sProp 𝕄 :=
  iprop(duty d i O W ∗ inFree d i ib a8 0 ∗ inFree d i ib a8 1 ∗ outFree d i ob a9 0 ∗ outFree d i ob a9 1
    ∗ bigSep Finset.univ (inPts d i X) ∗ bigSep Finset.univ (outPts d i f))

/-- The whole run: the result's chunks at every third element of the operand's. -/
theorem wp_tileProg :
    tileRes d i X ib ob a8 a9 O W Z
      ⊢ tileWp d i (tileProg i xW oW ib hib ob hob a8 a9) fun _ => tileRes d i X ib ob a8 a9 O W (everyThird X) := by
  have e0 : inPts d i X = inRest d i X 0 0 := by
    funext g
    exact (if_neg (by omega)).symm
  have e1 : outPts d i Z = outRest d i X Z (0 - 2) 0 := by
    funext g
    exact ((if_neg (by omega)).trans (if_neg (by omega))).symm
  have e2 : inRest d i X 32 34 = inPts d i X := by
    funext g
    exact if_neg (by omega)
  have e3 : outRest d i X Z 32 32 = outPts d i (everyThird X) := by
    funext g
    exact if_pos g.isLt
  unfold tileProg tileRes
  iintro ⟨HO, Hb0, Hb1, Hc0, Hc1, Hx, Hy⟩
  ihave Hx := (Entails.of_eq (congrArg (bigSep Finset.univ) e0)) $$ Hx
  ihave Hy := (Entails.of_eq (congrArg (bigSep Finset.univ) e1)) $$ Hy
  ihave Hx' := (show bigSep Finset.univ (inRest d i X 0 0) ⊢ iprop(inPts d i X 0 ∗ inPts d i X 1 ∗ bigSep Finset.univ (inRest d i X 0 2)) from
    (inRest_take d i X 0 0 (Nat.le_refl _)).trans (sep_mono_right (inRest_take d i X 0 1 (Nat.zero_le _)))) $$ Hx
  icases Hx' with ⟨Hx0, Hx1, Hx⟩
  iapply (wp_then d i (wp_startIn d i X ib hib a8 0)) $$ [Hx0 Hb0]
  · isplitl [Hx0]; · iexact Hx0
    iexact Hb0
  iintro %_ Hi0
  iapply (wp_then d i (wp_startIn d i X ib hib a8 1)) $$ [Hx1 Hb1]
  · isplitl [Hx1]; · iexact Hx1
    iexact Hb1
  iintro %_ Hi1
  iapply (wp_then d i (R := fun _ => tileInv d i X Z ib ob a8 a9 O W 32) (P := tileInv d i X Z ib ob a8 a9 O W 0) ?_) $$ [HO Hi0 Hi1 Hc0 Hc1 Hx Hy]
  · refine BI.Entails.trans ?_ (Scf.wp_forFrom frame (wpE (defs₀ (F := F)) 𝒱₀ (thr d i) none) Set.univ _ (fun n _ => tileInv d i X Z ib ob a8 a9 O W n)
      (fun g _ => wp_step d i X Z ib hib ob hob a8 a9 O W g) 0 (Nat.zero_le _) ⟨⟩)
    show tileInv d i X Z ib ob a8 a9 O W 0 ⊢ iprop(tileInv d i X Z ib ob a8 a9 O W 0 ∗ ∀ _, tileInv d i X Z ib ob a8 a9 O W 32 -∗ tileInv d i X Z ib ob a8 a9 O W 32)
    iintro H
    isplitl [H]; · iexact H
    iintro %_ H
    iexact H
  · rw [tileInv_first]
    isplitl [HO]; · iexact HO
    isplitl [Hi0]; · iexact Hi0
    isplitl [Hi1]; · iexact Hi1
    isplitl [Hc0]; · iexact Hc0
    isplitl [Hc1]; · iexact Hc1
    isplitl [Hx]; · iexact Hx
    iexact Hy
  iintro %_ HI
  ihave HI := (Entails.of_eq (tileInv_last d i X Z ib ob a8 a9 O W)) $$ HI
  icases HI with ⟨HO, Hb0, Hb1, Ho0, Ho1, Hx, Hy⟩
  iapply (wp_then d i (wp_waitOut d i X ob hob a9 O W 30)) $$ [Ho0 HO]
  · isplitl [Ho0]; · iexact Ho0
    iexact HO
  iintro %_ ⟨Hy0, Hc0, HO⟩
  iapply (wp_use d i (wp_waitOut d i X ob hob a9 O W 31)) $$ [Ho1 HO]
  · isplitl [Ho1]; · iexact Ho1
    iexact HO
  iintro %_ ⟨Hy1, Hc1, HO⟩
  ihave Hy := (show iprop(outPts d i (everyThird X) 31 ∗ outPts d i (everyThird X) 30 ∗ bigSep Finset.univ (outRest d i X Z 30 32))
      ⊢ bigSep Finset.univ (outRest d i X Z 32 32) from
    (sep_mono_right (outRest_put d i X Z 32 30 (by decide))).trans (outRest_put d i X Z 32 31 (by decide))) $$ [Hy1 Hy0 Hy]
  · isplitl [Hy1]; · iexact Hy1
    isplitl [Hy0]; · iexact Hy0
    iexact Hy
  ihave Hx := (Entails.of_eq (congrArg (bigSep Finset.univ) e2)) $$ Hx
  ihave Hy := (Entails.of_eq (congrArg (bigSep Finset.univ) e3)) $$ Hy
  isplitl [HO]; · iexact HO
  isplitl [Hb0]; · iexact Hb0
  isplitl [Hb1]; · iexact Hb1
  isplitl [Hc0]; · iexact Hc0
  isplitl [Hc1]; · iexact Hc1
  isplitl [Hx]; · iexact Hx
  iexact Hy

end Tile

end Cert.KernelIdeal
-- ==== Proof.TaskKernelIdeal.lean ====
/- A tile's part of the launch: the printed kernel on a vector subcore, from the chunks its sequencer hands it. -/
module

public import proofs.«01_k».proof.Proof.TileKernelIdeal

@[expose] public section

noncomputable section

namespace Cert.KernelIdeal

open Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱 : Variants := 𝒱₀.lift
abbrev v₀ : 𝒱.V := Sum.inl none

/-- The launch's side conditions. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

local notation "𝕄" => MT nD τ sig (HIx 1) (Elt F) ℕ UU ℕ

/-- The handshakes' rounds library, the left factor. -/
abbrev EH : Emb UH (MT nD τ sig (HIx 1) (Elt F) ℕ UU ℕ) := embL

variable [FloatOps F]

/-! ## What a tile is handed -/

/-- A tile's chunks: the operand's at `X`, the result's at `f`. -/
def chunks (d : Dev nD) (i : grid0.Coords) (X : S49152000.Idx → Elt F .f32) (f : S16384000.Idx → Elt F .f32) : sProp 𝕄 :=
  iprop(bigSep Finset.univ (inPts d i X) ∗ bigSep Finset.univ (outPts d i f))

omit [FloatOps F] in
theorem piece_storable (ℓ : Loc nD τ sig) (I : Finset (Idx ℓ)) (f : Buf (Elt F) ℓ) :
    BI.Storable (upEmb : UEmb _ 𝕄) (ℓ ↦[I]{fullShare} f) := inferInstance

instance inPts_storable (d : Dev nD) (i : grid0.Coords) (X : S49152000.Idx → Elt F .f32) (g : Fin 32) :
    BI.Storable (upEmb : UEmb _ 𝕄) (inPts d i X g) := by
  unfold inPts; exact piece_storable _ _ _

instance outPts_storable (d : Dev nD) (i : grid0.Coords) (f : S16384000.Idx → Elt F .f32) (g : Fin 32) :
    BI.Storable (upEmb : UEmb _ 𝕄) (outPts d i f g) := by
  unfold outPts; exact piece_storable _ _ _

instance chunks_storable (d : Dev nD) (i : grid0.Coords) (X : S49152000.Idx → Elt F .f32) (f : S16384000.Idx → Elt F .f32) :
    BI.Storable (upEmb : UEmb _ 𝕄) (chunks d i X f) := by
  unfold chunks; infer_instance

/-! ## A subcore's own buffers and semaphores -/

section Own

variable (d : Dev nD) (i : grid0.Coords)

abbrev cV : Fin τ.nSC := (i 0).castLE hcore0
abbrev jV : Fin τ.nSub := (i 1).castLE hsub0

/-- The four scratch buffers as the program passes them, two each way; -/
abbrev sIn : Fin 2 → Memref sig .scVector .vmem S48000 .f32 := two (Memref.whole cc0_scratch0) (Memref.whole cc0_scratch1)
abbrev sOut : Fin 2 → Memref sig .scVector .vmem S16000 .f32 := two (Memref.whole cc0_scratch2) (Memref.whole cc0_scratch3)

theorem sIn_whole : ∀ p, (sIn p).IsWhole := two_whole (Memref.isWhole_whole _) (Memref.isWhole_whole _)
theorem sOut_whole : ∀ p, (sOut p).IsWhole := two_whole (Memref.isWhole_whole _) (Memref.isWhole_whole _)

/-- the four semaphores as cells of the tile. -/
abbrev cellIn (p : Fin 2) : GSem nD τ sig := (thr d i, .dma (semAt cc0_scratch4 p))
abbrev cellOut (p : Fin 2) : GSem nD τ sig := (thr d i, .dma (semAt cc0_scratch5 p))

theorem cellIn_mem (p : Fin 2) : cellIn d i p ∈ ownCells (thr d i) :=
  mem_ownCells.mpr ⟨rfl, by show (SemLoc.dma (semAt cc0_scratch4 p) : SemLoc sig).isScoped .scVector = true; revert p; decide⟩
theorem cellOut_mem (p : Fin 2) : cellOut d i p ∈ ownCells (thr d i) :=
  mem_ownCells.mpr ⟨rfl, by show (SemLoc.dma (semAt cc0_scratch5 p) : SemLoc sig).isScoped .scVector = true; revert p; decide⟩

theorem cell_ne {a b : SemLoc sig} (h : a ≠ b) : ((thr d i, a) : GSem nD τ sig) ≠ (thr d i, b) := fun e => h (Prod.mk.inj e).2

/-- The semaphores are the four and the rest. -/
theorem ownSems0_V :
    (ownSems0 (thr d i) : sProp 𝕄)
      = iprop(semVal (cellIn d i 0) 0 ∗ semVal (cellIn d i 1) 0 ∗ semVal (cellOut d i 0) 0 ∗ semVal (cellOut d i 1) 0
          ∗ bigSep (((((ownCells (thr d i)).erase (cellIn d i 0)).erase (cellIn d i 1)).erase (cellOut d i 0)).erase (cellOut d i 1))
              fun g => semVal g 0) := by
  unfold SparseCore.Cfg.ownSems0
  have n1 : cellIn d i 1 ≠ cellIn d i 0 := cell_ne d i (by decide)
  have n2 : cellOut d i 0 ≠ cellIn d i 0 := cell_ne d i (by decide)
  have n3 : cellOut d i 0 ≠ cellIn d i 1 := cell_ne d i (by decide)
  have n4 : cellOut d i 1 ≠ cellIn d i 0 := cell_ne d i (by decide)
  have n5 : cellOut d i 1 ≠ cellIn d i 1 := cell_ne d i (by decide)
  have n6 : cellOut d i 1 ≠ cellOut d i 0 := cell_ne d i (by decide)
  rw [SparseCore.bigSep_erase' (cellIn_mem d i 0),
    SparseCore.bigSep_erase' (Finset.mem_erase.mpr ⟨n1, cellIn_mem d i 1⟩),
    SparseCore.bigSep_erase' (Finset.mem_erase.mpr ⟨n3, Finset.mem_erase.mpr ⟨n2, cellOut_mem d i 0⟩⟩),
    SparseCore.bigSep_erase' (Finset.mem_erase.mpr ⟨n6, Finset.mem_erase.mpr ⟨n5, Finset.mem_erase.mpr ⟨n4, cellOut_mem d i 1⟩⟩⟩)]

abbrev refV (r : Ref sig .scVector) : DevRef τ sig := (Proc.scVector (cV i) (jV i)).devRef r

theorem refV_ne {a b : Ref sig .scVector} (h : a ≠ b) : refV i a ≠ refV i b := fun e => h (Proc.devRef_injective _ e)

/-- A scratch buffer of the tile, at some contents. -/
abbrev someBuf (r : Ref sig .scVector) : sProp 𝕄 := iprop(∃ f, (thr d i).loc r ↦{fullShare} f)

/-- The buffers are the four, at some contents, and the rest. -/
theorem ownBufs_V :
    (ownBufs (thr d i) : sProp 𝕄)
      = iprop(someBuf d i cc0_scratch0 ∗ someBuf d i cc0_scratch1 ∗ someBuf d i cc0_scratch2 ∗ someBuf d i cc0_scratch3
          ∗ bigSep (((((ownRefs (τ := τ) (.scVector (cV i) (jV i))).erase (refV i cc0_scratch0)).erase (refV i cc0_scratch1)).erase
              (refV i cc0_scratch2)).erase (refV i cc0_scratch3))
              fun b => iprop(∃ f, ((d, b) : Loc nD τ sig) ↦{fullShare} f)) := by
  unfold SparseCore.Cfg.ownBufs
  have n1 : refV i cc0_scratch1 ≠ refV i cc0_scratch0 := refV_ne i (by decide)
  have n2 : refV i cc0_scratch2 ≠ refV i cc0_scratch0 := refV_ne i (by decide)
  have n3 : refV i cc0_scratch2 ≠ refV i cc0_scratch1 := refV_ne i (by decide)
  have n4 : refV i cc0_scratch3 ≠ refV i cc0_scratch0 := refV_ne i (by decide)
  have n5 : refV i cc0_scratch3 ≠ refV i cc0_scratch1 := refV_ne i (by decide)
  have n6 : refV i cc0_scratch3 ≠ refV i cc0_scratch2 := refV_ne i (by decide)
  have m0 := SparseCore.Cfg.mem_ownRefs_of_owner (p := Proc.scVector (cV i) (jV i)) (b := refV i cc0_scratch0) rfl
  have m1 := SparseCore.Cfg.mem_ownRefs_of_owner (p := Proc.scVector (cV i) (jV i)) (b := refV i cc0_scratch1) rfl
  have m2 := SparseCore.Cfg.mem_ownRefs_of_owner (p := Proc.scVector (cV i) (jV i)) (b := refV i cc0_scratch2) rfl
  have m3 := SparseCore.Cfg.mem_ownRefs_of_owner (p := Proc.scVector (cV i) (jV i)) (b := refV i cc0_scratch3) rfl
  refine (SparseCore.bigSep_erase' m0).trans ?_
  rw [SparseCore.bigSep_erase' (Finset.mem_erase.mpr ⟨n1, m1⟩),
    SparseCore.bigSep_erase' (Finset.mem_erase.mpr ⟨n3, Finset.mem_erase.mpr ⟨n2, m2⟩⟩),
    SparseCore.bigSep_erase' (Finset.mem_erase.mpr ⟨n6, Finset.mem_erase.mpr ⟨n5, Finset.mem_erase.mpr ⟨n4, m3⟩⟩⟩)]

/-- A scratch buffer through its whole memref. -/
theorem someIn_eq (p : Fin 2) : (iprop(∃ f, inHeld d i (sIn p) f) : sProp 𝕄) = someBuf d i (match p with | 0 => cc0_scratch0 | 1 => cc0_scratch1) := by
  match p with
  | 0 => show iprop(∃ f, (thr d i).loc cc0_scratch0 ↦[(View.whole cc0_scratch0).set]{fullShare} f) = _; rw [View.set_whole]
  | 1 => show iprop(∃ f, (thr d i).loc cc0_scratch1 ↦[(View.whole cc0_scratch1).set]{fullShare} f) = _; rw [View.set_whole]

theorem someOut_eq (p : Fin 2) : (iprop(∃ f, outHeld d i (sOut p) f) : sProp 𝕄) = someBuf d i (match p with | 0 => cc0_scratch2 | 1 => cc0_scratch3) := by
  match p with
  | 0 => show iprop(∃ f, (thr d i).loc cc0_scratch2 ↦[(View.whole cc0_scratch2).set]{fullShare} f) = _; rw [View.set_whole]
  | 1 => show iprop(∃ f, (thr d i).loc cc0_scratch3 ↦[(View.whole cc0_scratch3).set]{fullShare} f) = _; rw [View.set_whole]

/-- What a tile runs from is its chunks, its scratch and its duty. -/
theorem tileRes_eq (X : S49152000.Idx → Elt F .f32) (f : S16384000.Idx → Elt F .f32) (O : CellTallies nD τ sig (HIx 1)) (W : Waits sig (HIx 1)) :
    tileRes d i X sIn sOut cc0_scratch4 cc0_scratch5 O W f
      = iprop(duty d i O W ∗ (someBuf d i cc0_scratch0 ∗ semVal (cellIn d i 0) 0) ∗ (someBuf d i cc0_scratch1 ∗ semVal (cellIn d i 1) 0)
          ∗ (someBuf d i cc0_scratch2 ∗ semVal (cellOut d i 0) 0) ∗ (someBuf d i cc0_scratch3 ∗ semVal (cellOut d i 1) 0) ∗ chunks d i X f) := by
  unfold tileRes inFree outFree chunks
  rw [someIn_eq d i 0, someIn_eq d i 1, someOut_eq d i 0, someOut_eq d i 1]

end Own

/-! ## The kernel on a tile -/

/-- A tile's task in the launch: from its chunks to the result's written. -/
theorem task_run (d : Dev nD) (i : grid0.Coords) (X : S49152000.Idx → Elt F .f32) (f : S16384000.Idx → Elt F .f32)
    (O : CellTallies nD τ sig (HIx 1)) (W : Waits sig (HIx 1)) (hO : ∀ g, O g none = 0) :
    iprop(levAts (K (F := F)).L (K (F := F)).lev ∗ emp ∗ chunks d i X f
        ∗ scopedBufs (thr d i) ∗ scopedSems0 (thr d i) ∗ owes (thr d i) O W)
      ⊢ wp frame (wpE (defs₀ (F := F)) 𝒱₀ (thr d i) none) Set.univ
          (cc0_resample_nearest_sc i xW (Memref.isWhole_whole _) oW (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _) cc0_scratch4 cc0_scratch5)
          fun _ => iprop(chunks d i X (everyThird X) ∗ scopedBufs (thr d i) ∗ scopedSems0 (thr d i)
            ∗ ∃ W', ⌜∀ p ∈ W', p ∈ W ∨ p.2 = none⌝ ∗ owes (thr d i) O W') := by
  rw [kern_eq, (K (F := F)).scopedBufs_V facts d (cV i) (jV i), SparseCore.Cfg.scopedSems0_V (Val := Elt F) d (cV i) (jV i), ownSems0_V, ownBufs_V]
  iintro ⟨#Hlv, -, Hc, ⟨Hb0, Hb1, Hb2, Hb3, Hbs⟩, ⟨Hs0, Hs1, Hs2, Hs3, Hss⟩, HO⟩
  ihave Hmw := ((K (F := F)).mayWaits_none (thr := thr d i) hO) $$ Hlv
  iapply (wp_use d i (wp_tileProg d i X f sIn sIn_whole sOut sOut_whole cc0_scratch4 cc0_scratch5 O W)) $$ [Hmw Hc Hb0 Hb1 Hb2 Hb3 Hs0 Hs1 Hs2 Hs3 HO]
  · rw [tileRes_eq]
    unfold duty
    isplitl [Hmw HO]
    · isplitl [Hmw]; · iexact Hmw
      iexists W
      isplitr
      · ipureintro; exact fun p hp => .inl hp
      · iexact HO
    isplitl [Hb0 Hs0]
    · isplitl [Hb0] <;> iassumption
    isplitl [Hb1 Hs1]
    · isplitl [Hb1] <;> iassumption
    isplitl [Hb2 Hs2]
    · isplitl [Hb2] <;> iassumption
    isplitl [Hb3 Hs3]
    · isplitl [Hb3] <;> iassumption
    iexact Hc
  iintro %_ H
  ihave H := (Entails.of_eq (tileRes_eq d i X (everyThird X) O W)) $$ H
  unfold duty
  icases H with ⟨⟨-, HO⟩, ⟨Hb0, Hs0⟩, ⟨Hb1, Hs1⟩, ⟨Hb2, Hs2⟩, ⟨Hb3, Hs3⟩, Hc⟩
  isplitl [Hc]; · iexact Hc
  isplitl [Hb0 Hb1 Hb2 Hb3 Hbs]
  · isplitl [Hb0]; · iexact Hb0
    isplitl [Hb1]; · iexact Hb1
    isplitl [Hb2]; · iexact Hb2
    isplitl [Hb3]; · iexact Hb3
    iexact Hbs
  isplitl [Hs0 Hs1 Hs2 Hs3 Hss]
  · isplitl [Hs0]; · iexact Hs0
    isplitl [Hs1]; · iexact Hs1
    isplitl [Hs2]; · iexact Hs2
    isplitl [Hs3]; · iexact Hs3
    iexact Hss
  iexact HO

end Cert.KernelIdeal
-- ==== Proof.LaunchKernelIdeal.lean ====
/- The launch: the two flat arrays handed to the tiles chunk by chunk and joined again, and the program's run. -/
module

public import proofs.«01_k».proof.Proof.TaskKernelIdeal

@[expose] public section

noncomputable section

namespace Cert.KernelIdeal

open Cert.KernelIdeal.Gen

open Idealize.ShloMosaic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)

variable {F : FTy → Type}

local notation "𝕄" => MT nD τ sig (HIx 1) (Elt F) ℕ UU ℕ

variable [FloatOps F]

/-! ## The chunks partition the flat arrays -/

def coordsV (c : Fin (grid0.bound 0)) (s : Fin (grid0.bound 1)) : grid0.Coords :=
  fun | 0 => c | 1 => s | ⟨_ + 2, h⟩ => absurd h (Nat.not_lt.2 (Nat.le_add_left _ _))

/-- A chunk: its SparseCore, its subcore and its step. -/
abbrev Chunk : Type := Fin 2 × Fin 16 × Fin 32

/-- The tile of a chunk; -/
def tileOf (t : Chunk) : grid0.Coords := coordsV t.1 t.2.1

/-- its place among all the chunks. -/
def place (t : Chunk) : ℕ := wid (tileOf t) * 32 + t.2.2.val

/-- The place, spelt out. -/
theorem place_eq (t : Chunk) : place t = (t.2.1.val * 2 + t.1.val) * 32 + t.2.2.val := rfl

/-- Different chunks have different places, -/
theorem place_inj {t t' : Chunk} (h : place t = place t') : t = t' := by
  obtain ⟨c, s, g⟩ := t
  obtain ⟨c', s', g'⟩ := t'
  have e : (s.val * 2 + c.val) * 32 + g.val = (s'.val * 2 + c'.val) * 32 + g'.val := h
  have hc := c.isLt
  have hc' := c'.isLt
  have hg := g.isLt
  have hg' := g'.isLt
  obtain rfl : g = g' := Fin.ext (by omega)
  obtain rfl : c = c' := Fin.ext (by omega)
  obtain rfl : s = s' := Fin.ext (by omega)
  rfl

/-- and every place is a chunk's. -/
theorem place_surj {n : ℕ} (h : n < 1024) : ∃ t, place t = n :=
  ⟨(⟨n / 32 % 2, by omega⟩, ⟨n / 64, by omega⟩, ⟨n % 32, by omega⟩), by
    show (n / 64 * 2 + n / 32 % 2) * 32 + n % 32 = n
    omega⟩

/-- Every place among `1024` blocks of `a` lies in some chunk's block. -/
theorem exists_place {j a : ℕ} (ha : 0 < a) (h : j < a * 1024) : ∃ t, place t * a ≤ j ∧ j < place t * a + a := by
  obtain ⟨t, ht⟩ := place_surj (Nat.div_lt_of_lt_mul h)
  refine ⟨t, ?_⟩
  rw [ht]
  exact ⟨Nat.div_mul_le_self j a, Nat.lt_div_mul_add ha⟩

def inSet (t : Chunk) : Finset S49152000.Idx := (inChunk (tileOf t) xW t.2.2).view.set
def outSet (t : Chunk) : Finset S16384000.Idx := (outChunk (tileOf t) oW t.2.2).view.set

/-- A chunk of the operand is 48000 consecutive places; -/
theorem mem_inSet (t : Chunk) (k : S49152000.Idx) : k ∈ inSet t ↔ place t * 48000 ≤ (k 0).val ∧ (k 0).val < place t * 48000 + 48000 := by
  have e : inSet t = (Rect.unit (s := S49152000) (k0_off1 (tileOf t) (BitVec.ofNat 32 (48000 * t.2.2.val))) S48000.size (k0_off1_inb (tileOf t) t.2.2)).set :=
    View.set_slice_whole _ _
  rw [e, Rect.mem_set_unit]
  constructor
  · intro h
    have h0 := h 0
    rw [off_in] at h0
    exact h0
  · intro h a
    obtain rfl : a = 0 := Subsingleton.elim _ _
    rw [off_in]
    exact h

/-- a chunk of the result is 16000. -/
theorem mem_outSet (t : Chunk) (k : S16384000.Idx) : k ∈ outSet t ↔ place t * 16000 ≤ (k 0).val ∧ (k 0).val < place t * 16000 + 16000 := by
  have e : outSet t = (Rect.unit (s := S16384000) (k0_off10 (tileOf t) (BitVec.ofNat 32 (16000 * t.2.2.val))) S16000.size (k0_off10_inb (tileOf t) t.2.2)).set :=
    View.set_slice_whole _ _
  rw [e, Rect.mem_set_unit]
  constructor
  · intro h
    have h0 := h 0
    rw [off_out] at h0
    exact h0
  · intro h a
    obtain rfl : a = 0 := Subsingleton.elim _ _
    rw [off_out]
    exact h

/-- The operand's chunks are disjoint, -/
theorem inSet_disjoint : ∀ t ∈ (Finset.univ : Finset Chunk), ∀ t' ∈ (Finset.univ : Finset Chunk), t ≠ t' → Disjoint (inSet t) (inSet t') := by
  intro t _ t' _ hne
  refine Finset.disjoint_left.mpr fun k hk hk' => hne (place_inj ?_)
  rw [mem_inSet] at hk hk'
  omega

/-- and the result's are. -/
theorem outSet_disjoint : ∀ t ∈ (Finset.univ : Finset Chunk), ∀ t' ∈ (Finset.univ : Finset Chunk), t ≠ t' → Disjoint (outSet t) (outSet t') := by
  intro t _ t' _ hne
  refine Finset.disjoint_left.mpr fun k hk hk' => hne (place_inj ?_)
  rw [mem_outSet] at hk hk'
  omega

/-- Every place of the operand lies in a chunk, -/
theorem exists_inSet (k : S49152000.Idx) : ∃ t, k ∈ inSet t := by
  have hk : (k 0).val < 48000 * 1024 := (k 0).isLt
  exact (exists_place (Nat.succ_pos _) hk).imp fun t ht => (mem_inSet t k).mpr ht

/-- so the chunks are the whole operand; -/
theorem inSet_cover : (Finset.univ : Finset Chunk).biUnion inSet = Finset.univ := by
  ext k
  have h := exists_inSet k
  simp only [Finset.mem_biUnion, Finset.mem_univ, true_and, iff_true]
  exact h

/-- every place of the result lies in a chunk, -/
theorem exists_outSet (k : S16384000.Idx) : ∃ t, k ∈ outSet t := by
  have hk : (k 0).val < 16000 * 1024 := (k 0).isLt
  exact (exists_place (Nat.succ_pos _) hk).imp fun t ht => (mem_outSet t k).mpr ht

/-- so the chunks are the whole result. -/
theorem outSet_cover : (Finset.univ : Finset Chunk).biUnion outSet = Finset.univ := by
  ext k
  have h := exists_outSet k
  simp only [Finset.mem_biUnion, Finset.mem_univ, true_and, iff_true]
  exact h

/-! ## The arrays -/

abbrev aLoc (d : Dev nD) : Loc nD τ sig := (SparseCore.T d).loc main_arg0
abbrev xLoc (d : Dev nD) : Loc nD τ sig := (SparseCore.T d).loc main_v0
abbrev oLoc (d : Dev nD) : Loc nD τ sig := (SparseCore.T d).loc main_v1
abbrev rLoc (d : Dev nD) : Loc nD τ sig := (SparseCore.T d).loc main_v2

abbrev aPts (d : Dev nD) (f : Buf (Elt F) (aLoc d)) : sProp 𝕄 := aLoc d ↦{fullShare} f
abbrev xPts (d : Dev nD) (f : Buf (Elt F) (xLoc d)) : sProp 𝕄 := xLoc d ↦{fullShare} f
abbrev oPts (d : Dev nD) (f : Buf (Elt F) (oLoc d)) : sProp 𝕄 := oLoc d ↦{fullShare} f
abbrev rPts (d : Dev nD) (f : Buf (Elt F) (rLoc d)) : sProp 𝕄 := rLoc d ↦{fullShare} f

/-- The flat operand whole is its chunks, -/
theorem xPts_chunks (d : Dev nD) (X : S49152000.Idx → Elt F .f32) :
    xPts d X = bigSep Finset.univ fun c : Fin 2 => bigSep Finset.univ fun s : Fin 16 => bigSep Finset.univ (inPts d (coordsV c s) X) := by
  have e : xPts d X = bigSep Finset.univ fun t : Chunk => iprop(xLoc d ↦[inSet t]{fullShare} X) := by
    rw [← pointsTo_biUnion Finset.univ (ℓ := xLoc d) inSet inSet_disjoint, inSet_cover]
  rw [e, bigSep_univ_prod]
  refine bigSep_congr fun c _ => ?_
  rw [bigSep_univ_prod]
  rfl

/-- and so is the flat result. -/
theorem oPts_chunks (d : Dev nD) (f : S16384000.Idx → Elt F .f32) :
    oPts d f = bigSep Finset.univ fun c : Fin 2 => bigSep Finset.univ fun s : Fin 16 => bigSep Finset.univ (outPts d (coordsV c s) f) := by
  have e : oPts d f = bigSep Finset.univ fun t : Chunk => iprop(oLoc d ↦[outSet t]{fullShare} f) := by
    rw [← pointsTo_biUnion Finset.univ (ℓ := oLoc d) outSet outSet_disjoint, outSet_cover]
  rw [e, bigSep_univ_prod]
  refine bigSep_congr fun c _ => ?_
  rw [bigSep_univ_prod]
  rfl

/-- A SparseCore's share of the two. -/
def coreChunks (d : Dev nD) (c : Fin 2) (X : S49152000.Idx → Elt F .f32) (f : S16384000.Idx → Elt F .f32) : sProp 𝕄 :=
  bigSep Finset.univ fun s : Fin 16 => chunks d (coordsV c s) X f

instance coreChunks_storable (d : Dev nD) (c : Fin 2) (X : S49152000.Idx → Elt F .f32) (f : S16384000.Idx → Elt F .f32) :
    BI.Storable (upEmb : UEmb _ 𝕄) (coreChunks d c X f) := by
  haveI (s : Fin 16) : BI.Storable (upEmb : UEmb _ 𝕄) (chunks d (coordsV c s) X f) := chunks_storable d (coordsV c s) X f
  unfold coreChunks; infer_instance

/-- The two shares together are the two arrays whole. -/
theorem cores_eq (d : Dev nD) (X : S49152000.Idx → Elt F .f32) (f : S16384000.Idx → Elt F .f32) :
    (bigSep Finset.univ fun c : Fin 2 => coreChunks d c X f) = iprop(xPts d X ∗ oPts d f) := by
  rw [xPts_chunks, oPts_chunks, ← bigSep_sep']
  refine bigSep_congr fun c _ => ?_
  unfold coreChunks chunks
  rw [bigSep_sep']

/-! ## The launch's payloads and obligations -/

variable (m : (ℓ : Loc nD τ sig) → Buf (Elt F) ℓ) (ρ : Dev nD → PrngReg)

abbrev a' : DevRef τ sig := Proc.devRef .tc (main_arg0 : Ref sig .tc)
abbrev x' : DevRef τ sig := Proc.devRef .tc (main_v0 : Ref sig .tc)
abbrev o' : DevRef τ sig := Proc.devRef .tc (main_v1 : Ref sig .tc)
abbrev r' : DevRef τ sig := Proc.devRef .tc (main_v2 : Ref sig .tc)

abbrev opIn : HloOp τ sig (Elt F) := StableHlo.reshape main_arg0 main_v0 (rfl : (.f32 : EltTy) = .f32) shapeCasts_S8x128x48000_S49152000
abbrev opOut : HloOp τ sig (Elt F) := StableHlo.reshape main_v1 main_v2 (rfl : (.f32 : EltTy) = .f32) shapeCasts_S16384000_S8x128x16000

/-- The operand, flat; the result, flat; the result. -/
def flatIn (d : Dev nD) : S49152000.Idx → Elt F .f32 :=
  shapeCast S49152000 (m (aLoc d) : S8x128x48000.Idx → Elt F .f32) shapeCasts_S8x128x48000_S49152000
def flatOut (d : Dev nD) : S16384000.Idx → Elt F .f32 := everyThird (flatIn m d)
def result (d : Dev nD) : S8x128x16000.Idx → Elt F .f32 := shapeCast S8x128x16000 (flatOut m d) shapeCasts_S16384000_S8x128x16000

/-- The one call takes each SparseCore's chunks and hands each tile its own; they come back with the result's written. -/
def P : (K (F := F)).Pay (nD := nD) (Val := Elt F) (Name := ℕ) (U := UU) where
  st := fun q d c => match q with | 0 => coreChunks d c (flatIn m d) (m (oLoc d))
  dn := fun q d c => match q with | 0 => coreChunks d c (flatIn m d) (flatOut m d)
  go := fun q d c s => match q with | 0 => chunks d (coordsV c s) (flatIn m d) (m (oLoc d))
  td := fun q d c s => match q with | 0 => chunks d (coordsV c s) (flatIn m d) (flatOut m d)
  x := fun _ _ => iprop(emp)

instance P_storable : (P (F := F) m).IsStorable where
  st q d c := match q with | 0 => coreChunks_storable d c (flatIn m d) (m (oLoc d))
  dn q d c := match q with | 0 => coreChunks_storable d c (flatIn m d) (flatOut m d)
  go q d c s := match q with | 0 => chunks_storable d (coordsV c s) (flatIn m d) (m (oLoc d))
  td q d c s := match q with | 0 => chunks_storable d (coordsV c s) (flatIn m d) (flatOut m d)

/-- A SparseCore's share is its sixteen tiles' chunks, before and after. -/
theorem vecSplit : (K (F := F)).VecSplit' (P m) 0 := by
  intro d c
  show coreChunks d c (flatIn m d) (m (oLoc d)) ⊢ |={Set.univ}=> iprop(coreChunks d c (flatIn m d) (m (oLoc d))
    ∗ (coreChunks d c (flatIn m d) (flatOut m d) -∗ coreChunks d c (flatIn m d) (flatOut m d)))
  iintro H
  imodintro
  isplitl [H]; · iexact H
  iintro H
  iexact H

theorem defs₀_vector (c : Fin τ.nSC) (s : Fin τ.nSub) :
    defs₀ (F := F) (.scVector c s) 0 ()
      = SparseCore.onTile hcore0 hsub0 (fun c s => cc0_resample_nearest_sc (coordsV c s) xW (Memref.isWhole_whole _) oW (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _) cc0_scratch4 cc0_scratch5) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every tile runs its task from its chunks. -/
theorem tileObl : (K (F := F)).TileObl (D (F := F)) 𝒱 (P m) v₀ 0 := by
  intro d c s O W hO _ _
  simp only [show (P m).ox = fun _ _ => 0 from rfl, add_zero]
  change _ ⊢ wp _ _ _ (Pipeline.liftProg (defs₀ (F := F) (.scVector ((K (F := F)).core 0 c) ((K (F := F)).sub 0 s)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 s).val < grid0.bound 1 := ⟨c.isLt, s.isLt⟩
  rw [defs₀_vector]; simp only [SparseCore.onTile, hc, and_self, ↓reduceDIte]
  exact (task_run d (coordsV ⟨_, hc.1⟩ ⟨_, hc.2⟩) (flatIn m d) (m (oLoc d)) O W hO).trans (wp_mono frame _ _ fun _ => obl_post)

/-! ## The launch element: the handshakes' rounds, nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

/-- The ghost state at the launch. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

/-- The TensorCore's arrays, all unscoped. -/
abbrev S4 : Finset (DevRef τ sig) := {a', x', o', r'}

omit [FloatOps F] in
theorem held_S4 (d : Dev nD) (W : Valuation τ sig (Elt F)) :
    (held (SparseCore.T d) S4 W : sProp 𝕄) = iprop(aPts d (W a') ∗ xPts d (W x') ∗ oPts d (W o') ∗ rPts d (W r')) := by
  unfold held S4
  rw [SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop(aPts d (W main_arg0) ∗ xPts d (W main_v0) ∗ oPts d (W main_v1) ∗ rPts d (W main_v2)) := by
  unfold unscopedBufs
  rw [show (Finset.univ.filter fun b : Ref sig .tc => ¬ b.isScoped) = {main_arg0, main_v0, main_v1, main_v2} by decide,
    SparseCore.bigSep_insert' (by decide), SparseCore.bigSep_insert' (by decide), SparseCore.bigSep_insert' (by decide), bigSep_singleton]

/-- The launch valuation; after the first reshape; after the call; after the second reshape. -/
def V0 (d : Dev nD) : Valuation τ sig (Elt F) := fun b => m (d, b)
def V1 (d : Dev nD) : Valuation τ sig (Elt F) := (opIn (F := F)).result (V0 m d)
def V2 (d : Dev nD) : Valuation τ sig (Elt F) := Function.update (V1 m d) o' (flatOut m d)
def V3 (d : Dev nD) : Valuation τ sig (Elt F) := (opOut (F := F)).result (V2 m d)

theorem unscoped_held (d : Dev nD) : (unscopedBufs d (fun b => m ((SparseCore.T d).loc b)) : sProp 𝕄) = held (SparseCore.T d) S4 (V0 m d) := by
  rw [unscopedBufs_eq, held_S4]; rfl

theorem V1_a (d : Dev nD) : V1 m d a' = m (aLoc d) :=
  (opIn (F := F)).result_of_not_mem (V0 m d) (b := a') (show a' ∉ ({x'} : Finset (DevRef τ sig)) by decide)
theorem V1_o (d : Dev nD) : V1 m d o' = m (oLoc d) :=
  (opIn (F := F)).result_of_not_mem (V0 m d) (b := o') (show o' ∉ ({x'} : Finset (DevRef τ sig)) by decide)
theorem V1_x (d : Dev nD) : V1 m d x' = flatIn m d := StableHlo.reshape_result _ _ _ _ _ _ _
theorem V2_a (d : Dev nD) : V2 m d a' = m (aLoc d) := (Function.update_of_ne (show a' ≠ o' by decide) _ _).trans (V1_a m d)
theorem V2_x (d : Dev nD) : V2 m d x' = flatIn m d := (Function.update_of_ne (show x' ≠ o' by decide) _ _).trans (V1_x m d)
theorem V2_o (d : Dev nD) : V2 m d o' = flatOut m d := Function.update_self _ _ _
theorem V2_r (d : Dev nD) : V2 m d r' = V1 m d r' := Function.update_of_ne (show r' ≠ o' by decide) _ _
theorem V3_a (d : Dev nD) : V3 m d a' = m (aLoc d) :=
  ((opOut (F := F)).result_of_not_mem (V2 m d) (b := a') (show a' ∉ ({r'} : Finset (DevRef τ sig)) by decide)).trans (V2_a m d)
theorem V3_r (d : Dev nD) : V3 m d r' = result m d := by
  refine (StableHlo.reshape_result _ _ _ _ _ _ _).trans ?_
  show (fun i => shapeCast S8x128x16000 (V2 m d o' : S16384000.Idx → Elt F .f32) shapeCasts_S16384000_S8x128x16000 i) = _
  rw [V2_o]
  rfl

theorem hIn : (opIn (F := F)).bufs ⊆ S4 := show ({a', x'} : Finset (DevRef τ sig)) ⊆ S4 by decide
theorem hOut : (opOut (F := F)).bufs ⊆ S4 := show ({o', r'} : Finset (DevRef τ sig)) ⊆ S4 by decide

/-- The arrays after the first reshape; at the second; after it. -/
theorem held_V1 (d : Dev nD) : (held (SparseCore.T d) S4 ((opIn (F := F)).result (V0 m d)) : sProp 𝕄)
    = iprop(aPts d (m (aLoc d)) ∗ xPts d (flatIn m d) ∗ oPts d (m (oLoc d)) ∗ rPts d (V1 m d r')) := by
  show held (SparseCore.T d) S4 (V1 m d) = _
  rw [held_S4, V1_a, V1_x, V1_o]

theorem held_V2 (d : Dev nD) : (held (SparseCore.T d) S4 (V2 m d) : sProp 𝕄)
    = iprop(aPts d (m (aLoc d)) ∗ xPts d (flatIn m d) ∗ oPts d (flatOut m d) ∗ rPts d (V1 m d r')) := by
  rw [held_S4, V2_a, V2_x, V2_o, V2_r]

theorem held_V3 (d : Dev nD) : (held (SparseCore.T d) S4 ((opOut (F := F)).result (V2 m d)) : sProp 𝕄)
    = iprop(aPts d (m (aLoc d)) ∗ xPts d (V3 m d x') ∗ oPts d (V3 m d o') ∗ rPts d (result m d)) := by
  show held (SparseCore.T d) S4 (V3 m d) = _
  rw [held_S4, V3_a, V3_r]

/-- What the call takes for the two SparseCores, and what it hands back. -/
theorem st0_eq (d : Dev nD) : (bigSep Finset.univ fun c : Fin ((K (F := F)).nCore 0) => (P m).st 0 d c) = iprop(xPts d (flatIn m d) ∗ oPts d (m (oLoc d))) :=
  cores_eq d (flatIn m d) (m (oLoc d))
theorem dn0_eq (d : Dev nD) : (bigSep Finset.univ fun c : Fin ((K (F := F)).nCore 0) => (P m).dn 0 d c) = iprop(xPts d (flatIn m d) ∗ oPts d (flatOut m d)) :=
  cores_eq d (flatIn m d) (flatOut m d)

/-- What @main leaves the claim: the argument at its launch contents, the result at its value. -/
abbrev FIN (d : Dev nD) : sProp 𝕄 := iprop(aPts d (m (aLoc d)) ∗ rPts d (result m d))

/-- @main on device `d`'s TensorCore: a reshape, the call, a reshape. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opIn) (S := S4) hIn (V := V0 m d)) $$ [Hb Hheld]
  · isplitl [Hb]; · iexact Hb
    iexact Hheld
  iintro ⟨Hb, Hheld⟩
  ihave Hh := (Entails.of_eq (held_V1 m d)) $$ Hheld
  icases Hh with ⟨Ha, Hx, Ho, Hr⟩
  rw [wp_ret]; imodintro
  iapply ((K (F := F)).wp_run (D (F := F)) 𝒱 (EH := EH) (P := P m) κ d 0) $$ [Hst Ha Hx Ho Hb Hr Hts]
  isplitr; · iexact Hctx
  isplitl [Hst]; · iexact Hst
  isplitl [Hx Ho]
  · rw [st0_eq]
    isplitl [Hx] <;> iassumption
  iintro ⟨Hst, Hdn⟩
  ihave Hdn' := (Entails.of_eq (dn0_eq m d)) $$ Hdn
  icases Hdn' with ⟨Hx, Ho⟩
  iapply (wp_hlo_within 𝒱 (SparseCore.T d) none Set.univ (op := opOut) (S := S4) hOut (V := V2 m d)) $$ [Hb Ha Hx Ho Hr]
  · isplitl [Hb]; · iexact Hb
    rw [held_V2]
    isplitl [Ha]; · iexact Ha
    isplitl [Hx]; · iexact Hx
    isplitl [Ho]; · iexact Ho
    iexact Hr
  iintro ⟨Hb, Hheld⟩
  ihave Hh := (Entails.of_eq (held_V3 m d)) $$ Hheld
  icases Hh with ⟨Ha, -, -, Hr⟩
  rw [wp_ret]; imodintro; imodintro
  isplitl [Hst]; · iexact Hst
  isplitl [Ha Hr]
  · isplitl [Ha] <;> iassumption
  isplitl [Hb] <;> iassumption

def fq (d : Dev nD) (s' : Phys nD τ sig (Elt F)) : Prop :=
  s'.mem.mem (rLoc d) = result m d ∧ s'.mem.mem (aLoc d) = m (aLoc d)

/-- At the end, memory holds what @main left. -/
theorem hfin (d : Dev nD) (s' : Phys nD τ sig (Elt F)) : iprop(FIN m d ∗ SI s') ⊢ (⌜fq m d s'⌝ : sProp 𝕄) := by
  iintro ⟨⟨Ha, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%ha, HSI, -⟩
  ihave H := (SI_pointsTo_agree (st := s') (ℓ := rLoc d) (I := Finset.univ) (q := fullShare) (f := result m d)) $$ [HSI Hr]
  · isplitl [HSI] <;> iassumption
  icases H with %hr
  ipureintro
  exact ⟨funext fun i => hr i (Finset.mem_univ i), funext fun i => ha i (Finset.mem_univ i)⟩

/-! ## The program's run -/

/-- The result at its value, the argument as it was, every counter at zero. -/
def QC : PUnit × MemSt nD τ sig (Elt F) → Prop := fun r =>
  (∀ c : Dev nD, r.2.mem (rLoc c) = result m c ∧ r.2.mem (aLoc c) = m (aLoc c)) ∧ r.2.sem = fun _ => 0

/-- The whole program runs: the result is the operand's every third element, the argument is unchanged, and every counter
    is at zero. -/
theorem run_main [∀ e, Nonempty (Elt F e)] : θ_run (defs (F := F)) (threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.KernelIdeal
-- ==== Proof.Thirds.lean ====
/- Every third element along the last axis. -/
module

public import Idealize.ShloMosaic.Lib.ValueIdxCore

@[expose] public section

namespace Cert

open Idealize.ShloMosaic Idealize.ShloMosaic.ValueIdx

/-- The index of the long array that an index of the short one reads. -/
def thirdAlong (y : (⟨3, ![8, 128, 16000]⟩ : Shape).Idx) : (⟨3, ![8, 128, 48000]⟩ : Shape).Idx :=
  ix3 (y 0) (y 1) ⟨3 * (y 2).val, by have : (y 2).val < 16000 := (y 2).isLt; omega⟩

end Cert
-- ==== Proof.ResultKernelIdeal.lean ====
/- The kernel's result, read at an index: every third element along the last axis. -/
module

public import proofs.«01_k».proof.Proof.LaunchKernelIdeal
public import proofs.«01_k».proof.Proof.Thirds
public import Idealize.ShloMosaic.Lib.Pipeline.Value

@[expose] public section

noncomputable section

namespace Cert.KernelIdeal

open Cert.KernelIdeal.Gen

open Idealize.ShloMosaic

variable {F : FTy → Type} [FloatOps F]

/-- An index of the three-axis result among the flat ones. -/
def flatAt (y : S8x128x16000.Idx) : S16384000.Idx := fun a => ⟨((y 0).val * 128 + (y 1).val) * 16000 + (y 2).val, by
  obtain rfl : a = 0 := Subsingleton.elim _ _
  have h0 : (y 0).val < 8 := (y 0).isLt
  have h1 : (y 1).val < 128 := (y 1).isLt
  have h2 : (y 2).val < 16000 := (y 2).isLt
  show ((y 0).val * 128 + (y 1).val) * 16000 + (y 2).val < 16384000
  omega⟩

/-- At `[b, c, t]` the result is the argument's element at `[b, c, 3 t]`. -/
theorem result_eq (m : (ℓ : Loc nD τ sig) → Buf (Elt F) ℓ) (d : Dev nD) :
    result m d = fun y => (m (aLoc d) : S8x128x48000.Idx → Elt F .f32) (thirdAlong y) := by
  funext y
  unfold result
  rw [shapeCast_apply _ _ y (flatAt y) (by
    rw [Shape.rowMajor_val_one, Shape.rowMajor_val_three]
    show ((y 0).val * 128 + (y 1).val) * 16000 + (y 2).val = _
    rfl)]
  unfold flatOut everyThird flatIn
  rw [shapeCast_apply _ _ _ (thirdAlong y) (by
    rw [Shape.rowMajor_val_one, Shape.rowMajor_val_three]
    show ((y 0).val * 128 + (y 1).val) * 48000 + 3 * (y 2).val = 3 * (((y 0).val * 128 + (y 1).val) * 16000 + (y 2).val)
    omega)]

end Cert.KernelIdeal
-- ==== Proof.ReferenceValue.lean ====
/- The reference's result: its word of positions is `0, 3, 6, …`, all in range, so what it takes is every third element. -/
module

public import proofs.«01_k».proof.Proof.Gen.ReferenceIdeal.Run
public import proofs.«01_k».proof.Proof.Thirds
public import Idealize.ShloMosaic.Lib.ReduceAll
public import Idealize.ShloMosaic.Lib.ValueIdx
public import Idealize.ShloMosaic.PureOps.Ideal

@[expose] public section

noncomputable section

namespace Cert.ReferenceIdeal

open Cert.ReferenceIdeal.Gen

open Idealize.ShloMosaic Idealize.ShloMosaic.ValueIdx

/-- The positions the reference takes: element `n` is `3 · n`. -/
def positions : IVec S16000 32 := fun i => BitVec.ofNat 32 (3 * (i 0).val)

theorem toInt_small {k : ℕ} (h : k < 2147483648) : (BitVec.ofNat 32 k).toInt = k := by
  rw [BitVec.toInt_eq_toNat_of_lt (by rw [BitVec.toNat_ofNat]; omega), BitVec.toNat_ofNat]
  omega

theorem position_toInt (i : S16000.Idx) : (positions i).toInt = 3 * (i 0).val := by
  have hi : (i 0).val < 16000 := (i 0).isLt
  unfold positions
  rw [toInt_small (by omega)]
  push_cast
  rfl

theorem position_lt (i : S16000.Idx) : (positions i).toInt < 48000 := by
  have hi : (i 0).val < 16000 := (i 0).isLt
  rw [position_toInt]; omega

theorem position_nonneg (i : S16000.Idx) : 0 ≤ (positions i).toInt := by
  rw [position_toInt]; omega

/-! ## The reference's steps -/

abbrev takeDims : GatherDims S8x128x48000 S16000x1 S8x128x16000 := gather_S8x128x48000_S16000x1_S8x128x16000_01_2_n_n_2_1_81281

/-- The words it computes, -/
def counted : IVec S16000 32 :=
  fptosi 32 (Host.floor (addf (broadcastInDim S16000 ![] bcast_S_S16000 (constant S_ .f32 0x00000000#32))
    (mulf (broadcastInDim S16000 ![] bcast_S_S16000 (constant S_ .f32 0x40400000#32)) (sitofp .f32 (iotaInDim S16000 32 0)))
      : FVec Ideal S16000 .f32))
/-- clipped into the range, -/
def clipped (W : IVec S16000 32) : IVec S16000 32 :=
  minsi (broadcastInDim S16000 ![] bcast_S_S16000 (id (constantI S_ 32 47999#32))) (maxsi (broadcastInDim S16000 ![] bcast_S_S16000 (id (constantI S_ 32 0#32))) W)
/-- the negative ones counted from the end; -/
def wrapped (W : IVec S16000 32) : IVec S16000 32 :=
  select (cmpi .slt W (broadcastInDim S16000 ![] bcast_S_S16000 (constantI S_ 32 0#32))) (addi W (broadcastInDim S16000 ![] bcast_S_S16000 (constantI S_ 32 48000#32))) W
/-- whether each lies in the array; -/
def inRange (W : IVec S16000 32) : IVec S16000 1 :=
  Host.reduce IntOp.andi (andi (cmpi .sge (broadcastInDim S16000x1 ![0] bcast_S16000_S16000x1_0 W) (broadcastInDim S16000x1 ![] bcast_S_S16000x1 (constantI S_ 32 0#32)))
    (cmpi .sle (broadcastInDim S16000x1 ![0] bcast_S16000_S16000x1_0 W)
      (broadcastInDim S16000x1 ![0, 1] bcast_S1x1_S16000x1_0_1 (broadcastInDim S1x1 ![1] bcast_S1_S1x1_1 (constantI S1 32 47999#32)))))
    (constantI S_ 1 1#1) reducesTo_S16000x1_S16000_d1 h_S_
/-- and what is taken at them. -/
def taken (x : S8x128x48000.Idx → Elt Ideal .f32) (W : IVec S16000 32) : S8x128x16000.Idx → Elt Ideal .f32 :=
  select (broadcastInDim S8x128x16000 ![2] bcast_S16000_S8x128x16000_2 (inRange W)) (Host.gather takeDims x (broadcastInDim S16000x1 ![0] bcast_S16000_S16000x1_0 W))
    (broadcastInDim S8x128x16000 ![] bcast_S_S8x128x16000 (constant (F := Ideal) S_ .f32 0x7FC00000#32))

/-- Flooring and converting a small natural number gives its word. -/
theorem fptosi_floor (k : ℕ) (h : k < 2147483648) : Ideal.fptosi 32 (Ideal.liftRound Int.floor (((k : ℤ) : ℝ) : EReal)) = BitVec.ofNat 32 k := by
  show BitVec.ofInt 32 (max _ (min _ (if (0 : ℝ) ≤ ((⌊((k : ℤ) : ℝ)⌋ : ℤ) : ℝ) then ⌊((⌊((k : ℤ) : ℝ)⌋ : ℤ) : ℝ)⌋ else _))) = _
  rw [Int.floor_intCast, if_pos (by exact_mod_cast Nat.zero_le k), Int.floor_intCast, min_eq_right (by push_cast; omega), max_eq_right (by push_cast; omega)]
  exact BitVec.ofInt_natCast 32 k

/-- Three times the counting word, floored and converted, is the positions. -/
theorem counted_eq : counted = positions := by
  funext i
  have hi : (i 0).val < 16000 := (i 0).isLt
  have h0 : Ideal.ofBits .f32 0x00000000#32 = 0 := by simp [Ideal.ofBits, Ideal.ieee]
  have h3 : Ideal.ofBits .f32 0x40400000#32 = ((3 : ℝ) : EReal) := by simp [Ideal.ofBits, Ideal.ieee, -EReal.coe_mul]; norm_num
  show Ideal.fptosi 32 (Ideal.liftRound Int.floor (Ideal.ofBits .f32 0x00000000#32
    + Ideal.ofBits .f32 0x40400000#32 * (((BitVec.ofNat 32 (i 0).val).toInt : ℝ) : EReal))) = _
  rw [h0, h3, toInt_small (by omega), zero_add, ← EReal.coe_mul,
    show (3 : ℝ) * (((i 0).val : ℤ) : ℝ) = (((3 * (i 0).val : ℕ) : ℤ) : ℝ) by push_cast; ring]
  exact fptosi_floor _ (by omega)

/-- Clipping into `[0, 47999]` leaves the positions alone, -/
theorem clipped_eq : clipped positions = positions := by
  funext i
  have h1 := position_lt i
  have h2 := position_nonneg i
  show IntOp.minsi 47999#32 (IntOp.maxsi 0#32 (positions i)) = positions i
  have e0 : (0#32 : BitVec 32).toInt = 0 := rfl
  have e1 : (47999#32 : BitVec 32).toInt = 47999 := rfl
  have hm : IntOp.maxsi 0#32 (positions i) = positions i := by
    unfold IntOp.maxsi
    split
    · next h => rw [BitVec.slt_iff_toInt_lt, e0] at h; omega
    · rfl
  rw [hm]
  unfold IntOp.minsi
  split
  · next h => rw [BitVec.slt_iff_toInt_lt, e1] at h; apply BitVec.eq_of_toInt_eq; rw [e1]; omega
  · rfl

/-- and so does turning negative positions about. -/
theorem wrapped_eq : wrapped positions = positions := by
  funext i
  have h2 := position_nonneg i
  have hc : (positions i).slt 0#32 = false := by
    rw [Bool.eq_false_iff, ne_eq, BitVec.slt_iff_toInt_lt]
    exact not_lt.mpr h2
  show Scalar.select (BitVec.ofBool ((positions i).slt 0#32)) _ _ = _
  rw [hc]
  rfl

/-- Every position is in range. -/
theorem inRange_eq (j : S16000.Idx) : inRange positions j = 1#1 := by
  refine Host.reduce_andi_one _ _ _ _ j rfl fun i => ?_
  obtain ⟨k, hk⟩ : ∃ k, broadcastInDim S16000x1 ![0] bcast_S16000_S16000x1_0 positions i = positions k := ⟨_, rfl⟩
  show IntOp.andi (BitVec.ofBool ((0#32 : BitVec 32).sle (broadcastInDim S16000x1 ![0] bcast_S16000_S16000x1_0 positions i)))
    (BitVec.ofBool ((broadcastInDim S16000x1 ![0] bcast_S16000_S16000x1_0 positions i).sle 47999#32)) = 1#1
  rw [hk]
  have h1 : (0#32 : BitVec 32).sle (positions k) = true := by
    rw [BitVec.sle_iff_toInt_le]; exact position_nonneg k
  have h2 : (positions k).sle 47999#32 = true := by
    rw [BitVec.sle_iff_toInt_le]
    exact Int.le_of_lt_add_one (position_lt k)
  rw [h1, h2]
  rfl

/-- The element the gather reads. -/
theorem take_apply {α : Type} (x : S8x128x48000.Idx → α) (y : S8x128x16000.Idx) :
    Host.gather takeDims x (broadcastInDim S16000x1 ![0] bcast_S16000_S16000x1_0 positions) y = x (thirdAlong y) := by
  have hy : (y 2).val < 16000 := (y 2).isLt
  unfold Host.gather
  congr 1
  funext a
  refine Fin.ext ?_
  show takeDims.start y _ a + takeDims.batchCoord y a + takeDims.offCoord y a = _
  rw [GatherDims.batchCoord_eq_zero _ _ _ List.not_mem_nil]
  match a with
  | ⟨0, _⟩ => exact (show 0 + 0 + (y 0).val = (y 0).val by omega)
  | ⟨1, _⟩ => exact (show 0 + 0 + (y 1).val = (y 1).val by omega)
  | ⟨2, h⟩ =>
    rw [GatherDims.offCoord_eq_zero _ _ _ (fun h => ((GatherDims.mem_sKept _ _).mp h).1 (List.mem_singleton.mpr rfl))]
    unfold GatherDims.start
    rw [dif_pos (show (⟨2, h⟩ : Fin 3) ∈ takeDims.startIndexMap from List.mem_singleton.mpr rfl)]
    show min (broadcastInDim S16000x1 ![0] bcast_S16000_S16000x1_0 positions (takeDims.siIdx y _)).toInt.toNat 47999 + 0 + 0 = 3 * (y 2).val
    rw [show broadcastInDim S16000x1 ![0] bcast_S16000_S16000x1_0 positions (takeDims.siIdx y ⟨List.idxOf (⟨2, h⟩ : Fin 3) takeDims.startIndexMap,
      List.idxOf_lt_length_iff.2 (List.mem_singleton.mpr rfl)⟩) = positions (ix1 (y 2)) from rfl, position_toInt]
    show min (3 * ((y 2).val : ℤ)).toNat 47999 + 0 + 0 = _
    omega

/-- What is taken at the positions is every third element. -/
theorem taken_eq (x : S8x128x48000.Idx → Elt Ideal .f32) : taken x positions = fun y => x (thirdAlong y) := by
  unfold taken
  rw [show inRange positions = fun _ => 1#1 from funext inRange_eq]
  funext y
  exact take_apply x y

theorem taken_all (x : S8x128x48000.Idx → Elt Ideal .f32) : taken x (wrapped (clipped counted)) = fun y => x (thirdAlong y) := by
  rw [counted_eq, clipped_eq, wrapped_eq, taken_eq]

set_option maxRecDepth 8192 in
theorem res_taken (m : (ℓ : Loc nD τ sig) → Buf (Elt Ideal) ℓ) (c : Dev nD) :
    Value.res_main_v8 m c = taken (m ((c.tc : Thread nD τ).loc main_arg0)) (wrapped (clipped counted)) := by
  unfold Value.res_main_v8 taken inRange wrapped clipped counted
  rfl

/-- The reference's result is every third element of its argument along the last axis. -/
theorem res_eq (m : (ℓ : Loc nD τ sig) → Buf (Elt Ideal) ℓ) (c : Dev nD) :
    Value.res_main_v8 m c = fun y : S8x128x16000.Idx => (m ((c.tc : Thread nD τ).loc main_arg0) : S8x128x48000.Idx → Elt Ideal .f32) (thirdAlong y) :=
  (res_taken m c).trans (taken_all _)

end Cert.ReferenceIdeal
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.LaunchKernel
public import proofs.«01_k».proof.Proof.ResultKernelIdeal
public import proofs.«01_k».proof.Proof.ReferenceValue
public import Idealize.ShloMosaic.Adequacy
public import Idealize.ShloMosaic.Init

@[expose] public section

noncomputable section

namespace Cert.Proof

open Idealize.ShloMosaic Idealize.SL.Sem

/-- The kernel as printed ends with its argument unchanged and every counter at zero. -/
theorem frame_kernel : Cert.quiescent_Kernel (hKernel := Cert.Kernel.Gen.facts) := fun m ρ _ =>
  (θ_run Cert.Kernel.defs _ _).mono (fun _ h => ⟨fun c => (h.1 c).2, h.2⟩) (Cert.Kernel.run_main (F := Bits) m ρ)

/-- So does the kernel over the extended reals. -/
theorem frame_kernelIdeal : Cert.quiescent_KernelIdeal (hKernelIdeal := Cert.KernelIdeal.Gen.facts) := fun m ρ _ =>
  (θ_run Cert.KernelIdeal.defs _ _).mono (fun _ h => ⟨fun c => (h.1 c).2, h.2⟩)
    (Cert.KernelIdeal.run_main (F := Ideal) m ρ)

/-- The reference keeps its argument, and it has no semaphores. -/
theorem frame_referenceIdeal : Cert.quiescent_ReferenceIdeal (hReferenceIdeal := Cert.ReferenceIdeal.Gen.facts) :=
  fun m ρ _ =>
    (θ_run Cert.ReferenceIdeal.defs _ _).mono
      (fun r h => ⟨fun c => (h c).2, sem_eq_zero_of_no_sems (by decide) r.2⟩)
      (Cert.ReferenceIdeal.Value.run (F := Ideal) m ρ)

/-- Kernel and reference end with the same array: at `[b, c, t]` both hold the argument's element at `[b, c, 3 t]`. -/
theorem algebraic_kernel_reference :
    Cert.algebraic_KernelIdeal_ReferenceIdeal (hKernelIdeal := Cert.KernelIdeal.Gen.facts)
      (hReferenceIdeal := Cert.ReferenceIdeal.Gen.facts) := by
  intro m ρ m' ρ' _ agree
  refine ⟨fun c => Cert.KernelIdeal.result m c, ?_, ?_⟩
  · exact (θ_run Cert.KernelIdeal.defs _ _).mono (fun _ h => h.1) (Cert.KernelIdeal.run_main (F := Ideal) m ρ)
  · refine (θ_run Cert.ReferenceIdeal.defs _ _).mono (fun _ h c => ⟨(h c).1.trans ?_, (h c).2⟩)
      (Cert.ReferenceIdeal.Value.run (F := Ideal) m' ρ')
    refine (Cert.ReferenceIdeal.res_eq m' c).trans (Eq.trans ?_ (Cert.KernelIdeal.result_eq m c).symm)
    funext y
    exact congrFun (agree c) (thirdAlong y)

/-- All the claims together. -/
theorem claim : Cert.Claim :=
  ⟨Cert.Kernel.Gen.facts, Cert.KernelIdeal.Gen.facts, Cert.ReferenceIdeal.Gen.facts,
    frame_kernel, frame_kernelIdeal, frame_referenceIdeal, trivial, algebraic_kernel_reference⟩

end Cert.Proof

end
